-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x100000 : Shape := ⟨2, ![128, 100000]⟩
abbrev S2x8x100000 : Shape := ⟨3, ![2, 8, 100000]⟩
abbrev S2 : Shape := ⟨1, ![2]⟩
abbrev S1 : Shape := ⟨1, ![1]⟩
abbrev S_ : Shape := ⟨0, ![]⟩
abbrev S1x8x100000 : Shape := ⟨3, ![1, 8, 100000]⟩
abbrev S8x100000 : Shape := ⟨2, ![8, 100000]⟩

abbrev nBuf : Space → Nat
  | .hbm => 2
  | .vmem => 2
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .local _ .vmem, ⟨0, _⟩ => ⟨S2x8x100000, .f32⟩
  | .local _ .vmem, ⟨1, _⟩ => ⟨S2x8x100000, .f32⟩
  | _, _ => ⟨S128x100000, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_scratch0 : Ref sig .tc := ⟨.vmem, 0, rfl⟩
abbrev cc0_scratch1 : Ref sig .tc := ⟨.vmem, 1, rfl⟩

abbrev nD : Nat := 1
abbrev τ : Topo := Topo.v7x

variable {F : FTy → Type} [FloatOps F]

abbrev grid0 : Pipeline.Grid := .none

@[reducible] def k0_t1_loop : Scf.Loop 32 :=
  let c0_i32_5 : BitVec 32 := 0#32
  let c16_i32 : BitVec 32 := 16#32
  let v5 : BitVec 32 := Scalar.addi c0_i32_5 c16_i32
  let c1_i32 : BitVec 32 := 1#32
  ⟨c0_i32_5, v5, c1_i32⟩
def k0_cond1 (k0_t1 : Fin k0_t1_loop.trips) : BitVec 1 :=
  let c0_i32_5 : BitVec 32 := 0#32
  let c1_i32 : BitVec 32 := 1#32
  let arg6 : BitVec 32 := Scf.iv c0_i32_5 c1_i32 k0_t1
  let c1_i32_18 : BitVec 32 := 1#32
  let v18 : BitVec 32 := Scalar.addi arg6 c1_i32_18
  let c16_i32_19 : BitVec 32 := 16#32
  let v19 : BitVec 1 := Scalar.cmpi .slt v18 c16_i32_19
  let v20 : BitVec 32 := Scalar.extui v19
  let c0_i32_20 : BitVec 32 := 0#32
  let v21 : BitVec 1 := Scalar.cmpi .ne v20 c0_i32_20
  v21

def k0_off1 (k0_t1 : Fin k0_t1_loop.trips) : Fin 1 → Nat :=
  let c1_i32_17 : BitVec 32 := 1#32
  let c0_i32_5 : BitVec 32 := 0#32
  let c1_i32 : BitVec 32 := 1#32
  let arg6 : BitVec 32 := Scf.iv c0_i32_5 c1_i32 k0_t1
  let c2_i32 : BitVec 32 := 2#32
  let v16 : BitVec 32 := Scalar.remsi arg6 c2_i32
  let v17 : BitVec 32 := Scalar.subi c1_i32_17 v16
  ![v17.toNat]
def k0_off2 (k0_t1 : Fin k0_t1_loop.trips) : Fin 3 → Nat :=
  let c1_i32_17 : BitVec 32 := 1#32
  let c0_i32_5 : BitVec 32 := 0#32
  let c1_i32 : BitVec 32 := 1#32
  let arg6 : BitVec 32 := Scf.iv c0_i32_5 c1_i32 k0_t1
  let c2_i32 : BitVec 32 := 2#32
  let v16 : BitVec 32 := Scalar.remsi arg6 c2_i32
  let v17 : BitVec 32 := Scalar.subi c1_i32_17 v16
  let c0_i32_72 : BitVec 32 := 0#32
  let c0_i32_73 : BitVec 32 := 0#32
  ![v17.toNat, 0, 0]
def k0_off3 (k0_t1 : Fin k0_t1_loop.trips) : Fin 2 → Nat :=
  let c0_i32_5 : BitVec 32 := 0#32
  let c1_i32 : BitVec 32 := 1#32
  let arg6 : BitVec 32 := Scf.iv c0_i32_5 c1_i32 k0_t1
  let c1_i32_70 : BitVec 32 := 1#32
  let v226 : BitVec 32 := Scalar.addi arg6 c1_i32_70
  let c8_i32_71 : BitVec 32 := 8#32
  let v227 : BitVec 32 := Scalar.muli v226 c8_i32_71
  let c0_i32_74 : BitVec 32 := 0#32
  ![v227.toNat, 0]
def k0_off4 (k0_t1 : Fin k0_t1_loop.trips) : Fin 1 → Nat :=
  let c0_i32_5 : BitVec 32 := 0#32
  let c1_i32 : BitVec 32 := 1#32
  let arg6 : BitVec 32 := Scf.iv c0_i32_5 c1_i32 k0_t1
  let c2_i32 : BitVec 32 := 2#32
  let v16 : BitVec 32 := Scalar.remsi arg6 c2_i32
  ![v16.toNat]
def k0_off5 (k0_t1 : Fin k0_t1_loop.trips) : Fin 3 → Nat :=
  let c0_i32_5 : BitVec 32 := 0#32
  let c1_i32 : BitVec 32 := 1#32
  let arg6 : BitVec 32 := Scf.iv c0_i32_5 c1_i32 k0_t1
  let c2_i32 : BitVec 32 := 2#32
  let v16 : BitVec 32 := Scalar.remsi arg6 c2_i32
  let c0_i32_21 : BitVec 32 := 0#32
  let c0_i32_22 : BitVec 32 := 0#32
  ![v16.toNat, 0, 0]
def k0_off6 (k0_t1 : Fin k0_t1_loop.trips) : Fin 2 → Nat :=
  let c0_i32_5 : BitVec 32 := 0#32
  let c1_i32 : BitVec 32 := 1#32
  let arg6 : BitVec 32 := Scf.iv c0_i32_5 c1_i32 k0_t1
  let c8_i32 : BitVec 32 := 8#32
  let v22 : BitVec 32 := Scalar.muli arg6 c8_i32
  let c0_i32_23 : BitVec 32 := 0#32
  ![v22.toNat, 0]
def k0_cond2 (k0_t1 : Fin k0_t1_loop.trips) : BitVec 1 :=
  let c0_i32_5 : BitVec 32 := 0#32
  let c1_i32 : BitVec 32 := 1#32
  let arg6 : BitVec 32 := Scf.iv c0_i32_5 c1_i32 k0_t1
  let c2_i32_24 : BitVec 32 := 2#32
  let v28 : BitVec 1 := Scalar.cmpi .sge arg6 c2_i32_24
  let v29 : BitVec 32 := Scalar.extui v28
  let c0_i32_25 : BitVec 32 := 0#32
  let v30 : BitVec 1 := Scalar.cmpi .ne v29 c0_i32_25
  v30

def k0_off7 (k0_t1 : Fin k0_t1_loop.trips) : Fin 1 → Nat :=
  let c0_i32_5 : BitVec 32 := 0#32
  let c1_i32 : BitVec 32 := 1#32
  let arg6 : BitVec 32 := Scf.iv c0_i32_5 c1_i32 k0_t1
  let c2_i32 : BitVec 32 := 2#32
  let v16 : BitVec 32 := Scalar.remsi arg6 c2_i32
  ![v16.toNat]
def k0_off8 (k0_t1 : Fin k0_t1_loop.trips) : Fin 2 → Nat :=
  let c0_i32_5 : BitVec 32 := 0#32
  let c1_i32 : BitVec 32 := 1#32
  let arg6 : BitVec 32 := Scf.iv c0_i32_5 c1_i32 k0_t1
  let c2_i32_70 : BitVec 32 := 2#32
  let v226 : BitVec 32 := Scalar.subi arg6 c2_i32_70
  let c8_i32_71 : BitVec 32 := 8#32
  let v227 : BitVec 32 := Scalar.muli v226 c8_i32_71
  let c0_i32_72 : BitVec 32 := 0#32
  ![v227.toNat, 0]
def k0_off9 (k0_t1 : Fin k0_t1_loop.trips) : Fin 3 → Nat :=
  let c0_i32_5 : BitVec 32 := 0#32
  let c1_i32 : BitVec 32 := 1#32
  let arg6 : BitVec 32 := Scf.iv c0_i32_5 c1_i32 k0_t1
  let c2_i32 : BitVec 32 := 2#32
  let v16 : BitVec 32 := Scalar.remsi arg6 c2_i32
  let c0_i32_73 : BitVec 32 := 0#32
  let c0_i32_74 : BitVec 32 := 0#32
  ![v16.toNat, 0, 0]
def k0_off10 (k0_t1 : Fin k0_t1_loop.trips) : Fin 3 → Nat :=
  let c0_i32_5 : BitVec 32 := 0#32
  let c1_i32 : BitVec 32 := 1#32
  let arg6 : BitVec 32 := Scf.iv c0_i32_5 c1_i32 k0_t1
  let c2_i32 : BitVec 32 := 2#32
  let v16 : BitVec 32 := Scalar.remsi arg6 c2_i32
  let v31 : Index := Scalar.indexCast v16
  let c0 : Index := 0#32
  let c0_26 : Index := 0#32
  ![v31.toNat, 0, 0]
-- ==== ReferenceIdeal.lean ====
abbrev S128x100000 : Shape := ⟨2, ![128, 100000]⟩
abbrev S_ : Shape := ⟨0, ![]⟩
abbrev S1 : Shape := ⟨1, ![1]⟩
abbrev S2 : Shape := ⟨1, ![2]⟩
abbrev S1x1 : Shape := ⟨2, ![1, 1]⟩

abbrev nBuf : Space → Nat
  | .hbm => 298
  | .vmem => 0
  | .smem => 0
  | _ => 0

abbrev hbmTy0_0 (i : Nat) : BufTy := match i % 128 with
  | 0 => ⟨S128x100000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1, .f32⟩
  | 16 => ⟨S1x1, .f32⟩
  | 17 => ⟨S1, .i32⟩
  | 18 => ⟨S_, .i32⟩
  | 19 => ⟨S1, .i32⟩
  | 20 => ⟨S_, .i32⟩
  | 21 => ⟨S128x100000, .i64⟩
  | 22 => ⟨S128x100000, .i64⟩
  | 23 => ⟨S_, .i64⟩
  | 24 => ⟨S128x100000, .i64⟩
  | 25 => ⟨S128x100000, .i64⟩
  | 26 => ⟨S_, .i64⟩
  | 27 => ⟨S128x100000, .i64⟩
  | 28 => ⟨S128x100000, .i64⟩
  | 29 => ⟨S128x100000, .i64⟩
  | 30 => ⟨S_, .i64⟩
  | 31 => ⟨S128x100000, .i64⟩
  | 32 => ⟨S128x100000, .i64⟩
  | 33 => ⟨S128x100000, .i32⟩
  | 34 => ⟨S128x100000, .i32⟩
  | 35 => ⟨S_, .i32⟩
  | 36 => ⟨S_, .i32⟩
  | 37 => ⟨S_, .i32⟩
  | 38 => ⟨S128x100000, .i32⟩
  | 39 => ⟨S128x100000, .i32⟩
  | 40 => ⟨S128x100000, .i32⟩
  | 41 => ⟨S128x100000, .i32⟩
  | 42 => ⟨S128x100000, .i32⟩
  | 43 => ⟨S_, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S128x100000, .i32⟩
  | 50 => ⟨S128x100000, .i32⟩
  | 51 => ⟨S128x100000, .i32⟩
  | 52 => ⟨S_, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S128x100000, .i32⟩
  | 59 => ⟨S128x100000, .i32⟩
  | 60 => ⟨S128x100000, .i32⟩
  | 61 => ⟨S_, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S128x100000, .i32⟩
  | 68 => ⟨S128x100000, .i32⟩
  | 69 => ⟨S128x100000, .i32⟩
  | 70 => ⟨S_, .i32⟩
  | 71 => ⟨S128x100000, .i32⟩
  | 72 => ⟨S128x100000, .i32⟩
  | 73 => ⟨S_, .i32⟩
  | 74 => ⟨S128x100000, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S_, .i32⟩
  | 83 => ⟨S128x100000, .i32⟩
  | 84 => ⟨S128x100000, .i32⟩
  | 85 => ⟨S128x100000, .i32⟩
  | 86 => ⟨S_, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S128x100000, .i32⟩
  | 93 => ⟨S128x100000, .i32⟩
  | 94 => ⟨S128x100000, .i32⟩
  | 95 => ⟨S_, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S_, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S128x100000, .i32⟩
  | 111 => ⟨S128x100000, .i32⟩
  | 112 => ⟨S128x100000, .i32⟩
  | 113 => ⟨S_, .i32⟩
  | 114 => ⟨S128x100000, .i32⟩
  | 115 => ⟨S128x100000, .i32⟩
  | 116 => ⟨S_, .i32⟩
  | 117 => ⟨S128x100000, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S_, .i32⟩
  | 126 => ⟨S128x100000, .i32⟩
  | 127 => ⟨S128x100000, .i32⟩
  | _ => ⟨S128x100000, .f32⟩

abbrev hbmTy0_1 (i : Nat) : BufTy := match i % 128 with
  | 0 => ⟨S128x100000, .i32⟩
  | 1 => ⟨S_, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S128x100000, .i32⟩
  | 8 => ⟨S128x100000, .i32⟩
  | 9 => ⟨S128x100000, .i32⟩
  | 10 => ⟨S_, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S128x100000, .i32⟩
  | 17 => ⟨S128x100000, .i32⟩
  | 18 => ⟨S128x100000, .i32⟩
  | 19 => ⟨S_, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S128x100000, .i32⟩
  | 26 => ⟨S128x100000, .i32⟩
  | 27 => ⟨S128x100000, .i32⟩
  | 28 => ⟨S_, .i32⟩
  | 29 => ⟨S128x100000, .i32⟩
  | 30 => ⟨S128x100000, .i32⟩
  | 31 => ⟨S_, .i32⟩
  | 32 => ⟨S128x100000, .i32⟩
  | 33 => ⟨S128x100000, .i32⟩
  | 34 => ⟨S128x100000, .i32⟩
  | 35 => ⟨S128x100000, .i32⟩
  | 36 => ⟨S128x100000, .i32⟩
  | 37 => ⟨S128x100000, .i32⟩
  | 38 => ⟨S128x100000, .i32⟩
  | 39 => ⟨S128x100000, .i32⟩
  | 40 => ⟨S_, .i32⟩
  | 41 => ⟨S128x100000, .i32⟩
  | 42 => ⟨S128x100000, .i32⟩
  | 43 => ⟨S128x100000, .i32⟩
  | 44 => ⟨S_, .i32⟩
  | 45 => ⟨S128x100000, .i32⟩
  | 46 => ⟨S128x100000, .i32⟩
  | 47 => ⟨S_, .i32⟩
  | 48 => ⟨S128x100000, .i32⟩
  | 49 => ⟨S128x100000, .i32⟩
  | 50 => ⟨S128x100000, .i32⟩
  | 51 => ⟨S128x100000, .i32⟩
  | 52 => ⟨S128x100000, .i32⟩
  | 53 => ⟨S_, .i32⟩
  | 54 => ⟨S128x100000, .i32⟩
  | 55 => ⟨S128x100000, .i32⟩
  | 56 => ⟨S_, .i32⟩
  | 57 => ⟨S128x100000, .i32⟩
  | 58 => ⟨S128x100000, .i32⟩
  | 59 => ⟨S128x100000, .i32⟩
  | 60 => ⟨S128x100000, .i32⟩
  | 61 => ⟨S128x100000, .i32⟩
  | 62 => ⟨S_, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S128x100000, .i32⟩
  | 69 => ⟨S128x100000, .i32⟩
  | 70 => ⟨S128x100000, .i32⟩
  | 71 => ⟨S_, .i32⟩
  | 72 => ⟨S128x100000, .i32⟩
  | 73 => ⟨S128x100000, .i32⟩
  | 74 => ⟨S_, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S128x100000, .i32⟩
  | 83 => ⟨S_, .i32⟩
  | 84 => ⟨S128x100000, .i32⟩
  | 85 => ⟨S128x100000, .i32⟩
  | 86 => ⟨S128x100000, .i32⟩
  | 87 => ⟨S_, .i32⟩
  | 88 => ⟨S128x100000, .i32⟩
  | 89 => ⟨S128x100000, .i32⟩
  | 90 => ⟨S_, .i32⟩
  | 91 => ⟨S128x100000, .i32⟩
  | 92 => ⟨S128x100000, .i32⟩
  | 93 => ⟨S128x100000, .i32⟩
  | 94 => ⟨S128x100000, .i32⟩
  | 95 => ⟨S128x100000, .i32⟩
  | 96 => ⟨S_, .i32⟩
  | 97 => ⟨S128x100000, .i32⟩
  | 98 => ⟨S128x100000, .i32⟩
  | 99 => ⟨S_, .i32⟩
  | 100 => ⟨S128x100000, .i32⟩
  | 101 => ⟨S128x100000, .i32⟩
  | 102 => ⟨S128x100000, .i32⟩
  | 103 => ⟨S128x100000, .i32⟩
  | 104 => ⟨S128x100000, .i32⟩
  | 105 => ⟨S_, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S128x100000, .i32⟩
  | 112 => ⟨S128x100000, .i32⟩
  | 113 => ⟨S128x100000, .i32⟩
  | 114 => ⟨S_, .i32⟩
  | 115 => ⟨S128x100000, .i32⟩
  | 116 => ⟨S128x100000, .i32⟩
  | 117 => ⟨S_, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S128x100000, .i32⟩
  | 126 => ⟨S_, .i32⟩
  | 127 => ⟨S128x100000, .i32⟩
  | _ => ⟨S128x100000, .f32⟩

abbrev hbmTy0_2 (i : Nat) : BufTy := match i % 128 with
  | 0 => ⟨S128x100000, .i32⟩
  | 1 => ⟨S128x100000, .i32⟩
  | 2 => ⟨S_, .i32⟩
  | 3 => ⟨S128x100000, .i32⟩
  | 4 => ⟨S128x100000, .i32⟩
  | 5 => ⟨S_, .i32⟩
  | 6 => ⟨S128x100000, .i32⟩
  | 7 => ⟨S128x100000, .i32⟩
  | 8 => ⟨S128x100000, .f32⟩
  | 9 => ⟨S_, .f32⟩
  | 10 => ⟨S128x100000, .f32⟩
  | 11 => ⟨S128x100000, .f32⟩
  | 12 => ⟨S1x1, .f32⟩
  | 13 => ⟨S128x100000, .f32⟩
  | 14 => ⟨S128x100000, .f32⟩
  | 15 => ⟨S128x100000, .f32⟩
  | 16 => ⟨S128x100000, .f32⟩
  | 17 => ⟨S128x100000, .f32⟩
  | 18 => ⟨S128x100000, .f32⟩
  | 19 => ⟨S128x100000, .f32⟩
  | 20 => ⟨S128x100000, .f32⟩
  | 21 => ⟨S128x100000, .f32⟩
  | 22 => ⟨S128x100000, .f32⟩
  | 23 => ⟨S128x100000, .f32⟩
  | 24 => ⟨S128x100000, .f32⟩
  | 25 => ⟨S_, .f32⟩
  | 26 => ⟨S128x100000, .f32⟩
  | 27 => ⟨S128x100000, .f32⟩
  | 28 => ⟨S128x100000, .f32⟩
  | 29 => ⟨S128x100000, .f32⟩
  | 30 => ⟨S_, .f32⟩
  | 31 => ⟨S128x100000, .f32⟩
  | 32 => ⟨S128x100000, .f32⟩
  | 33 => ⟨S_, .f32⟩
  | 34 => ⟨S128x100000, .f32⟩
  | 35 => ⟨S128x100000, .f32⟩
  | 36 => ⟨S_, .f32⟩
  | 37 => ⟨S128x100000, .f32⟩
  | 38 => ⟨S128x100000, .i1⟩
  | 39 => ⟨S128x100000, .f32⟩
  | 40 => ⟨S128x100000, .f32⟩
  | 41 => ⟨S128x100000, .f32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_cst_0 : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_v9 : Ref sig .tc := ⟨.hbm, 22, rfl⟩
abbrev main_call0_call0_c : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_call0_c_0 : Ref sig .tc := ⟨.hbm, 26, rfl⟩
abbrev main_call0_call0_v12 : Ref sig .tc := ⟨.hbm, 27, rfl⟩
abbrev main_call0_call0_v13 : Ref sig .tc := ⟨.hbm, 28, rfl⟩
abbrev main_call0_call0_v14 : Ref sig .tc := ⟨.hbm, 29, rfl⟩
abbrev main_call0_call0_c_1 : Ref sig .tc := ⟨.hbm, 30, rfl⟩
abbrev main_call0_call0_v15 : Ref sig .tc := ⟨.hbm, 31, rfl⟩
abbrev main_call0_call0_v16 : Ref sig .tc := ⟨.hbm, 32, rfl⟩
abbrev main_call0_call0_v17 : Ref sig .tc := ⟨.hbm, 33, rfl⟩
abbrev main_call0_call0_v18 : Ref sig .tc := ⟨.hbm, 34, rfl⟩
abbrev main_call0_call0_call0_v0 : Ref sig .tc := ⟨.hbm, 35, rfl⟩
abbrev main_call0_call0_call0_c : Ref sig .tc := ⟨.hbm, 36, rfl⟩
abbrev main_call0_call0_call0_v1 : Ref sig .tc := ⟨.hbm, 37, rfl⟩
abbrev main_call0_call0_call0_v2 : Ref sig .tc := ⟨.hbm, 38, rfl⟩
abbrev main_call0_call0_call0_v3 : Ref sig .tc := ⟨.hbm, 39, rfl⟩
abbrev main_call0_call0_call0_v4 : Ref sig .tc := ⟨.hbm, 40, rfl⟩
abbrev main_call0_call0_call0_v5 : Ref sig .tc := ⟨.hbm, 41, rfl⟩
abbrev main_call0_call0_call0_v6 : Ref sig .tc := ⟨.hbm, 42, rfl⟩
abbrev main_call0_call0_call0_c_0 : Ref sig .tc := ⟨.hbm, 43, rfl⟩
abbrev main_call0_call0_call0_v7 : Ref sig .tc := ⟨.hbm, 44, rfl⟩
abbrev main_call0_call0_call0_v8 : Ref sig .tc := ⟨.hbm, 45, rfl⟩
abbrev main_call0_call0_call0_c_1 : Ref sig .tc := ⟨.hbm, 46, rfl⟩
abbrev main_call0_call0_call0_v9 : Ref sig .tc := ⟨.hbm, 47, rfl⟩
abbrev main_call0_call0_call0_v10 : Ref sig .tc := ⟨.hbm, 48, rfl⟩
abbrev main_call0_call0_call0_v11 : Ref sig .tc := ⟨.hbm, 49, rfl⟩
abbrev main_call0_call0_call0_v12 : Ref sig .tc := ⟨.hbm, 50, rfl⟩
abbrev main_call0_call0_call0_v13 : Ref sig .tc := ⟨.hbm, 51, rfl⟩
abbrev main_call0_call0_call0_c_2 : Ref sig .tc := ⟨.hbm, 52, rfl⟩
abbrev main_call0_call0_call0_v14 : Ref sig .tc := ⟨.hbm, 53, rfl⟩
abbrev main_call0_call0_call0_v15 : Ref sig .tc := ⟨.hbm, 54, rfl⟩
abbrev main_call0_call0_call0_c_3 : Ref sig .tc := ⟨.hbm, 55, rfl⟩
abbrev main_call0_call0_call0_v16 : Ref sig .tc := ⟨.hbm, 56, rfl⟩
abbrev main_call0_call0_call0_v17 : Ref sig .tc := ⟨.hbm, 57, rfl⟩
abbrev main_call0_call0_call0_v18 : Ref sig .tc := ⟨.hbm, 58, rfl⟩
abbrev main_call0_call0_call0_v19 : Ref sig .tc := ⟨.hbm, 59, rfl⟩
abbrev main_call0_call0_call0_v20 : Ref sig .tc := ⟨.hbm, 60, rfl⟩
abbrev main_call0_call0_call0_c_4 : Ref sig .tc := ⟨.hbm, 61, rfl⟩
abbrev main_call0_call0_call0_v21 : Ref sig .tc := ⟨.hbm, 62, rfl⟩
abbrev main_call0_call0_call0_v22 : Ref sig .tc := ⟨.hbm, 63, rfl⟩
abbrev main_call0_call0_call0_c_5 : Ref sig .tc := ⟨.hbm, 64, rfl⟩
abbrev main_call0_call0_call0_v23 : Ref sig .tc := ⟨.hbm, 65, rfl⟩
abbrev main_call0_call0_call0_v24 : Ref sig .tc := ⟨.hbm, 66, rfl⟩
abbrev main_call0_call0_call0_v25 : Ref sig .tc := ⟨.hbm, 67, rfl⟩
abbrev main_call0_call0_call0_v26 : Ref sig .tc := ⟨.hbm, 68, rfl⟩
abbrev main_call0_call0_call0_v27 : Ref sig .tc := ⟨.hbm, 69, rfl⟩
abbrev main_call0_call0_call0_c_6 : Ref sig .tc := ⟨.hbm, 70, rfl⟩
abbrev main_call0_call0_call0_v28 : Ref sig .tc := ⟨.hbm, 71, rfl⟩
abbrev main_call0_call0_call0_v29 : Ref sig .tc := ⟨.hbm, 72, rfl⟩
abbrev main_call0_call0_call0_c_7 : Ref sig .tc := ⟨.hbm, 73, rfl⟩
abbrev main_call0_call0_call0_v30 : Ref sig .tc := ⟨.hbm, 74, rfl⟩
abbrev main_call0_call0_call0_v31 : Ref sig .tc := ⟨.hbm, 75, rfl⟩
abbrev main_call0_call0_call0_v32 : Ref sig .tc := ⟨.hbm, 76, rfl⟩
abbrev main_call0_call0_call0_v33 : Ref sig .tc := ⟨.hbm, 77, rfl⟩
abbrev main_call0_call0_call0_v34 : Ref sig .tc := ⟨.hbm, 78, rfl⟩
abbrev main_call0_call0_call0_v35 : Ref sig .tc := ⟨.hbm, 79, rfl⟩
abbrev main_call0_call0_call0_v36 : Ref sig .tc := ⟨.hbm, 80, rfl⟩
abbrev main_call0_call0_call0_v37 : Ref sig .tc := ⟨.hbm, 81, rfl⟩
abbrev main_call0_call0_call0_c_8 : Ref sig .tc := ⟨.hbm, 82, rfl⟩
abbrev main_call0_call0_call0_v38 : Ref sig .tc := ⟨.hbm, 83, rfl⟩
abbrev main_call0_call0_call0_v39 : Ref sig .tc := ⟨.hbm, 84, rfl⟩
abbrev main_call0_call0_call0_v40 : Ref sig .tc := ⟨.hbm, 85, rfl⟩
abbrev main_call0_call0_call0_c_9 : Ref sig .tc := ⟨.hbm, 86, rfl⟩
abbrev main_call0_call0_call0_v41 : Ref sig .tc := ⟨.hbm, 87, rfl⟩
abbrev main_call0_call0_call0_v42 : Ref sig .tc := ⟨.hbm, 88, rfl⟩
abbrev main_call0_call0_call0_c_10 : Ref sig .tc := ⟨.hbm, 89, rfl⟩
abbrev main_call0_call0_call0_v43 : Ref sig .tc := ⟨.hbm, 90, rfl⟩
abbrev main_call0_call0_call0_v44 : Ref sig .tc := ⟨.hbm, 91, rfl⟩
abbrev main_call0_call0_call0_v45 : Ref sig .tc := ⟨.hbm, 92, rfl⟩
abbrev main_call0_call0_call0_v46 : Ref sig .tc := ⟨.hbm, 93, rfl⟩
abbrev main_call0_call0_call0_v47 : Ref sig .tc := ⟨.hbm, 94, rfl⟩
abbrev main_call0_call0_call0_c_11 : Ref sig .tc := ⟨.hbm, 95, rfl⟩
abbrev main_call0_call0_call0_v48 : Ref sig .tc := ⟨.hbm, 96, rfl⟩
abbrev main_call0_call0_call0_v49 : Ref sig .tc := ⟨.hbm, 97, rfl⟩
abbrev main_call0_call0_call0_c_12 : Ref sig .tc := ⟨.hbm, 98, rfl⟩
abbrev main_call0_call0_call0_v50 : Ref sig .tc := ⟨.hbm, 99, rfl⟩
abbrev main_call0_call0_call0_v51 : Ref sig .tc := ⟨.hbm, 100, rfl⟩
abbrev main_call0_call0_call0_v52 : Ref sig .tc := ⟨.hbm, 101, rfl⟩
abbrev main_call0_call0_call0_v53 : Ref sig .tc := ⟨.hbm, 102, rfl⟩
abbrev main_call0_call0_call0_v54 : Ref sig .tc := ⟨.hbm, 103, rfl⟩
abbrev main_call0_call0_call0_c_13 : Ref sig .tc := ⟨.hbm, 104, rfl⟩
abbrev main_call0_call0_call0_v55 : Ref sig .tc := ⟨.hbm, 105, rfl⟩
abbrev main_call0_call0_call0_v56 : Ref sig .tc := ⟨.hbm, 106, rfl⟩
abbrev main_call0_call0_call0_c_14 : Ref sig .tc := ⟨.hbm, 107, rfl⟩
abbrev main_call0_call0_call0_v57 : Ref sig .tc := ⟨.hbm, 108, rfl⟩
abbrev main_call0_call0_call0_v58 : Ref sig .tc := ⟨.hbm, 109, rfl⟩
abbrev main_call0_call0_call0_v59 : Ref sig .tc := ⟨.hbm, 110, rfl⟩
abbrev main_call0_call0_call0_v60 : Ref sig .tc := ⟨.hbm, 111, rfl⟩
abbrev main_call0_call0_call0_v61 : Ref sig .tc := ⟨.hbm, 112, rfl⟩
abbrev main_call0_call0_call0_c_15 : Ref sig .tc := ⟨.hbm, 113, rfl⟩
abbrev main_call0_call0_call0_v62 : Ref sig .tc := ⟨.hbm, 114, rfl⟩
abbrev main_call0_call0_call0_v63 : Ref sig .tc := ⟨.hbm, 115, rfl⟩
abbrev main_call0_call0_call0_c_16 : Ref sig .tc := ⟨.hbm, 116, rfl⟩
abbrev main_call0_call0_call0_v64 : Ref sig .tc := ⟨.hbm, 117, rfl⟩
abbrev main_call0_call0_call0_v65 : Ref sig .tc := ⟨.hbm, 118, rfl⟩
abbrev main_call0_call0_call0_v66 : Ref sig .tc := ⟨.hbm, 119, rfl⟩
abbrev main_call0_call0_call0_v67 : Ref sig .tc := ⟨.hbm, 120, rfl⟩
abbrev main_call0_call0_call0_v68 : Ref sig .tc := ⟨.hbm, 121, rfl⟩
abbrev main_call0_call0_call0_v69 : Ref sig .tc := ⟨.hbm, 122, rfl⟩
abbrev main_call0_call0_call0_v70 : Ref sig .tc := ⟨.hbm, 123, rfl⟩
abbrev main_call0_call0_call0_v71 : Ref sig .tc := ⟨.hbm, 124, rfl⟩
abbrev main_call0_call0_call0_c_17 : Ref sig .tc := ⟨.hbm, 125, rfl⟩
abbrev main_call0_call0_call0_v72 : Ref sig .tc := ⟨.hbm, 126, rfl⟩
abbrev main_call0_call0_call0_v73 : Ref sig .tc := ⟨.hbm, 127, rfl⟩
abbrev main_call0_call0_call0_v74 : Ref sig .tc := ⟨.hbm, 128, rfl⟩
abbrev main_call0_call0_call0_c_18 : Ref sig .tc := ⟨.hbm, 129, rfl⟩
abbrev main_call0_call0_call0_v75 : Ref sig .tc := ⟨.hbm, 130, rfl⟩
abbrev main_call0_call0_call0_v76 : Ref sig .tc := ⟨.hbm, 131, rfl⟩
abbrev main_call0_call0_call0_c_19 : Ref sig .tc := ⟨.hbm, 132, rfl⟩
abbrev main_call0_call0_call0_v77 : Ref sig .tc := ⟨.hbm, 133, rfl⟩
abbrev main_call0_call0_call0_v78 : Ref sig .tc := ⟨.hbm, 134, rfl⟩
abbrev main_call0_call0_call0_v79 : Ref sig .tc := ⟨.hbm, 135, rfl⟩
abbrev main_call0_call0_call0_v80 : Ref sig .tc := ⟨.hbm, 136, rfl⟩
abbrev main_call0_call0_call0_v81 : Ref sig .tc := ⟨.hbm, 137, rfl⟩
abbrev main_call0_call0_call0_c_20 : Ref sig .tc := ⟨.hbm, 138, rfl⟩
abbrev main_call0_call0_call0_v82 : Ref sig .tc := ⟨.hbm, 139, rfl⟩
abbrev main_call0_call0_call0_v83 : Ref sig .tc := ⟨.hbm, 140, rfl⟩
abbrev main_call0_call0_call0_c_21 : Ref sig .tc := ⟨.hbm, 141, rfl⟩
abbrev main_call0_call0_call0_v84 : Ref sig .tc := ⟨.hbm, 142, rfl⟩
abbrev main_call0_call0_call0_v85 : Ref sig .tc := ⟨.hbm, 143, rfl⟩
abbrev main_call0_call0_call0_v86 : Ref sig .tc := ⟨.hbm, 144, rfl⟩
abbrev main_call0_call0_call0_v87 : Ref sig .tc := ⟨.hbm, 145, rfl⟩
abbrev main_call0_call0_call0_v88 : Ref sig .tc := ⟨.hbm, 146, rfl⟩
abbrev main_call0_call0_call0_c_22 : Ref sig .tc := ⟨.hbm, 147, rfl⟩
abbrev main_call0_call0_call0_v89 : Ref sig .tc := ⟨.hbm, 148, rfl⟩
abbrev main_call0_call0_call0_v90 : Ref sig .tc := ⟨.hbm, 149, rfl⟩
abbrev main_call0_call0_call0_c_23 : Ref sig .tc := ⟨.hbm, 150, rfl⟩
abbrev main_call0_call0_call0_v91 : Ref sig .tc := ⟨.hbm, 151, rfl⟩
abbrev main_call0_call0_call0_v92 : Ref sig .tc := ⟨.hbm, 152, rfl⟩
abbrev main_call0_call0_call0_v93 : Ref sig .tc := ⟨.hbm, 153, rfl⟩
abbrev main_call0_call0_call0_v94 : Ref sig .tc := ⟨.hbm, 154, rfl⟩
abbrev main_call0_call0_call0_v95 : Ref sig .tc := ⟨.hbm, 155, rfl⟩
abbrev main_call0_call0_call0_c_24 : Ref sig .tc := ⟨.hbm, 156, rfl⟩
abbrev main_call0_call0_call0_v96 : Ref sig .tc := ⟨.hbm, 157, rfl⟩
abbrev main_call0_call0_call0_v97 : Ref sig .tc := ⟨.hbm, 158, rfl⟩
abbrev main_call0_call0_call0_c_25 : Ref sig .tc := ⟨.hbm, 159, rfl⟩
abbrev main_call0_call0_call0_v98 : Ref sig .tc := ⟨.hbm, 160, rfl⟩
abbrev main_call0_call0_call0_v99 : Ref sig .tc := ⟨.hbm, 161, rfl⟩
abbrev main_call0_call0_call0_v100 : Ref sig .tc := ⟨.hbm, 162, rfl⟩
abbrev main_call0_call0_call0_v101 : Ref sig .tc := ⟨.hbm, 163, rfl⟩
abbrev main_call0_call0_call0_v102 : Ref sig .tc := ⟨.hbm, 164, rfl⟩
abbrev main_call0_call0_call0_v103 : Ref sig .tc := ⟨.hbm, 165, rfl⟩
abbrev main_call0_call0_call0_v104 : Ref sig .tc := ⟨.hbm, 166, rfl⟩
abbrev main_call0_call0_call0_v105 : Ref sig .tc := ⟨.hbm, 167, rfl⟩
abbrev main_call0_call0_call0_c_26 : Ref sig .tc := ⟨.hbm, 168, rfl⟩
abbrev main_call0_call0_call0_v106 : Ref sig .tc := ⟨.hbm, 169, rfl⟩
abbrev main_call0_call0_call0_v107 : Ref sig .tc := ⟨.hbm, 170, rfl⟩
abbrev main_call0_call0_call0_v108 : Ref sig .tc := ⟨.hbm, 171, rfl⟩
abbrev main_call0_call0_call0_c_27 : Ref sig .tc := ⟨.hbm, 172, rfl⟩
abbrev main_call0_call0_call0_v109 : Ref sig .tc := ⟨.hbm, 173, rfl⟩
abbrev main_call0_call0_call0_v110 : Ref sig .tc := ⟨.hbm, 174, rfl⟩
abbrev main_call0_call0_call0_c_28 : Ref sig .tc := ⟨.hbm, 175, rfl⟩
abbrev main_call0_call0_call0_v111 : Ref sig .tc := ⟨.hbm, 176, rfl⟩
abbrev main_call0_call0_call0_v112 : Ref sig .tc := ⟨.hbm, 177, rfl⟩
abbrev main_call0_call0_call0_v113 : Ref sig .tc := ⟨.hbm, 178, rfl⟩
abbrev main_call0_call0_call0_v114 : Ref sig .tc := ⟨.hbm, 179, rfl⟩
abbrev main_call0_call0_call0_v115 : Ref sig .tc := ⟨.hbm, 180, rfl⟩
abbrev main_call0_call0_call0_c_29 : Ref sig .tc := ⟨.hbm, 181, rfl⟩
abbrev main_call0_call0_call0_v116 : Ref sig .tc := ⟨.hbm, 182, rfl⟩
abbrev main_call0_call0_call0_v117 : Ref sig .tc := ⟨.hbm, 183, rfl⟩
abbrev main_call0_call0_call0_c_30 : Ref sig .tc := ⟨.hbm, 184, rfl⟩
abbrev main_call0_call0_call0_v118 : Ref sig .tc := ⟨.hbm, 185, rfl⟩
abbrev main_call0_call0_call0_v119 : Ref sig .tc := ⟨.hbm, 186, rfl⟩
abbrev main_call0_call0_call0_v120 : Ref sig .tc := ⟨.hbm, 187, rfl⟩
abbrev main_call0_call0_call0_v121 : Ref sig .tc := ⟨.hbm, 188, rfl⟩
abbrev main_call0_call0_call0_v122 : Ref sig .tc := ⟨.hbm, 189, rfl⟩
abbrev main_call0_call0_call0_c_31 : Ref sig .tc := ⟨.hbm, 190, rfl⟩
abbrev main_call0_call0_call0_v123 : Ref sig .tc := ⟨.hbm, 191, rfl⟩
abbrev main_call0_call0_call0_v124 : Ref sig .tc := ⟨.hbm, 192, rfl⟩
abbrev main_call0_call0_call0_c_32 : Ref sig .tc := ⟨.hbm, 193, rfl⟩
abbrev main_call0_call0_call0_v125 : Ref sig .tc := ⟨.hbm, 194, rfl⟩
abbrev main_call0_call0_call0_v126 : Ref sig .tc := ⟨.hbm, 195, rfl⟩
abbrev main_call0_call0_call0_v127 : Ref sig .tc := ⟨.hbm, 196, rfl⟩
abbrev main_call0_call0_call0_v128 : Ref sig .tc := ⟨.hbm, 197, rfl⟩
abbrev main_call0_call0_call0_v129 : Ref sig .tc := ⟨.hbm, 198, rfl⟩
abbrev main_call0_call0_call0_c_33 : Ref sig .tc := ⟨.hbm, 199, rfl⟩
abbrev main_call0_call0_call0_v130 : Ref sig .tc := ⟨.hbm, 200, rfl⟩
abbrev main_call0_call0_call0_v131 : Ref sig .tc := ⟨.hbm, 201, rfl⟩
abbrev main_call0_call0_call0_c_34 : Ref sig .tc := ⟨.hbm, 202, rfl⟩
abbrev main_call0_call0_call0_v132 : Ref sig .tc := ⟨.hbm, 203, rfl⟩
abbrev main_call0_call0_call0_v133 : Ref sig .tc := ⟨.hbm, 204, rfl⟩
abbrev main_call0_call0_call0_v134 : Ref sig .tc := ⟨.hbm, 205, rfl⟩
abbrev main_call0_call0_call0_v135 : Ref sig .tc := ⟨.hbm, 206, rfl⟩
abbrev main_call0_call0_call0_v136 : Ref sig .tc := ⟨.hbm, 207, rfl⟩
abbrev main_call0_call0_call0_v137 : Ref sig .tc := ⟨.hbm, 208, rfl⟩
abbrev main_call0_call0_call0_v138 : Ref sig .tc := ⟨.hbm, 209, rfl⟩
abbrev main_call0_call0_call0_v139 : Ref sig .tc := ⟨.hbm, 210, rfl⟩
abbrev main_call0_call0_call0_c_35 : Ref sig .tc := ⟨.hbm, 211, rfl⟩
abbrev main_call0_call0_call0_v140 : Ref sig .tc := ⟨.hbm, 212, rfl⟩
abbrev main_call0_call0_call0_v141 : Ref sig .tc := ⟨.hbm, 213, rfl⟩
abbrev main_call0_call0_call0_v142 : Ref sig .tc := ⟨.hbm, 214, rfl⟩
abbrev main_call0_call0_call0_c_36 : Ref sig .tc := ⟨.hbm, 215, rfl⟩
abbrev main_call0_call0_call0_v143 : Ref sig .tc := ⟨.hbm, 216, rfl⟩
abbrev main_call0_call0_call0_v144 : Ref sig .tc := ⟨.hbm, 217, rfl⟩
abbrev main_call0_call0_call0_c_37 : Ref sig .tc := ⟨.hbm, 218, rfl⟩
abbrev main_call0_call0_call0_v145 : Ref sig .tc := ⟨.hbm, 219, rfl⟩
abbrev main_call0_call0_call0_v146 : Ref sig .tc := ⟨.hbm, 220, rfl⟩
abbrev main_call0_call0_call0_v147 : Ref sig .tc := ⟨.hbm, 221, rfl⟩
abbrev main_call0_call0_call0_v148 : Ref sig .tc := ⟨.hbm, 222, rfl⟩
abbrev main_call0_call0_call0_v149 : Ref sig .tc := ⟨.hbm, 223, rfl⟩
abbrev main_call0_call0_call0_c_38 : Ref sig .tc := ⟨.hbm, 224, rfl⟩
abbrev main_call0_call0_call0_v150 : Ref sig .tc := ⟨.hbm, 225, rfl⟩
abbrev main_call0_call0_call0_v151 : Ref sig .tc := ⟨.hbm, 226, rfl⟩
abbrev main_call0_call0_call0_c_39 : Ref sig .tc := ⟨.hbm, 227, rfl⟩
abbrev main_call0_call0_call0_v152 : Ref sig .tc := ⟨.hbm, 228, rfl⟩
abbrev main_call0_call0_call0_v153 : Ref sig .tc := ⟨.hbm, 229, rfl⟩
abbrev main_call0_call0_call0_v154 : Ref sig .tc := ⟨.hbm, 230, rfl⟩
abbrev main_call0_call0_call0_v155 : Ref sig .tc := ⟨.hbm, 231, rfl⟩
abbrev main_call0_call0_call0_v156 : Ref sig .tc := ⟨.hbm, 232, rfl⟩
abbrev main_call0_call0_call0_c_40 : Ref sig .tc := ⟨.hbm, 233, rfl⟩
abbrev main_call0_call0_call0_v157 : Ref sig .tc := ⟨.hbm, 234, rfl⟩
abbrev main_call0_call0_call0_v158 : Ref sig .tc := ⟨.hbm, 235, rfl⟩
abbrev main_call0_call0_call0_c_41 : Ref sig .tc := ⟨.hbm, 236, rfl⟩
abbrev main_call0_call0_call0_v159 : Ref sig .tc := ⟨.hbm, 237, rfl⟩
abbrev main_call0_call0_call0_v160 : Ref sig .tc := ⟨.hbm, 238, rfl⟩
abbrev main_call0_call0_call0_v161 : Ref sig .tc := ⟨.hbm, 239, rfl⟩
abbrev main_call0_call0_call0_v162 : Ref sig .tc := ⟨.hbm, 240, rfl⟩
abbrev main_call0_call0_call0_v163 : Ref sig .tc := ⟨.hbm, 241, rfl⟩
abbrev main_call0_call0_call0_c_42 : Ref sig .tc := ⟨.hbm, 242, rfl⟩
abbrev main_call0_call0_call0_v164 : Ref sig .tc := ⟨.hbm, 243, rfl⟩
abbrev main_call0_call0_call0_v165 : Ref sig .tc := ⟨.hbm, 244, rfl⟩
abbrev main_call0_call0_call0_c_43 : Ref sig .tc := ⟨.hbm, 245, rfl⟩
abbrev main_call0_call0_call0_v166 : Ref sig .tc := ⟨.hbm, 246, rfl⟩
abbrev main_call0_call0_call0_v167 : Ref sig .tc := ⟨.hbm, 247, rfl⟩
abbrev main_call0_call0_call0_v168 : Ref sig .tc := ⟨.hbm, 248, rfl⟩
abbrev main_call0_call0_call0_v169 : Ref sig .tc := ⟨.hbm, 249, rfl⟩
abbrev main_call0_call0_call0_v170 : Ref sig .tc := ⟨.hbm, 250, rfl⟩
abbrev main_call0_call0_v19_0 : Ref sig .tc := ⟨.hbm, 251, rfl⟩
abbrev main_call0_call0_call0_v172 : Ref sig .tc := ⟨.hbm, 252, rfl⟩
abbrev main_call0_call0_call0_v173 : Ref sig .tc := ⟨.hbm, 253, rfl⟩
abbrev main_call0_call0_call0_c_44 : Ref sig .tc := ⟨.hbm, 254, rfl⟩
abbrev main_call0_call0_call0_v174 : Ref sig .tc := ⟨.hbm, 255, rfl⟩
abbrev main_call0_call0_v19_1 : Ref sig .tc := ⟨.hbm, 256, rfl⟩
abbrev main_call0_call0_v20 : Ref sig .tc := ⟨.hbm, 257, rfl⟩
abbrev main_call0_call0_c_2 : Ref sig .tc := ⟨.hbm, 258, rfl⟩
abbrev main_call0_call0_v21 : Ref sig .tc := ⟨.hbm, 259, rfl⟩
abbrev main_call0_call0_v22 : Ref sig .tc := ⟨.hbm, 260, rfl⟩
abbrev main_call0_call0_c_3 : Ref sig .tc := ⟨.hbm, 261, rfl⟩
abbrev main_call0_call0_v23 : Ref sig .tc := ⟨.hbm, 262, rfl⟩
abbrev main_call0_call0_v24 : Ref sig .tc := ⟨.hbm, 263, rfl⟩
abbrev main_call0_call0_v25 : Ref sig .tc := ⟨.hbm, 264, rfl⟩
abbrev main_call0_call0_cst : Ref sig .tc := ⟨.hbm, 265, rfl⟩
abbrev main_call0_call0_v26 : Ref sig .tc := ⟨.hbm, 266, rfl⟩
abbrev main_call0_call0_v27 : Ref sig .tc := ⟨.hbm, 267, rfl⟩
abbrev main_call0_call0_v28 : Ref sig .tc := ⟨.hbm, 268, rfl⟩
abbrev main_call0_call0_v29 : Ref sig .tc := ⟨.hbm, 269, rfl⟩
abbrev main_call0_call0_v30 : Ref sig .tc := ⟨.hbm, 270, rfl⟩
abbrev main_call0_call0_v31 : Ref sig .tc := ⟨.hbm, 271, rfl⟩
abbrev main_call0_call0_v32 : Ref sig .tc := ⟨.hbm, 272, rfl⟩
abbrev main_call0_call0_v33 : Ref sig .tc := ⟨.hbm, 273, rfl⟩
abbrev main_call0_v0 : Ref sig .tc := ⟨.hbm, 274, rfl⟩
abbrev main_call0_v1 : Ref sig .tc := ⟨.hbm, 275, rfl⟩
abbrev main_call0_v2 : Ref sig .tc := ⟨.hbm, 276, rfl⟩
abbrev main_v7 : Ref sig .tc := ⟨.hbm, 277, rfl⟩
abbrev main_v8 : Ref sig .tc := ⟨.hbm, 278, rfl⟩
abbrev main_v9 : Ref sig .tc := ⟨.hbm, 279, rfl⟩
abbrev main_v10 : Ref sig .tc := ⟨.hbm, 280, rfl⟩
abbrev main_cst : Ref sig .tc := ⟨.hbm, 281, rfl⟩
abbrev main_v11 : Ref sig .tc := ⟨.hbm, 282, rfl⟩
abbrev main_v12 : Ref sig .tc := ⟨.hbm, 283, rfl⟩
abbrev main_v13 : Ref sig .tc := ⟨.hbm, 284, rfl⟩
abbrev main_v14 : Ref sig .tc := ⟨.hbm, 285, rfl⟩
abbrev main_cst_2 : Ref sig .tc := ⟨.hbm, 286, rfl⟩
abbrev main_v15 : Ref sig .tc := ⟨.hbm, 287, rfl⟩
abbrev main_v16 : Ref sig .tc := ⟨.hbm, 288, rfl⟩
abbrev main_cst_3 : Ref sig .tc := ⟨.hbm, 289, rfl⟩
abbrev main_v17 : Ref sig .tc := ⟨.hbm, 290, rfl⟩
abbrev main_v18 : Ref sig .tc := ⟨.hbm, 291, rfl⟩
abbrev main_cst_4 : Ref sig .tc := ⟨.hbm, 292, rfl⟩
abbrev main_v19 : Ref sig .tc := ⟨.hbm, 293, rfl⟩
abbrev main_v20 : Ref sig .tc := ⟨.hbm, 294, rfl⟩
abbrev main_v21 : Ref sig .tc := ⟨.hbm, 295, rfl⟩
abbrev main_v22 : Ref sig .tc := ⟨.hbm, 296, rfl⟩
abbrev main_v23 : Ref sig .tc := ⟨.hbm, 297, rfl⟩

abbrev nD : Nat := 1
abbrev τ : Topo := Topo.v7x

variable {F : FTy → Type} [FloatOps F]
-- ==== Proof.KBody.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Transfers
public import Idealize.ShloMosaic.Lib.ValueLayout
public import Idealize.ShloMosaic.Lib.ViewIndex
public import Idealize.ShloMosaic.Lib.Tactic

/-!
# The copies, waits, loads and stores of the kernel's body

The kernel moves blocks of eight rows between the arrays and two two-slot buffers. This module names the slots, the
blocks and the states that a slot can be in (at rest, full, with a copy in flight), says what the buffers then hold, and
states each step of the body as a passage from one state to another.
-/

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the transfers' counters. -/
local notation "𝕄" => MT nD τ sig Unit (Elt F) ℕ (Pipeline.UD sig nD τ) ℕ

/-! ## The offsets, trip by trip -/

/-- The loop has sixteen trips. -/
theorem trips_eq : k0_t1_loop.trips = 16 := by decide
/-- A trip's number is below sixteen. -/
theorem trip_lt (t : Fin k0_t1_loop.trips) : t.val < 16 :=
  lt_of_lt_of_eq t.isLt trips_eq

/-- The first condition of a trip: there is a next block to fetch. -/
theorem cond1_iff : ∀ t : Fin k0_t1_loop.trips, k0_cond1 t = 1#1 ↔ t.val + 1 < 16 := by decide
/-- The second condition of a trip: the outgoing slot was sent two trips ago. -/
theorem cond2_iff : ∀ t : Fin k0_t1_loop.trips, k0_cond2 t = 1#1 ↔ 2 ≤ t.val := by decide
/-- The next block's incoming cell is that of the other slot. -/
theorem off1_eq : ∀ t : Fin k0_t1_loop.trips, k0_off1 t = ![(t.val + 1) % 2] := by decide
/-- The next block's incoming slot is the other one. -/
theorem off2_eq : ∀ t : Fin k0_t1_loop.trips, k0_off2 t = ![(t.val + 1) % 2, 0, 0] := by decide
/-- The next block begins eight rows further down. -/
theorem off3_eq : ∀ t : Fin k0_t1_loop.trips, t.val + 1 < 16 → k0_off3 t = ![8 * (t.val + 1), 0] := by decide
/-- The cell of a trip, incoming or outgoing, is that of the slot of its parity. -/
theorem off4_eq : ∀ t : Fin k0_t1_loop.trips, k0_off4 t = ![t.val % 2] := by decide
/-- The slot of a trip's copies, in or out, is that of its parity. -/
theorem off5_eq : ∀ t : Fin k0_t1_loop.trips, k0_off5 t = ![t.val % 2, 0, 0] := by decide
/-- A trip's block, of the argument or of the result, begins at row eight times the trip. -/
theorem off6_eq : ∀ t : Fin k0_t1_loop.trips, k0_off6 t = ![8 * t.val, 0] := by decide
/-- The outgoing cell that a trip waits on is that of its parity. -/
theorem off7_eq : ∀ t : Fin k0_t1_loop.trips, k0_off7 t = ![t.val % 2] := by decide
/-- The block that a trip waits for on its way out is that of two trips before. -/
theorem off8_eq : ∀ t : Fin k0_t1_loop.trips, 2 ≤ t.val → k0_off8 t = ![8 * (t.val - 2), 0] := by decide
/-- The outgoing slot that a trip waits for is that of its parity. -/
theorem off9_eq : ∀ t : Fin k0_t1_loop.trips, k0_off9 t = ![t.val % 2, 0, 0] := by decide
/-- The slot that a trip loads from and stores into is that of its parity. -/
theorem off10_eq : ∀ t : Fin k0_t1_loop.trips, k0_off10 t = ![t.val % 2, 0, 0] := by decide

/-! ## Regions -/

/-- The elements of slot `s` of a two-slot buffer. -/
def slotSet (s : ℕ) : Finset S2x8x100000.Idx := Finset.univ.filter fun i => (i 0).val = s
/-- The elements of the eight rows of block `b` of a 128-row array. -/
def blkSet (b : ℕ) : Finset S128x100000.Idx := Finset.univ.filter fun i => 8 * b ≤ (i 0).val ∧ (i 0).val < 8 * b + 8
/-- The elements of the rows below `n`. -/
def loSet (n : ℕ) : Finset S128x100000.Idx := Finset.univ.filter fun i => (i 0).val < n
/-- The elements of the rows from `n` on. -/
def hiSet (n : ℕ) : Finset S128x100000.Idx := Finset.univ.filter fun i => n ≤ (i 0).val

/-! ## The memrefs of the transfers -/

/-- The whole incoming buffer. -/
abbrev xM : Memref sig .tc .vmem S2x8x100000 .f32 := Memref.whole cc0_scratch0
/-- The whole outgoing buffer. -/
abbrev oM : Memref sig .tc .vmem S2x8x100000 .f32 := Memref.whole cc0_scratch1
/-- The whole argument. -/
abbrev aM : Memref sig .tc .hbm S128x100000 .f32 := Memref.whole main_arg0
/-- The whole result. -/
abbrev vM : Memref sig .tc .hbm S128x100000 .f32 := Memref.whole main_v0

/-- Offset `off` leaves room for one slot. -/
abbrev SlotInb (off : Fin 3 → ℕ) : Prop := ∀ a, off a + S1x8x100000.size a ≤ S2x8x100000.size a
/-- Offset `off` leaves room for one block of rows. -/
abbrev BlkInb (off : Fin 2 → ℕ) : Prop := ∀ a, off a + S8x100000.size a ≤ S128x100000.size a

/-- One slot of a two-slot buffer, as eight rows. -/
abbrev slotOf (M : Memref sig .tc .vmem S2x8x100000 .f32) (off : Fin 3 → ℕ) (h : SlotInb off) : Memref sig .tc .vmem S8x100000 .f32 :=
  (M.slice (Rect.unit (s := S2x8x100000) off S1x8x100000.size h) (fun _ => rfl)).squeeze S8x100000 squeezes_S1x8x100000_S8x100000
/-- Eight rows of a 128-row array. -/
abbrev blkOf (M : Memref sig .tc .hbm S128x100000 .f32) (off : Fin 2 → ℕ) (h : BlkInb off) : Memref sig .tc .hbm S8x100000 .f32 :=
  M.slice (Rect.unit (s := S128x100000) off S8x100000.size h) (fun _ => rfl)
/-- One cell of a pair of semaphores. -/
abbrev cellOf (M : DmaSems sig S2) (off : Fin 1 → ℕ) (h : ∀ a, off a + S1.size a ≤ S2.size a) : DmaSem sig :=
  ((M.slice (Rect.unit (s := S2) off S1.size h)).squeeze S_ squeezes_S1_S_).sem

/-- The cell of slot `s` of the incoming transfers. -/
def inSem (s : ℕ) : DmaSem sig := if s = 0 then 0 else 1
/-- The cell of slot `s` of the outgoing transfers. -/
def outSem (s : ℕ) : DmaSem sig := if s = 0 then 2 else 3

/-- The cell at offset `s` of the first pair is the incoming cell of slot `s`. -/
theorem cellOf_in (off : Fin 1 → ℕ) (h) (s : ℕ) (hs : s < 2) (e : off = ![s]) : cellOf cc0_scratch2 off h = inSem s := by
  subst e
  interval_cases s
  · show cellOf cc0_scratch2 ![0] (by decide) = _; decide
  · show cellOf cc0_scratch2 ![1] (by decide) = _; decide
/-- The cell at offset `s` of the second pair is the outgoing cell of slot `s`. -/
theorem cellOf_out (off : Fin 1 → ℕ) (h) (s : ℕ) (hs : s < 2) (e : off = ![s]) : cellOf cc0_scratch3 off h = outSem s := by
  subst e
  interval_cases s
  · show cellOf cc0_scratch3 ![0] (by decide) = _; decide
  · show cellOf cc0_scratch3 ![1] (by decide) = _; decide

/-- Two indices of a two-axis shape with equal coordinates are equal. -/
theorem idx2_ext {d : Fin 2 → ℕ} {x y : (⟨2, d⟩ : Shape).Idx} (h0 : (x 0).val = (y 0).val) (h1 : (x 1).val = (y 1).val) : x = y :=
  funext fun a => by
    match a with
    | ⟨0, _⟩ => exact Fin.ext h0
    | ⟨1, _⟩ => exact Fin.ext h1

/-- Row `r` and column `q` of the rectangle at slot `s` lie at `(s, r, q)` of the buffer. -/
theorem slotIdx (s : ℕ) (hs : s < 2) (h : ∀ a, (![s, 0, 0] : Fin 3 → ℕ) a + S1x8x100000.size a ≤ S2x8x100000.size a) (r : Fin 8) (q : Fin 100000) :
    (Rect.unit (s := S2x8x100000) ![s, 0, 0] S1x8x100000.size h).emb (ix3 (0 : Fin 1) r q) = ix3 (⟨s, hs⟩ : Fin 2) r q := by
  refine Shape.idx3_ext ?_ ?_ ?_ <;> rw [Rect.emb_apply]
  · show s + 1 * 0 = s; omega
  · show 0 + 1 * r.val = r.val; omega
  · show 0 + 1 * q.val = q.val; omega

/-- Row `r` and column `q` of block `b` lie at row `8 b + r` and column `q` of the array. -/
theorem blkIdx (b : ℕ) (hb : b < 16) (h : ∀ a, (![8 * b, 0] : Fin 2 → ℕ) a + S8x100000.size a ≤ S128x100000.size a) (r : Fin 8) (q : Fin 100000) :
    (Rect.unit (s := S128x100000) ![8 * b, 0] S8x100000.size h).emb (ix2 r q) = ix2 (⟨8 * b + r.val, by omega⟩ : Fin 128) q := by
  refine idx2_ext ?_ ?_ <;> rw [Rect.emb_apply]
  · show 8 * b + 1 * r.val = 8 * b + r.val; omega
  · show 0 + 1 * q.val = q.val; omega

/-- Row `r` and column `q` of incoming slot `s` lie at `(s, r, q)` of the buffer. -/
theorem slot_emb_x (s : ℕ) (hs : s < 2) (h : SlotInb ![s, 0, 0]) (r : Fin 8) (q : Fin 100000) :
    @Eq S2x8x100000.Idx ((slotOf xM ![s, 0, 0] h).view.emb (ix2 r q)) (ix3 (⟨s, hs⟩ : Fin 2) r q) :=
  (congrArg (Rect.unit (s := S2x8x100000) ![s, 0, 0] S1x8x100000.size h).emb
    (reshapeEquiv_ix2_1ab squeezes_S1x8x100000_S8x100000.numel_eq r q)).trans (slotIdx s hs h r q)
/-- Row `r` and column `q` of outgoing slot `s` lie at `(s, r, q)` of the buffer. -/
theorem slot_emb_o (s : ℕ) (hs : s < 2) (h : SlotInb ![s, 0, 0]) (r : Fin 8) (q : Fin 100000) :
    @Eq S2x8x100000.Idx ((slotOf oM ![s, 0, 0] h).view.emb (ix2 r q)) (ix3 (⟨s, hs⟩ : Fin 2) r q) :=
  (congrArg (Rect.unit (s := S2x8x100000) ![s, 0, 0] S1x8x100000.size h).emb
    (reshapeEquiv_ix2_1ab squeezes_S1x8x100000_S8x100000.numel_eq r q)).trans (slotIdx s hs h r q)

/-- The rectangle at slot `s` covers the elements of that slot. -/
theorem rect_slot_set (s : ℕ) (hs : s < 2) (h : SlotInb ![s, 0, 0]) : (Rect.unit (s := S2x8x100000) ![s, 0, 0] S1x8x100000.size h).set = slotSet s := by
  ext i
  rw [Rect.mem_set_unit, slotSet, Finset.mem_filter]
  constructor
  · intro H; refine ⟨Finset.mem_univ _, ?_⟩; have := H 0; change s ≤ (i 0).val ∧ (i 0).val < s + 1 at this; omega
  · rintro ⟨-, H⟩ a
    match a with
    | ⟨0, _⟩ => show s ≤ (i 0).val ∧ (i 0).val < s + 1; omega
    | ⟨1, _⟩ => show 0 ≤ (i 1).val ∧ (i 1).val < 0 + 8; exact ⟨Nat.zero_le _, by have := (i 1).isLt; change (i 1).val < 8 at this; omega⟩
    | ⟨2, _⟩ => show 0 ≤ (i 2).val ∧ (i 2).val < 0 + 100000; exact ⟨Nat.zero_le _, by have := (i 2).isLt; change (i 2).val < 100000 at this; omega⟩

/-- The rectangle at row `8 b` covers the elements of block `b`. -/
theorem rect_blk_set (b : ℕ) (h : BlkInb ![8 * b, 0]) : (Rect.unit (s := S128x100000) ![8 * b, 0] S8x100000.size h).set = blkSet b := by
  ext i
  rw [Rect.mem_set_unit, blkSet, Finset.mem_filter]
  constructor
  · intro H; exact ⟨Finset.mem_univ _, H 0⟩
  · rintro ⟨-, H⟩ a
    match a with
    | ⟨0, _⟩ => exact H
    | ⟨1, _⟩ => show 0 ≤ (i 1).val ∧ (i 1).val < 0 + 100000; exact ⟨Nat.zero_le _, by have := (i 1).isLt; change (i 1).val < 100000 at this; omega⟩

/-- Incoming slot `s` covers the elements of that slot. -/
theorem slot_set_x (s : ℕ) (hs : s < 2) (h : SlotInb ![s, 0, 0]) : @Eq (Finset S2x8x100000.Idx) (slotOf xM ![s, 0, 0] h).view.set (slotSet s) :=
  (View.set_reshape (xM.slice (Rect.unit (s := S2x8x100000) ![s, 0, 0] S1x8x100000.size h) (fun _ => rfl)).view _).trans
    ((View.set_slice_whole cc0_scratch0 _).trans (rect_slot_set s hs h))
/-- Outgoing slot `s` covers the elements of that slot. -/
theorem slot_set_o (s : ℕ) (hs : s < 2) (h : SlotInb ![s, 0, 0]) : @Eq (Finset S2x8x100000.Idx) (slotOf oM ![s, 0, 0] h).view.set (slotSet s) :=
  (View.set_reshape (oM.slice (Rect.unit (s := S2x8x100000) ![s, 0, 0] S1x8x100000.size h) (fun _ => rfl)).view _).trans
    ((View.set_slice_whole cc0_scratch1 _).trans (rect_slot_set s hs h))
/-- Block `b` of the argument covers the elements of that block. -/
theorem blk_set_a (b : ℕ) (h : BlkInb ![8 * b, 0]) : (blkOf aM ![8 * b, 0] h).view.set = blkSet b :=
  (View.set_slice_whole main_arg0 _).trans (rect_blk_set b h)
/-- Block `b` of the result covers the elements of that block. -/
theorem blk_set_v (b : ℕ) (h : BlkInb ![8 * b, 0]) : (blkOf vM ![8 * b, 0] h).view.set = blkSet b :=
  (View.set_slice_whole main_v0 _).trans (rect_blk_set b h)

/-! ## What the buffers hold -/

/-- The row a block's row is in the array. -/
def rowOf (b r : ℕ) : Fin 128 := ⟨(8 * b + r) % 128, Nat.mod_lt _ (by decide)⟩

/-- Block `b` of the argument, as one slot's vector. -/
def xBlk (A : FVec F S128x100000 .f32) (b : ℕ) : FVec F S1x8x100000 .f32 := fun p => A (ix2 (rowOf b (p 1).val) (p 2))
/-- A slot buffer whose slots hold block `b` of the argument. -/
def XB (A : FVec F S128x100000 .f32) (b : ℕ) : FVec F S2x8x100000 .f32 := fun j => A (ix2 (rowOf b (j 1).val) (j 2))

/-- What trip `k` stores, from what it loads. -/
def tripVal (k : Fin k0_t1_loop.trips) (v : FVec F S1x8x100000 .f32) : FVec F S1x8x100000 .f32 :=
  let v49 := k0_pay4 0#32 1#32 k
  let v50 := k0_pay5 0#32 1#32 k
  let v52 := k0_pay6 0#32 1#32 k
  let v95 := k0_pay17 v49 v50 v52
  let v96 := k0_pay18 v49 v50 v52
  let v98 := k0_pay19 v49 v50 v52
  let v143 := k0_pay30 v95 v96 v98
  let v144 := k0_pay31 v95 v96 v98
  k0_pay1 (k0_pay2 v) (k0_pay42 v143 v144) (k0_pay43 v143 v144)

/-- Trip number `b`. -/
def tripOf (b : ℕ) : Fin k0_t1_loop.trips := ⟨b % 16, by rw [trips_eq]; exact Nat.mod_lt _ (by decide)⟩
/-- A trip is the trip of its own number. -/
theorem tripOf_val (t : Fin k0_t1_loop.trips) : tripOf t.val = t := Fin.ext (Nat.mod_eq_of_lt (trip_lt t))

/-- A slot buffer whose slots hold what trip `b` stores. -/
def OB (A : FVec F S128x100000 .f32) (b : ℕ) : FVec F S2x8x100000 .f32 :=
  fun j => tripVal (tripOf b) (xBlk A b) (ix3 (0 : Fin 1) (j 1) (j 2))
/-- The kernel's result: row `r` is row `r % 8` of what trip `r / 8` stores. -/
def GB (A : FVec F S128x100000 .f32) : FVec F S128x100000 .f32 :=
  fun i => tripVal (tripOf ((i 0).val / 8)) (xBlk A ((i 0).val / 8)) (ix3 (0 : Fin 1) (⟨(i 0).val % 8, Nat.mod_lt _ (by decide)⟩ : Fin 8) (i 1))

/-- Block `b` of the argument written into incoming slot `s`: an element of the slot is then that of `XB`. -/
theorem write_x (A : FVec F S128x100000 .f32) (f : FVec F S2x8x100000 .f32) (s : ℕ) (hs : s < 2) (h : SlotInb ![s, 0, 0]) (b : ℕ) (hb : b < 16) (h' : BlkInb ![8 * b, 0]) (i : S2x8x100000.Idx) (hi : i ∈ slotSet s) :
    @Eq (F .f32) ((slotOf xM ![s, 0, 0] h).view.write (Elt F) f ((blkOf aM ![8 * b, 0] h').view.read (Elt F) A) Finset.univ i) (XB A b i) := by
  have e : i = (slotOf xM ![s, 0, 0] h).view.emb (ix2 (i 1) (i 2)) := by
    refine Eq.trans ?_ (slot_emb_x s hs h _ _).symm
    exact Shape.idx3_ext (Finset.mem_filter.mp hi).2 rfl rfl
  refine (congrArg _ e).trans ?_
  rw [View.write_emb_of_mem _ _ (Finset.mem_univ _)]
  refine (congrArg A (blkIdx b hb h' (i 1) (i 2))).trans (congrArg A (idx2_ext ?_ rfl))
  show 8 * b + (i 1).val = (8 * b + (i 1).val) % 128
  have := (i 1).isLt; change (i 1).val < 8 at this
  omega

/-- What trip `b` stored, written from outgoing slot `s` into block `b` of the result: an element of the block is then that of `GB`. -/
theorem write_v (A : FVec F S128x100000 .f32) (f : FVec F S128x100000 .f32) (s : ℕ) (hs : s < 2) (h : SlotInb ![s, 0, 0]) (b : ℕ) (hb : b < 16) (h' : BlkInb ![8 * b, 0]) (i : S128x100000.Idx) (hi : i ∈ blkSet b) :
    @Eq (F .f32) (((blkOf vM ![8 * b, 0] h').view.write (Elt F) f ((slotOf oM ![s, 0, 0] h).view.read (Elt F) (OB A b)) Finset.univ : FVec F S128x100000 .f32) i) (GB A i) := by
  have hi' := (Finset.mem_filter.mp hi).2
  have e : i = (blkOf vM ![8 * b, 0] h').view.emb (ix2 (⟨(i 0).val % 8, Nat.mod_lt _ (by decide)⟩ : Fin 8) (i 1)) := by
    refine Eq.trans ?_ (blkIdx b hb h' _ _).symm
    refine idx2_ext ?_ rfl
    show (i 0).val = 8 * b + (i 0).val % 8
    omega
  refine (congrArg _ e).trans ?_
  rw [View.write_emb_of_mem _ _ (Finset.mem_univ _)]
  refine (congrArg (OB A b) (slot_emb_o s hs h _ _)).trans ?_
  have hb' : (i 0).val / 8 = b := by omega
  unfold OB GB
  rw [hb']

/-- Slot `s` of a buffer that holds block `b` reads as block `b`. -/
theorem load_x (A : FVec F S128x100000 .f32) (s : ℕ) (hs : s < 2) (h : SlotInb ![s, 0, 0]) (b : ℕ) :
    xM.view.readAt (Elt F) (Rect.unit (s := S2x8x100000) ![s, 0, 0] S1x8x100000.size h).toLoadRect (XB A b) = xBlk A b := by
  funext p
  show A (ix2 (rowOf b (((Rect.unit (s := S2x8x100000) ![s, 0, 0] S1x8x100000.size h).emb p) 1).val) (((Rect.unit (s := S2x8x100000) ![s, 0, 0] S1x8x100000.size h).emb p) 2)) = A _
  refine congrArg A (idx2_ext ?_ ?_)
  · show (rowOf b _).val = (rowOf b _).val
    rw [Rect.emb_apply]
    show (rowOf b (0 + 1 * (p 1).val)).val = _
    rw [Nat.zero_add, Nat.one_mul]
  · show (((Rect.unit (s := S2x8x100000) ![s, 0, 0] S1x8x100000.size h).emb p) 2).val = (p 2).val
    rw [Rect.emb_apply]
    show 0 + 1 * (p 2).val = (p 2).val
    omega

/-- What trip `t` computes, stored into outgoing slot `s`: an element of the slot is then that of `OB`. -/
theorem store_o (A : FVec F S128x100000 .f32) (f : FVec F S2x8x100000 .f32) (s : ℕ) (hs : s < 2) (h : SlotInb ![s, 0, 0]) (t : Fin k0_t1_loop.trips) (i : S2x8x100000.Idx) (hi : i ∈ slotSet s) :
    (oM.access (Rect.unit (s := S2x8x100000) ![s, 0, 0] S1x8x100000.size h)).write (Elt F) f (tripVal t (xBlk A t.val)) Finset.univ i = OB A t.val i := by
  have e : i = (oM.access (Rect.unit (s := S2x8x100000) ![s, 0, 0] S1x8x100000.size h)).emb (ix3 (0 : Fin 1) (i 1) (i 2)) := by
    refine Eq.trans ?_ (slotIdx s hs h _ _).symm
    exact Shape.idx3_ext (Finset.mem_filter.mp hi).2 rfl rfl
  refine (congrArg _ e).trans ?_
  rw [View.write_emb_of_mem _ _ (Finset.mem_univ _)]
  unfold OB
  rw [tripOf_val]; rfl

/-! ## The slots' states -/

/-- Where the incoming buffer lies. -/
abbrev xL (c : Dev nD) : Loc nD τ sig := (c : Thread nD τ).loc cc0_scratch0
/-- Where the outgoing buffer lies. -/
abbrev oL (c : Dev nD) : Loc nD τ sig := (c : Thread nD τ).loc cc0_scratch1
/-- Where the argument lies. -/
abbrev aL (c : Dev nD) : Loc nD τ sig := (c : Thread nD τ).loc main_arg0
/-- Where the result lies. -/
abbrev vL (c : Dev nD) : Loc nD τ sig := (c : Thread nD τ).loc main_v0

/-- The share of the argument that slot `s`'s transfers read with. -/
def shr (s : ℕ) : PosShare TreeShare := if s = 0 then fullShare.left else fullShare.right

/-- What one incoming transfer credits. -/
def Nin : ℕ := Ref.dmaCredit cc0_scratch0 S8x100000 .f32
/-- What one outgoing transfer credits. -/
def Nout : ℕ := Ref.dmaCredit main_v0 S8x100000 .f32

/-- A transfer into an incoming slot credits `Nin`. -/
theorem amount_x (off : Fin 3 → ℕ) (h : SlotInb off) (sm : DmaSem sig) : (slotOf xM off h).view.amount (SemLoc.dma sm) = Nin := rfl
/-- A transfer into a block of the result credits `Nout`. -/
theorem amount_v (off : Fin 2 → ℕ) (h : BlkInb off) (sm : DmaSem sig) : (blkOf vM off h).view.amount (SemLoc.dma sm) = Nout := rfl
/-- An incoming transfer credits something. -/
theorem Nin_pos : 0 < Nin := by
  have := View.amount_pos (slotOf xM ![0, 0, 0] (by decide)).view (SemLoc.dma 0) (by show 0 < S8x100000.numel; simp [Shape.numel, Fin.prod_univ_two])
  rwa [amount_x] at this
/-- An outgoing transfer credits something. -/
theorem Nout_pos : 0 < Nout := by
  have := View.amount_pos (blkOf vM ![0, 0] (by decide)).view (SemLoc.dma 0) (by show 0 < S8x100000.numel; simp [Shape.numel, Fin.prod_univ_two])
  rwa [amount_v] at this

variable (c : Dev nD) (A : FVec F S128x100000 .f32)

/-- Incoming slot `s` at rest: its cell at zero, its elements at some contents, its share of the argument whole. -/
def inFree (s : ℕ) : sProp 𝕄 :=
  iprop(semVal ((c : Thread nD τ), SemLoc.dma (inSem s)) 0 ∗ (∃ f : FVec F S2x8x100000 .f32, xL c ↦[slotSet s]{fullShare} f) ∗ (aL c ↦{shr s} A))
/-- Incoming slot `s` holding block `b` of the argument, its cell at zero. -/
def inFull (s b : ℕ) : sProp 𝕄 :=
  iprop(semVal ((c : Thread nD τ), SemLoc.dma (inSem s)) 0 ∗ (xL c ↦[slotSet s]{fullShare} (XB A b : FVec F S2x8x100000 .f32)) ∗ (aL c ↦{shr s} A))
/-- Incoming slot `s` with the transfer of block `b` of the argument in flight. -/
def inFlight (s b : ℕ) : sProp 𝕄 :=
  iprop(Transfers.Flight countersEmb (c : Thread nD τ) (SemLoc.dma (inSem s)) () Nin
      iprop((xL c ↦[slotSet s]{fullShare} (XB A b : FVec F S2x8x100000 .f32)) ∗ (aL c ↦[blkSet b]{shr s} A))
    ∗ (aL c ↦[Finset.univ \ blkSet b]{shr s} A))
/-- Outgoing slot `s` at rest. -/
def outFree (s : ℕ) : sProp 𝕄 :=
  iprop(semVal ((c : Thread nD τ), SemLoc.dma (outSem s)) 0 ∗ (∃ f : FVec F S2x8x100000 .f32, oL c ↦[slotSet s]{fullShare} f))
/-- Outgoing slot `s` with the transfer into block `b` of the result in flight. -/
def outFlight (s b : ℕ) : sProp 𝕄 :=
  Transfers.Flight countersEmb (c : Thread nD τ) (SemLoc.dma (outSem s)) () Nout
      iprop((vL c ↦[blkSet b]{fullShare} (GB A : FVec F S128x100000 .f32)) ∗ (∃ f : FVec F S2x8x100000 .f32, oL c ↦[slotSet s]{fullShare} f))

variable (𝒱 : Variants) (bd : Option 𝒱.V)

/-- Owning an incoming slot with block `b` written into it is owning it at `XB`. -/
theorem landed_x (f : FVec F S2x8x100000 .f32) (s : ℕ) (hs : s < 2) (h : SlotInb ![s, 0, 0]) (b : ℕ) (hb : b < 16) (h' : BlkInb ![8 * b, 0]) :
    (xL c ↦[slotSet s]{fullShare} ((slotOf xM ![s, 0, 0] h).view.write (Elt F) f ((blkOf aM ![8 * b, 0] h').view.read (Elt F) A) Finset.univ : FVec F S2x8x100000 .f32) : sProp 𝕄)
      = xL c ↦[slotSet s]{fullShare} (XB A b : FVec F S2x8x100000 .f32) :=
  pointsTo_congr (ℓ := xL c) (I := slotSet s) (fun i hi => write_x A f s hs h b hb h' i hi)

/-- Starting the copy of block `b` into incoming slot `s` at rest leaves that copy in flight. -/
theorem issueIn {Q : PUnit → sProp 𝕄} (s : ℕ) (hs : s < 2) (h : SlotInb ![s, 0, 0]) (b : ℕ) (hb : b < 16) (h' : BlkInb ![8 * b, 0])
    (sm : DmaSem sig) (hsm : sm = inSem s) (h1 h2 h3) :
    iprop(inFree c A s ∗ (inFlight c A s b -∗ Q ⟨⟩))
      ⊢ wp frame (wpE (defs₀ (F := F)) 𝒱 (c : Thread nD τ) bd) Set.univ
          (Prog.lift (.enqueueDma (blkOf aM ![8 * b, 0] h') (.here (slotOf xM ![s, 0, 0] h)) (.dma sm) h1 h2 h3)) Q := by
  subst hsm
  unfold inFree inFlight
  iintro ⟨⟨Hv, ⟨%f, Hx⟩, Ha⟩, HQ⟩
  ihave Ha := (pointsTo_split_subset (Finset.subset_univ (blkSet b))).1 $$ Ha
  icases Ha with ⟨Ha, Har⟩
  have hset := blk_set_a b h'
  have key := Transfers.wp_dmaLocal countersEmb 𝒱 (c : Thread nD τ) bd (defs := defs₀ (F := F)) (src := blkOf aM ![8 * b, 0] h') (dst := slotOf xM ![s, 0, 0] h)
    (via := ReadAs.same) (sm := SemLoc.dma (inSem s)) (hsrc := h1) (hdst := h2) (hsem := h3) () Nin (amount_x _ _ _) Nin_pos (le_of_eq (slot_set_x s hs h))
    (k := .ret) (q := shr s) (fs := A) (fd := f) (Q := Q)
  rw [hset] at key
  iapply key $$ [Hv Hx Ha]
  · isplitl [Ha]; · iexact Ha
    isplitl [Hx]; · iexact Hx
    iexact Hv
  iintro Hf
  rw [wp_ret]
  imodintro
  iapply HQ
  isplitl [Hf]
  · iapply (Transfers.Flight_mono countersEmb (c : Thread nD τ) (D := iprop((xL c ↦[slotSet s]{fullShare} ((slotOf xM ![s, 0, 0] h).view.write (Elt F) f ((blkOf aM ![8 * b, 0] h').view.read (Elt F) A) Finset.univ)) ∗ (aL c ↦[blkSet b]{shr s} A)))
      (BIClass.sep_mono (le_of_eq (landed_x c A f s hs h b hb h')) .rfl))
    iexact Hf
  · iexact Har

/-- Waiting for the copy of block `b` into incoming slot `s` leaves the slot full. -/
theorem waitIn {Q : PUnit → sProp 𝕄} (s : ℕ) (hs : s < 2) (h : SlotInb ![s, 0, 0]) (b : ℕ) (hb : b < 16) (h' : BlkInb ![8 * b, 0])
    (sm : DmaSem sig) (hsm : sm = inSem s) (h1 h2) (W : Waits sig Unit) :
    iprop(inFlight c A s b ∗ owes (c : Thread nD τ) 0 W ∗ ((inFull c A s b ∗ ∃ W', owes (c : Thread nD τ) 0 W') -∗ Q ⟨⟩))
      ⊢ wp frame (wpE (defs₀ (F := F)) 𝒱 (c : Thread nD τ) bd) Set.univ
          (Prog.lift (.waitDma2 sm (blkOf aM ![8 * b, 0] h') (slotOf xM ![s, 0, 0] h) h1 h2)) Q := by
  subst hsm
  unfold inFlight inFull
  iintro ⟨⟨Hf, Har⟩, HO, HQ⟩
  have key := Transfers.wp_waitLocal countersEmb 𝒱 (c : Thread nD τ) bd (defs := defs₀ (F := F)) (sem := inSem s) (srcw := blkOf aM ![8 * b, 0] h') (dstw := slotOf xM ![s, 0, 0] h)
    (hsrc := h1) (hdst := h2) (k := .ret) () (N := Nin) (amount_x _ _ 0)
    (D := iprop((xL c ↦[slotSet s]{fullShare} (XB A b : FVec F S2x8x100000 .f32)) ∗ (aL c ↦[blkSet b]{shr s} A))) (W := W) (Q := Q)
  iapply key $$ [Hf HO]
  · isplitl [Hf]; · iexact Hf
    iexact HO
  iintro ⟨⟨Hx, Ha⟩, Hv, HO⟩
  rw [wp_ret]
  imodintro
  iapply HQ
  isplitl [Hx Ha Hv Har]
  · isplitl [Hv]; · iexact Hv
    isplitl [Hx]; · iexact Hx
    iapply (pointsTo_split_subset (Finset.subset_univ (blkSet b))).2
    isplitl [Ha]; · iexact Ha
    iexact Har
  · iexists _; iexact HO

/-- A full incoming slot may be taken for one at rest. -/
theorem inFull_free (s b : ℕ) : (inFull c A s b : sProp 𝕄) ⊢ inFree c A s := by
  unfold inFull inFree
  iintro ⟨Hv, Hx, Ha⟩
  isplitl [Hv]; · iexact Hv
  isplitl [Hx]
  · iexists _; iexact Hx
  iexact Ha

/-- Waiting for the copy out of outgoing slot `s` leaves the slot at rest and block `b` of the result at `GB`. -/
theorem waitOut {Q : PUnit → sProp 𝕄} (s : ℕ) (hs : s < 2) (h : SlotInb ![s, 0, 0]) (b : ℕ) (hb : b < 16) (h' : BlkInb ![8 * b, 0])
    (sm : DmaSem sig) (hsm : sm = outSem s) (h1 h2) (W : Waits sig Unit) :
    iprop(outFlight c A s b ∗ owes (c : Thread nD τ) 0 W
        ∗ ((outFree c s ∗ (vL c ↦[blkSet b]{fullShare} (GB A : FVec F S128x100000 .f32)) ∗ ∃ W', owes (c : Thread nD τ) 0 W') -∗ Q ⟨⟩))
      ⊢ wp frame (wpE (defs₀ (F := F)) 𝒱 (c : Thread nD τ) bd) Set.univ
          (Prog.lift (.waitDma2 sm (slotOf oM ![s, 0, 0] h) (blkOf vM ![8 * b, 0] h') h1 h2)) Q := by
  subst hsm
  unfold outFlight outFree
  iintro ⟨Hf, HO, HQ⟩
  have key := Transfers.wp_waitLocal countersEmb 𝒱 (c : Thread nD τ) bd (defs := defs₀ (F := F)) (sem := outSem s) (srcw := slotOf oM ![s, 0, 0] h) (dstw := blkOf vM ![8 * b, 0] h')
    (hsrc := h1) (hdst := h2) (k := .ret) () (N := Nout) (amount_v _ _ 0)
    (D := iprop((vL c ↦[blkSet b]{fullShare} (GB A : FVec F S128x100000 .f32)) ∗ (∃ f : FVec F S2x8x100000 .f32, oL c ↦[slotSet s]{fullShare} f))) (W := W) (Q := Q)
  iapply key $$ [Hf HO]
  · isplitl [Hf]; · iexact Hf
    iexact HO
  iintro ⟨⟨Hx, Ha⟩, Hv, HO⟩
  rw [wp_ret]
  imodintro
  iapply HQ
  isplitl [Ha Hv]
  · isplitl [Hv]; · iexact Hv
    iexact Ha
  isplitl [Hx]; · iexact Hx
  iexists _; iexact HO

/-- The result array after block `b` has landed out of slot `s`. -/
def putV (f : FVec F S128x100000 .f32) (s : ℕ) (h : SlotInb ![s, 0, 0]) (b : ℕ) (h' : BlkInb ![8 * b, 0]) : FVec F S128x100000 .f32 :=
  View.write (Elt F) (blkOf vM ![8 * b, 0] h').view f ((slotOf oM ![s, 0, 0] h).view.read (Elt F) (OB A b)) Finset.univ

/-- Owning block `b` of the result after the copy into it is owning it at `GB`. -/
theorem landed_v (f : FVec F S128x100000 .f32) (s : ℕ) (hs : s < 2) (h : SlotInb ![s, 0, 0]) (b : ℕ) (hb : b < 16) (h' : BlkInb ![8 * b, 0]) :
    (vL c ↦[blkSet b]{fullShare} (putV A f s h b h') : sProp 𝕄) = vL c ↦[blkSet b]{fullShare} (GB A : FVec F S128x100000 .f32) :=
  pointsTo_congr (ℓ := vL c) (I := blkSet b) (fun i hi => write_v A f s hs h b hb h' i hi)

set_option maxRecDepth 8192 in
/-- Starting the copy of what trip `b` stored out of slot `s` leaves that copy in flight. -/
theorem issueOut {Q : PUnit → sProp 𝕄} (s : ℕ) (hs : s < 2) (h : SlotInb ![s, 0, 0]) (b : ℕ) (hb : b < 16) (h' : BlkInb ![8 * b, 0])
    (sm : DmaSem sig) (hsm : sm = outSem s) (h1 h2 h3) (f : FVec F S128x100000 .f32) :
    iprop(semVal ((c : Thread nD τ), SemLoc.dma (outSem s)) 0 ∗ (oL c ↦[slotSet s]{fullShare} (OB A b : FVec F S2x8x100000 .f32)) ∗ (vL c ↦[blkSet b]{fullShare} f)
        ∗ (outFlight c A s b -∗ Q ⟨⟩))
      ⊢ wp frame (wpE (defs₀ (F := F)) 𝒱 (c : Thread nD τ) bd) Set.univ
          (Prog.lift (.enqueueDma (slotOf oM ![s, 0, 0] h) (.here (blkOf vM ![8 * b, 0] h')) (.dma sm) h1 h2 h3)) Q := by
  subst hsm
  unfold outFlight
  iintro ⟨Hv, Ho, Hr, HQ⟩
  have hset := slot_set_o s hs h
  have key := Transfers.wp_dmaLocal countersEmb 𝒱 (c : Thread nD τ) bd (defs := defs₀ (F := F)) (src := slotOf oM ![s, 0, 0] h) (dst := blkOf vM ![8 * b, 0] h')
    (via := ReadAs.same) (sm := SemLoc.dma (outSem s)) (hsrc := h1) (hdst := h2) (hsem := h3) () Nout (amount_v _ _ _) Nout_pos (le_of_eq (blk_set_v b h'))
    (k := .ret) (q := fullShare) (fs := OB A b) (fd := f) (Q := Q)
  rw [hset] at key
  iapply key $$ [Hv Ho Hr]
  · isplitl [Ho]; · iexact Ho
    isplitl [Hr]; · iexact Hr
    iexact Hv
  iintro Hf
  rw [wp_ret]
  imodintro
  iapply HQ
  have hD : iprop((vL c ↦[blkSet b]{fullShare} (putV A f s h b h'))
        ∗ (oL c ↦[slotSet s]{fullShare} (OB A b : FVec F S2x8x100000 .f32)) : sProp 𝕄)
      ⊢ iprop((vL c ↦[blkSet b]{fullShare} (GB A : FVec F S128x100000 .f32)) ∗ (∃ f : FVec F S2x8x100000 .f32, oL c ↦[slotSet s]{fullShare} f)) := by
    rw [landed_v c A f s hs h b hb h']
    iintro ⟨H1, H2⟩
    isplitl [H1]; · iexact H1
    iexists _; iexact H2
  iapply (Transfers.Flight_mono countersEmb (c : Thread nD τ) hD)
  iexact Hf

/-- Loading a full incoming slot gives block `b` of the argument. -/
theorem loadX {Q : Vec F S1x8x100000 .f32 → sProp 𝕄} (s : ℕ) (hs : s < 2) (h : SlotInb ![s, 0, 0]) (b : ℕ) (h1) :
    iprop(inFull c A s b ∗ (inFull c A s b -∗ Q (xBlk A b)))
      ⊢ wp frame (wpE (defs₀ (F := F)) 𝒱 (c : Thread nD τ) bd) Set.univ
          (Prog.lift (.load xM (Rect.unit (s := S2x8x100000) ![s, 0, 0] S1x8x100000.size h).toLoadRect h1)) Q := by
  unfold inFull
  iintro ⟨⟨Hv, Hx, Ha⟩, HQ⟩
  have key := wp_load (defs := defs₀ (F := F)) 𝒱 (c : Thread nD τ) bd (Γ := .empty) Set.univ (m := xM) (r := (Rect.unit (s := S2x8x100000) ![s, 0, 0] S1x8x100000.size h).toLoadRect) (hl := h1)
    (k := .ret) (q := fullShare) (f := XB A b) (S := slotSet s) (Q := Q) (by
      rw [← rect_slot_set s hs h]; exact (Finset.map_refl).le)
  rw [load_x A s hs h b] at key
  iapply key $$ Hx
  iintro Hx
  rw [wp_ret]
  imodintro
  iapply HQ
  isplitl [Hv]; · iexact Hv
  isplitl [Hx]; · iexact Hx
  iexact Ha

/-- Loading an outgoing slot at rest gives some vector and changes nothing. -/
theorem loadO {Q : Vec F S1x8x100000 .f32 → sProp 𝕄} (s : ℕ) (hs : s < 2) (h : SlotInb ![s, 0, 0]) (h1) :
    iprop(outFree c s ∗ (∀ v, outFree c s -∗ Q v))
      ⊢ wp frame (wpE (defs₀ (F := F)) 𝒱 (c : Thread nD τ) bd) Set.univ
          (Prog.lift (.load oM (Rect.unit (s := S2x8x100000) ![s, 0, 0] S1x8x100000.size h).toLoadRect h1)) Q := by
  unfold outFree
  iintro ⟨⟨Hv, ⟨%f, Ho⟩⟩, HQ⟩
  have key := wp_load (defs := defs₀ (F := F)) 𝒱 (c : Thread nD τ) bd (Γ := .empty) Set.univ (m := oM) (r := (Rect.unit (s := S2x8x100000) ![s, 0, 0] S1x8x100000.size h).toLoadRect) (hl := h1)
    (k := .ret) (q := fullShare) (f := f) (S := slotSet s) (Q := Q) (by
      rw [← rect_slot_set s hs h]; exact (Finset.map_refl).le)
  iapply key $$ Ho
  iintro Ho
  rw [wp_ret]
  imodintro
  iapply HQ
  isplitl [Hv]; · iexact Hv
  iexists _; iexact Ho

/-- Owning an outgoing slot with the result of trip `t` stored into it is owning it at `OB`. -/
theorem stored_o (f : FVec F S2x8x100000 .f32) (s : ℕ) (hs : s < 2) (h : SlotInb ![s, 0, 0]) (t : Fin k0_t1_loop.trips) :
    (oL c ↦[slotSet s]{fullShare} ((oM.access (Rect.unit (s := S2x8x100000) ![s, 0, 0] S1x8x100000.size h)).write (Elt F) f (tripVal t (xBlk A t.val)) Finset.univ : FVec F S2x8x100000 .f32) : sProp 𝕄)
      = oL c ↦[slotSet s]{fullShare} (OB A t.val : FVec F S2x8x100000 .f32) :=
  pointsTo_congr (ℓ := oL c) (I := slotSet s) (fun i hi => store_o A f s hs h t i hi)

/-- Storing the result of trip `t` into an outgoing slot at rest leaves the slot at `OB`. -/
theorem storeO {Q : PUnit → sProp 𝕄} (s : ℕ) (hs : s < 2) (h : SlotInb ![s, 0, 0]) (t : Fin k0_t1_loop.trips) (h1 h2) :
    iprop(outFree c s ∗ ((semVal ((c : Thread nD τ), SemLoc.dma (outSem s)) 0 ∗ (oL c ↦[slotSet s]{fullShare} (OB A t.val : FVec F S2x8x100000 .f32))) -∗ Q ⟨⟩))
      ⊢ wp frame (wpE (defs₀ (F := F)) 𝒱 (c : Thread nD τ) bd) Set.univ
          (Prog.lift (.store oM (Rect.unit (s := S2x8x100000) ![s, 0, 0] S1x8x100000.size h) (tripVal t (xBlk A t.val)) Finset.univ h1 h2)) Q := by
  unfold outFree
  iintro ⟨⟨Hv, ⟨%f, Ho⟩⟩, HQ⟩
  have key := wp_store (defs := defs₀ (F := F)) 𝒱 (c : Thread nD τ) bd (Γ := .empty) Set.univ (m := oM) (r := Rect.unit (s := S2x8x100000) ![s, 0, 0] S1x8x100000.size h) (w := tripVal t (xBlk A t.val)) (Mk := Finset.univ)
    (hx := h1) (hm := h2) (k := .ret) (f := f) (S := slotSet s) (Q := Q)
    (le_of_eq ((View.set_slice_whole cc0_scratch1 _).trans (rect_slot_set s hs h)))
  iapply key $$ Ho
  iintro Ho
  rw [wp_ret]
  imodintro
  iapply HQ
  isplitl [Hv]; · iexact Hv
  rw [← stored_o c A f s hs h t]
  iexact Ho

end Cert.KernelIdeal.Hand

end
-- ==== Proof.KTrip.lean ====
module

public import proofs.«01_k».proof.Proof.KBody

/-!
# One trip of the kernel's loop

The steps of `KBody` at the offsets that a trip computes, the loop's invariant, and one trip: from the invariant before
trip `k` to the invariant after it.
-/

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the transfers' counters. -/
local notation "𝕄" => MT nD τ sig Unit (Elt F) ℕ (Pipeline.UD sig nD τ) ℕ

variable (c : Dev nD) (A : FVec F S128x100000 .f32) (𝒱 : Variants) (bd : Option 𝒱.V)

/-! ## The steps at the program's own offsets -/

/-- `issueIn` at offsets that are equal to those of slot `s` and block `b`. -/
theorem issueInAt {Q : PUnit → sProp 𝕄} (s : ℕ) (hs : s < 2) (b : ℕ) (hb : b < 16) (off : Fin 3 → ℕ) (h : SlotInb off) (e : off = ![s, 0, 0])
    (off' : Fin 2 → ℕ) (h' : BlkInb off') (e' : off' = ![8 * b, 0]) (o'' : Fin 1 → ℕ) (h'') (e'' : o'' = ![s]) (h1 h2 h3) :
    iprop(inFree c A s ∗ (inFlight c A s b -∗ Q ⟨⟩))
      ⊢ wp frame (wpE (defs₀ (F := F)) 𝒱 (c : Thread nD τ) bd) Set.univ
          (Prog.lift (.enqueueDma (blkOf aM off' h') (.here (slotOf xM off h)) (.dma (cellOf cc0_scratch2 o'' h'')) h1 h2 h3)) Q := by
  subst e e'
  exact issueIn c A 𝒱 bd s hs h b hb h' _ (cellOf_in _ _ s hs e'') h1 h2 h3

/-- `waitIn` at offsets that are equal to those of slot `s` and block `b`. -/
theorem waitInAt {Q : PUnit → sProp 𝕄} (s : ℕ) (hs : s < 2) (b : ℕ) (hb : b < 16) (off : Fin 3 → ℕ) (h : SlotInb off) (e : off = ![s, 0, 0])
    (off' : Fin 2 → ℕ) (h' : BlkInb off') (e' : off' = ![8 * b, 0]) (o'' : Fin 1 → ℕ) (h'') (e'' : o'' = ![s]) (h1 h2) (W : Waits sig Unit) :
    iprop(inFlight c A s b ∗ owes (c : Thread nD τ) 0 W ∗ ((inFull c A s b ∗ ∃ W', owes (c : Thread nD τ) 0 W') -∗ Q ⟨⟩))
      ⊢ wp frame (wpE (defs₀ (F := F)) 𝒱 (c : Thread nD τ) bd) Set.univ
          (Prog.lift (.waitDma2 (cellOf cc0_scratch2 o'' h'') (blkOf aM off' h') (slotOf xM off h) h1 h2)) Q := by
  subst e e'
  exact waitIn c A 𝒱 bd s hs h b hb h' _ (cellOf_in _ _ s hs e'') h1 h2 W

/-- `waitOut` at offsets that are equal to those of slot `s` and block `b`. -/
theorem waitOutAt {Q : PUnit → sProp 𝕄} (s : ℕ) (hs : s < 2) (b : ℕ) (hb : b < 16) (off : Fin 3 → ℕ) (h : SlotInb off) (e : off = ![s, 0, 0])
    (off' : Fin 2 → ℕ) (h' : BlkInb off') (e' : off' = ![8 * b, 0]) (o'' : Fin 1 → ℕ) (h'') (e'' : o'' = ![s]) (h1 h2) (W : Waits sig Unit) :
    iprop(outFlight c A s b ∗ owes (c : Thread nD τ) 0 W
        ∗ ((outFree c s ∗ (vL c ↦[blkSet b]{fullShare} (GB A : FVec F S128x100000 .f32)) ∗ ∃ W', owes (c : Thread nD τ) 0 W') -∗ Q ⟨⟩))
      ⊢ wp frame (wpE (defs₀ (F := F)) 𝒱 (c : Thread nD τ) bd) Set.univ
          (Prog.lift (.waitDma2 (cellOf cc0_scratch3 o'' h'') (slotOf oM off h) (blkOf vM off' h') h1 h2)) Q := by
  subst e e'
  exact waitOut c A 𝒱 bd s hs h b hb h' _ (cellOf_out _ _ s hs e'') h1 h2 W

/-- `issueOut` at offsets that are equal to those of slot `s` and block `b`. -/
theorem issueOutAt {Q : PUnit → sProp 𝕄} (s : ℕ) (hs : s < 2) (b : ℕ) (hb : b < 16) (off : Fin 3 → ℕ) (h : SlotInb off) (e : off = ![s, 0, 0])
    (off' : Fin 2 → ℕ) (h' : BlkInb off') (e' : off' = ![8 * b, 0]) (o'' : Fin 1 → ℕ) (h'') (e'' : o'' = ![s]) (h1 h2 h3) (f : FVec F S128x100000 .f32) :
    iprop(semVal ((c : Thread nD τ), SemLoc.dma (outSem s)) 0 ∗ (oL c ↦[slotSet s]{fullShare} (OB A b : FVec F S2x8x100000 .f32)) ∗ (vL c ↦[blkSet b]{fullShare} f)
        ∗ (outFlight c A s b -∗ Q ⟨⟩))
      ⊢ wp frame (wpE (defs₀ (F := F)) 𝒱 (c : Thread nD τ) bd) Set.univ
          (Prog.lift (.enqueueDma (slotOf oM off h) (.here (blkOf vM off' h')) (.dma (cellOf cc0_scratch3 o'' h'')) h1 h2 h3)) Q := by
  subst e e'
  exact issueOut c A 𝒱 bd s hs h b hb h' _ (cellOf_out _ _ s hs e'') h1 h2 h3 f

/-- `loadX` at an offset that is equal to that of slot `s`. -/
theorem loadXAt {Q : Vec F S1x8x100000 .f32 → sProp 𝕄} (s : ℕ) (hs : s < 2) (off : Fin 3 → ℕ) (h : SlotInb off) (e : off = ![s, 0, 0]) (b : ℕ) (h1) :
    iprop(inFull c A s b ∗ (inFull c A s b -∗ Q (xBlk A b)))
      ⊢ wp frame (wpE (defs₀ (F := F)) 𝒱 (c : Thread nD τ) bd) Set.univ
          (Prog.lift (.load xM (Rect.unit (s := S2x8x100000) off S1x8x100000.size h).toLoadRect h1)) Q := by
  subst e; exact loadX c A 𝒱 bd s hs h b h1

/-- `loadO` at an offset that is equal to that of slot `s`. -/
theorem loadOAt {Q : Vec F S1x8x100000 .f32 → sProp 𝕄} (s : ℕ) (hs : s < 2) (off : Fin 3 → ℕ) (h : SlotInb off) (e : off = ![s, 0, 0]) (h1) :
    iprop(outFree c s ∗ (∀ v, outFree c s -∗ Q v))
      ⊢ wp frame (wpE (defs₀ (F := F)) 𝒱 (c : Thread nD τ) bd) Set.univ
          (Prog.lift (.load oM (Rect.unit (s := S2x8x100000) off S1x8x100000.size h).toLoadRect h1)) Q := by
  subst e; exact loadO c 𝒱 bd s hs h h1

/-- `storeO` at an offset that is equal to that of slot `s`. -/
theorem storeOAt {Q : PUnit → sProp 𝕄} (s : ℕ) (hs : s < 2) (off : Fin 3 → ℕ) (h : SlotInb off) (e : off = ![s, 0, 0]) (t : Fin k0_t1_loop.trips) (h1 h2) :
    iprop(outFree c s ∗ ((semVal ((c : Thread nD τ), SemLoc.dma (outSem s)) 0 ∗ (oL c ↦[slotSet s]{fullShare} (OB A t.val : FVec F S2x8x100000 .f32))) -∗ Q ⟨⟩))
      ⊢ wp frame (wpE (defs₀ (F := F)) 𝒱 (c : Thread nD τ) bd) Set.univ
          (Prog.lift (.store oM (Rect.unit (s := S2x8x100000) off S1x8x100000.size h) (tripVal t (xBlk A t.val)) Finset.univ h1 h2)) Q := by
  subst e; exact storeO c A 𝒱 bd s hs h t h1 h2

/-! ## The invariant -/

/-- The incoming slot of block `k` before trip `k`: its transfer in flight, or, past the last block, the slot at rest. -/
def inNow (k : ℕ) : sProp 𝕄 := if k < 16 then inFlight c A (k % 2) k else inFree c A (k % 2)
/-- Outgoing slot `s` before trip `k`: the transfer of trip `k - j` in flight, or, where there was no such trip, the slot at rest. -/
def outNow (k j s : ℕ) : sProp 𝕄 := if j ≤ k then outFlight c A s (k - j) else outFree c s

/-- Before trip `k`: block `k` on its way in, the other incoming slot at rest; the results of the trips `k - 2` and `k - 1` on their way out;
    the blocks before those landed, the blocks from `k` on at some contents. -/
def Inv (k : ℕ) : sProp 𝕄 :=
  iprop(inNow c A k ∗ inFree c A ((k + 1) % 2) ∗ outNow c A k 2 (k % 2) ∗ outNow c A k 1 ((k + 1) % 2)
    ∗ (vL c ↦[loSet (8 * (k - 2))]{fullShare} (GB A : FVec F S128x100000 .f32))
    ∗ (∃ f : FVec F S128x100000 .f32, vL c ↦[hiSet (8 * k)]{fullShare} f)
    ∗ ∃ W, owes (c : Thread nD τ) 0 W)

/-- A parity is below two. -/
theorem mod2_lt (k : ℕ) : k % 2 < 2 := Nat.mod_lt _ (by decide)

/-- Block `k` lies in the rows from `8 k` on. -/
theorem blk_sub_hi (k : ℕ) : blkSet k ⊆ hiSet (8 * k) := fun i hi => by
  have := (Finset.mem_filter.mp hi).2
  exact Finset.mem_filter.mpr ⟨Finset.mem_univ _, this.1⟩
/-- Without block `k`, the rows from `8 k` on are the rows from the next block on. -/
theorem hi_sdiff (k : ℕ) : hiSet (8 * k) \ blkSet k = hiSet (8 * (k + 1)) := by
  ext i
  simp only [hiSet, blkSet, Finset.mem_sdiff, Finset.mem_filter, Finset.mem_univ, true_and]
  omega
/-- The rows below a block are among those below the next. -/
theorem lo_sub (k : ℕ) : loSet (8 * k) ⊆ loSet (8 * (k + 1)) := fun i hi => by
  have := (Finset.mem_filter.mp hi).2
  exact Finset.mem_filter.mpr ⟨Finset.mem_univ _, by omega⟩
/-- The rows below block `k + 1` that are not below block `k` are block `k`. -/
theorem lo_sdiff (k : ℕ) : loSet (8 * (k + 1)) \ loSet (8 * k) = blkSet k := by
  ext i
  simp only [loSet, blkSet, Finset.mem_sdiff, Finset.mem_filter, Finset.mem_univ, true_and]
  omega

/-- A block landed beside the rows below it. -/
theorem join_lo (k : ℕ) (g : FVec F S128x100000 .f32) :
    iprop((vL c ↦[loSet (8 * k)]{fullShare} g) ∗ (vL c ↦[blkSet k]{fullShare} g) : sProp 𝕄) ⊢ vL c ↦[loSet (8 * (k + 1))]{fullShare} g := by
  have h := (pointsTo_split_subset (Val := Elt F) (Ix := Unit) (Name := ℕ) (U := Pipeline.UD sig nD τ) (Lvl := ℕ) (ℓ := vL c) (q := fullShare) (f := g) (lo_sub k)).2
  rw [lo_sdiff] at h
  exact h
/-- The first block taken off the rows from it on. -/
theorem split_hi (k : ℕ) (g : FVec F S128x100000 .f32) :
    (vL c ↦[hiSet (8 * k)]{fullShare} g : sProp 𝕄) ⊢ iprop((vL c ↦[blkSet k]{fullShare} g) ∗ (vL c ↦[hiSet (8 * (k + 1))]{fullShare} g)) := by
  have h := (pointsTo_split_subset (Val := Elt F) (Ix := Unit) (Name := ℕ) (U := Pipeline.UD sig nD τ) (Lvl := ℕ) (ℓ := vL c) (q := fullShare) (f := g) (blk_sub_hi k)).1
  rw [hi_sdiff] at h
  exact h

/-! ## One trip -/

/-- Up to the last block, the transfer is in flight. -/
theorem inNow_flight (k : ℕ) (h : k < 16) : (inNow c A k : sProp 𝕄) = inFlight c A (k % 2) k := if_pos h
/-- Past the last block, the incoming slot is at rest. -/
theorem inNow_free (k : ℕ) (h : ¬ k < 16) : (inNow c A k : sProp 𝕄) = inFree c A (k % 2) := if_neg h
/-- Where trip `k - j` took place, its transfer is in flight. -/
theorem outNow_flight (k j s : ℕ) (h : j ≤ k) : (outNow c A k j s : sProp 𝕄) = outFlight c A s (k - j) := if_pos h
/-- Where there was no trip `k - j`, the outgoing slot is at rest. -/
theorem outNow_free (k j s : ℕ) (h : ¬ j ≤ k) : (outNow c A k j s : sProp 𝕄) = outFree c s := if_neg h

/-- The first piece of a trip: the next block's transfer started, block `t` waited for and loaded, and the outgoing slot freed. -/
theorem part1 (t : Fin k0_t1_loop.trips) {Q} :
    (iprop(inNow c A t.val ∗ inFree c A ((t.val + 1) % 2) ∗ outNow c A t.val 2 (t.val % 2)
        ∗ (vL c ↦[loSet (8 * (t.val - 2))]{fullShare} (GB A : FVec F S128x100000 .f32)) ∗ (∃ W, owes (c : Thread nD τ) 0 W)
        ∗ ((inNow c A (t.val + 1) ∗ inFull c A (t.val % 2) t.val ∗ outFree c (t.val % 2)
            ∗ (vL c ↦[loSet (8 * (t.val - 1))]{fullShare} (GB A : FVec F S128x100000 .f32)) ∗ (∃ W, owes (c : Thread nD τ) 0 W))
          -∗ Q ⟨Scf.iv 0#32 1#32 t, Scalar.remsi (Scf.iv 0#32 1#32 t) 2#32, k0_pay2 (xBlk A t.val), k0_pay4 0#32 1#32 t, k0_pay5 0#32 1#32 t, k0_pay6 0#32 1#32 t⟩)) : sProp 𝕄)
      ⊢ wp frame (wpE (defs₀ (F := F)) 𝒱 (c : Thread nD τ) bd) Set.univ
          (k0_part1_skel (F := F) aM (Memref.isWhole_whole _) vM (Memref.isWhole_whole _) xM (Memref.isWhole_whole _) oM (Memref.isWhole_whole _) cc0_scratch2 cc0_scratch3 0#32 1#32 t) Q := by
  have ht := trip_lt t
  unfold k0_part1_skel
  rw [inNow_flight c A t.val ht]
  by_cases hc1 : k0_cond1 t = 1#1
  · have hk := (cond1_iff t).mp hc1
    by_cases hc2 : k0_cond2 t = 1#1
    · have h2 := (cond2_iff t).mp hc2
      rw [inNow_flight c A _ hk, dif_pos hc1]
      rw [outNow_flight c A _ _ _ h2]
      simp only [dif_pos hc2, wp_bind, wp_pure]
      have e2 : t.val - 2 + 1 = t.val - 1 := by omega
      rw [← e2]
      iintro ⟨Hin, Hif, Ho2, Hlo, ⟨%W, HO⟩, HQ⟩
      iapply (issueInAt c A 𝒱 bd ((t.val + 1) % 2) (mod2_lt _) (t.val + 1) hk (k0_off2 t) (k0_off2_inb t hc1) (off2_eq t) (k0_off3 t) (k0_off3_inb t hc1) (off3_eq t hk)
        (k0_off1 t) (k0_off1_inb t hc1) (off1_eq t) _ _ _)
      isplitl [Hif]; · iexact Hif
      iintro Hn
      iapply (waitInAt c A 𝒱 bd (t.val % 2) (mod2_lt _) t.val ht (k0_off5 t) (k0_off5_inb t) (off5_eq t) (k0_off6 t) (k0_off6_inb t) (off6_eq t)
        (k0_off4 t) (k0_off4_inb t) (off4_eq t) _ _ W)
      isplitl [Hin]; · iexact Hin
      isplitl [HO]; · iexact HO
      iintro ⟨Hx, ⟨%W', HO⟩⟩
      iapply (waitOutAt c A 𝒱 bd (t.val % 2) (mod2_lt _) (t.val - 2) (by omega) (k0_off9 t) (k0_off9_inb t hc2) (off9_eq t) (k0_off8 t) (k0_off8_inb t hc2) (off8_eq t h2)
        (k0_off7 t) (k0_off7_inb t hc2) (off7_eq t) _ _ W')
      isplitl [Ho2]; · iexact Ho2
      isplitl [HO]; · iexact HO
      iintro ⟨Ho2, Hb, ⟨%W'', HO⟩⟩
      ihave Hlo := (join_lo c (t.val - 2) (GB A)) $$ [Hlo Hb]
      · isplitl [Hlo]; · iexact Hlo
        iexact Hb
      iapply (loadXAt c A 𝒱 bd (t.val % 2) (mod2_lt _) (k0_off10 t) (k0_off10_inb t) (off10_eq t) t.val _)
      isplitl [Hx]; · iexact Hx
      iintro Hx
      imodintro
      iapply HQ
      isplitl [Hn]; · iexact Hn
      isplitl [Hx]; · iexact Hx
      isplitl [Ho2]; · iexact Ho2
      isplitl [Hlo]; · iexact Hlo
      iexists _; iexact HO
    · have h2 : ¬ 2 ≤ t.val := fun h => hc2 ((cond2_iff t).mpr h)
      rw [inNow_flight c A _ hk, dif_pos hc1]
      have e2 : t.val - 2 = t.val - 1 := by omega
      rw [outNow_free c A _ _ _ h2, e2]
      simp only [dif_neg hc2, wp_bind, wp_pure]
      iintro ⟨Hin, Hif, Ho2, Hlo, ⟨%W, HO⟩, HQ⟩
      iapply (issueInAt c A 𝒱 bd ((t.val + 1) % 2) (mod2_lt _) (t.val + 1) hk (k0_off2 t) (k0_off2_inb t hc1) (off2_eq t) (k0_off3 t) (k0_off3_inb t hc1) (off3_eq t hk)
        (k0_off1 t) (k0_off1_inb t hc1) (off1_eq t) _ _ _)
      isplitl [Hif]; · iexact Hif
      iintro Hn
      iapply (waitInAt c A 𝒱 bd (t.val % 2) (mod2_lt _) t.val ht (k0_off5 t) (k0_off5_inb t) (off5_eq t) (k0_off6 t) (k0_off6_inb t) (off6_eq t)
        (k0_off4 t) (k0_off4_inb t) (off4_eq t) _ _ W)
      isplitl [Hin]; · iexact Hin
      isplitl [HO]; · iexact HO
      iintro ⟨Hx, ⟨%W', HO⟩⟩
      iapply (loadXAt c A 𝒱 bd (t.val % 2) (mod2_lt _) (k0_off10 t) (k0_off10_inb t) (off10_eq t) t.val _)
      isplitl [Hx]; · iexact Hx
      iintro Hx
      imodintro
      iapply HQ
      isplitl [Hn]; · iexact Hn
      isplitl [Hx]; · iexact Hx
      isplitl [Ho2]; · iexact Ho2
      isplitl [Hlo]; · iexact Hlo
      iexists _; iexact HO
  · have hk : ¬ t.val + 1 < 16 := fun h => hc1 ((cond1_iff t).mpr h)
    by_cases hc2 : k0_cond2 t = 1#1
    · have h2 := (cond2_iff t).mp hc2
      rw [inNow_free c A _ hk, dif_neg hc1]
      rw [outNow_flight c A _ _ _ h2]
      simp only [dif_pos hc2, wp_bind, wp_pure]
      have e2 : t.val - 2 + 1 = t.val - 1 := by omega
      rw [← e2]
      iintro ⟨Hin, Hn, Ho2, Hlo, ⟨%W, HO⟩, HQ⟩
      iapply (waitInAt c A 𝒱 bd (t.val % 2) (mod2_lt _) t.val ht (k0_off5 t) (k0_off5_inb t) (off5_eq t) (k0_off6 t) (k0_off6_inb t) (off6_eq t)
        (k0_off4 t) (k0_off4_inb t) (off4_eq t) _ _ W)
      isplitl [Hin]; · iexact Hin
      isplitl [HO]; · iexact HO
      iintro ⟨Hx, ⟨%W', HO⟩⟩
      iapply (waitOutAt c A 𝒱 bd (t.val % 2) (mod2_lt _) (t.val - 2) (by omega) (k0_off9 t) (k0_off9_inb t hc2) (off9_eq t) (k0_off8 t) (k0_off8_inb t hc2) (off8_eq t h2)
        (k0_off7 t) (k0_off7_inb t hc2) (off7_eq t) _ _ W')
      isplitl [Ho2]; · iexact Ho2
      isplitl [HO]; · iexact HO
      iintro ⟨Ho2, Hb, ⟨%W'', HO⟩⟩
      ihave Hlo := (join_lo c (t.val - 2) (GB A)) $$ [Hlo Hb]
      · isplitl [Hlo]; · iexact Hlo
        iexact Hb
      iapply (loadXAt c A 𝒱 bd (t.val % 2) (mod2_lt _) (k0_off10 t) (k0_off10_inb t) (off10_eq t) t.val _)
      isplitl [Hx]; · iexact Hx
      iintro Hx
      imodintro
      iapply HQ
      isplitl [Hn]; · iexact Hn
      isplitl [Hx]; · iexact Hx
      isplitl [Ho2]; · iexact Ho2
      isplitl [Hlo]; · iexact Hlo
      iexists _; iexact HO
    · have h2 : ¬ 2 ≤ t.val := fun h => hc2 ((cond2_iff t).mpr h)
      rw [inNow_free c A _ hk, dif_neg hc1]
      have e2 : t.val - 2 = t.val - 1 := by omega
      rw [outNow_free c A _ _ _ h2, e2]
      simp only [dif_neg hc2, wp_bind, wp_pure]
      iintro ⟨Hin, Hn, Ho2, Hlo, ⟨%W, HO⟩, HQ⟩
      iapply (waitInAt c A 𝒱 bd (t.val % 2) (mod2_lt _) t.val ht (k0_off5 t) (k0_off5_inb t) (off5_eq t) (k0_off6 t) (k0_off6_inb t) (off6_eq t)
        (k0_off4 t) (k0_off4_inb t) (off4_eq t) _ _ W)
      isplitl [Hin]; · iexact Hin
      isplitl [HO]; · iexact HO
      iintro ⟨Hx, ⟨%W', HO⟩⟩
      iapply (loadXAt c A 𝒱 bd (t.val % 2) (mod2_lt _) (k0_off10 t) (k0_off10_inb t) (off10_eq t) t.val _)
      isplitl [Hx]; · iexact Hx
      iintro Hx
      imodintro
      iapply HQ
      isplitl [Hn]; · iexact Hn
      isplitl [Hx]; · iexact Hx
      isplitl [Ho2]; · iexact Ho2
      isplitl [Hlo]; · iexact Hlo
      iexists _; iexact HO

/-- An outgoing slot that one more trip has passed. -/
theorem outNow_step (k s : ℕ) : (outNow c A k 1 s : sProp 𝕄) ⊢ outNow c A (k + 1) 2 s := by
  by_cases h1 : 1 ≤ k
  · rw [outNow_flight c A _ _ _ h1, outNow_flight c A _ _ _ (by omega : 2 ≤ k + 1), (by omega : k + 1 - 2 = k - 1)]
  · rw [outNow_free c A _ _ _ h1, outNow_free c A _ _ _ (by omega : ¬ 2 ≤ k + 1)]

/-- One trip of the loop takes the state before trip `t` to the state before trip `t + 1`. -/
theorem trip (t : Fin k0_t1_loop.trips) :
    (Inv c A t.val : sProp 𝕄) ⊢ wp frame (wpE (defs₀ (F := F)) 𝒱 (c : Thread nD τ) bd) Set.univ
      (k0_t1_body (F := F) aM (Memref.isWhole_whole _) vM (Memref.isWhole_whole _) xM (Memref.isWhole_whole _) oM (Memref.isWhole_whole _) cc0_scratch2 cc0_scratch3 t ())
      (fun _ => Inv c A (t.val + 1)) := by
  have ht := trip_lt t
  unfold k0_t1_body
  rw [k0_part1_eq_skeleton, k0_part2_eq_skeleton, k0_part3_eq_skeleton, k0_part4_eq_skeleton]
  unfold k0_part2_skel k0_part3_skel k0_part4_skel
  unfold Inv
  iintro ⟨Hin, Hif, Ho2, Ho1, Hlo, ⟨%f, Hhi⟩, HO⟩
  simp only [wp_bind, wp_pure]
  iapply (part1 c A 𝒱 bd t)
  isplitl [Hin]; · iexact Hin
  isplitl [Hif]; · iexact Hif
  isplitl [Ho2]; · iexact Ho2
  isplitl [Hlo]; · iexact Hlo
  isplitl [HO]; · iexact HO
  iintro ⟨Hn, Hx, Ho2, Hlo, HO⟩
  imodintro
  imodintro
  imodintro
  iapply (loadOAt c 𝒱 bd (t.val % 2) (mod2_lt _) (k0_off10 t) (k0_off10_inb t) (off10_eq t) _)
  isplitl [Ho2]; · iexact Ho2
  iintro %v Ho2
  iapply (storeOAt c A 𝒱 bd (t.val % 2) (mod2_lt _) (k0_off10 t) (k0_off10_inb t) (off10_eq t) t _ _)
  isplitl [Ho2]; · iexact Ho2
  iintro ⟨Hv, Ho⟩
  ihave Hhi := (split_hi c t.val f) $$ Hhi
  icases Hhi with ⟨Hb, Hhi⟩
  iapply (issueOutAt c A 𝒱 bd (t.val % 2) (mod2_lt _) t.val ht (k0_off5 t) (k0_off5_inb t) (off5_eq t) (k0_off6 t) (k0_off6_inb t) (off6_eq t)
    (k0_off4 t) (k0_off4_inb t) (off4_eq t) _ _ _ f)
  isplitl [Hv]; · iexact Hv
  isplitl [Ho]; · iexact Ho
  isplitl [Hb]; · iexact Hb
  iintro Hf
  imodintro
  have e1 : (t.val + 1 + 1) % 2 = t.val % 2 := by omega
  have e2 : t.val + 1 - 2 = t.val - 1 := by omega
  rw [e1, e2]
  isplitl [Hn]; · iexact Hn
  isplitl [Hx]
  · iapply (inFull_free c A (t.val % 2) t.val); iexact Hx
  isplitl [Ho1]
  · iapply (outNow_step c A t.val ((t.val + 1) % 2)); iexact Ho1
  isplitl [Hf]
  · rw [outNow_flight c A _ _ _ (by omega : 1 ≤ t.val + 1), Nat.add_sub_cancel]; iexact Hf
  isplitl [Hlo]; · iexact Hlo
  isplitl [Hhi]
  · iexists _; iexact Hhi
  iexact HO

end Cert.KernelIdeal.Hand

end
-- ==== Proof.KRun.lean ====
module

public import proofs.«01_k».proof.Proof.KTrip
public import Idealize.ShloMosaic.Lib.Pipeline.FrameValue

/-!
# The kernel's run

The sixteen trips in a row, the kernel's body, and its launch: the program terminates, leaves its argument as it was
and every semaphore at zero, and its result array holds `GB` of the argument.
-/

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The proof's resource algebra: the pipeline library's beside the transfers' counters. -/
local notation "𝕄" => MT nD τ sig Unit (Elt F) ℕ (Pipeline.UD sig nD τ) ℕ

section Body

variable (c : Dev nD) (A : FVec F S128x100000 .f32) (𝒱 : Variants) (bd : Option 𝒱.V)

/-! ## Whole buffers and their slots -/

/-- The elements outside slot 0 are those of slot 1. -/
theorem slot_compl : (Finset.univ : Finset S2x8x100000.Idx) \ slotSet 0 = slotSet 1 := by
  ext i
  have h : (i 0).val < 2 := (i 0).isLt
  simp only [slotSet, Finset.mem_sdiff, Finset.mem_filter, Finset.mem_univ, true_and]
  omega
/-- No row is below row 0. -/
theorem lo_zero : loSet 0 = ∅ := by
  ext i; simp [loSet]
/-- Every row is from row 0 on. -/
theorem hi_zero : hiSet 0 = Finset.univ := by
  ext i; simp [hiSet]
/-- Every row is below row 128. -/
theorem lo_all : loSet 128 = Finset.univ := by
  ext i
  have h : (i 0).val < 128 := (i 0).isLt
  simp [loSet, h]

/-- The incoming buffer split into its two slots. -/
theorem split_x (f : FVec F S2x8x100000 .f32) :
    (xL c ↦{fullShare} f : sProp 𝕄) ⊢ iprop((xL c ↦[slotSet 0]{fullShare} f) ∗ (xL c ↦[slotSet 1]{fullShare} f)) := by
  have h := (pointsTo_split_subset (Val := Elt F) (Ix := Unit) (Name := ℕ) (U := Pipeline.UD sig nD τ) (Lvl := ℕ) (ℓ := xL c) (q := fullShare) (f := f) (Finset.subset_univ (slotSet 0))).1
  rw [slot_compl] at h
  exact h
/-- The outgoing buffer split into its two slots. -/
theorem split_o (f : FVec F S2x8x100000 .f32) :
    (oL c ↦{fullShare} f : sProp 𝕄) ⊢ iprop((oL c ↦[slotSet 0]{fullShare} f) ∗ (oL c ↦[slotSet 1]{fullShare} f)) := by
  have h := (pointsTo_split_subset (Val := Elt F) (Ix := Unit) (Name := ℕ) (U := Pipeline.UD sig nD τ) (Lvl := ℕ) (ℓ := oL c) (q := fullShare) (f := f) (Finset.subset_univ (slotSet 0))).1
  rw [slot_compl] at h
  exact h
/-- The two slots of the incoming buffer, joined at what each holds. -/
theorem join_x (f g : FVec F S2x8x100000 .f32) :
    iprop((xL c ↦[slotSet 0]{fullShare} f) ∗ (xL c ↦[slotSet 1]{fullShare} g) : sProp 𝕄) ⊢ iprop(∃ h : FVec F S2x8x100000 .f32, xL c ↦{fullShare} h) := by
  have h := pointsTo_join_subset (Val := Elt F) (Ix := Unit) (Name := ℕ) (U := Pipeline.UD sig nD τ) (Lvl := ℕ) (ℓ := xL c) (q := fullShare) (g := f) (f := g) (Finset.subset_univ (slotSet 0))
  rw [slot_compl] at h
  iintro H
  iexists _
  iapply h
  iexact H
/-- The two slots of the outgoing buffer, joined at what each holds. -/
theorem join_o (f g : FVec F S2x8x100000 .f32) :
    iprop((oL c ↦[slotSet 0]{fullShare} f) ∗ (oL c ↦[slotSet 1]{fullShare} g) : sProp 𝕄) ⊢ iprop(∃ h : FVec F S2x8x100000 .f32, oL c ↦{fullShare} h) := by
  have h := pointsTo_join_subset (Val := Elt F) (Ix := Unit) (Name := ℕ) (U := Pipeline.UD sig nD τ) (Lvl := ℕ) (ℓ := oL c) (q := fullShare) (g := f) (f := g) (Finset.subset_univ (slotSet 0))
  rw [slot_compl] at h
  iintro H
  iexists _
  iapply h
  iexact H
/-- The argument split into the two shares that the incoming transfers read with, and back. -/
theorem share_a : (aL c ↦{fullShare} A : sProp 𝕄) ⊣⊢ iprop((aL c ↦{shr 0} A) ∗ (aL c ↦{shr 1} A)) :=
  pointsTo_share (Val := Elt F) (Ix := Unit) (Name := ℕ) (U := Pipeline.UD sig nD τ) (Lvl := ℕ) (ℓ := aL c) (I := Finset.univ) (f := A) (PosShare.mem_left_op_right fullShare)

/-! ## The body -/

/-- What the body holds around its run: the two buffers at anything, the four cells at zero, the argument, the result at `g`. -/
def Rest : sProp 𝕄 :=
  iprop((∃ f : FVec F S2x8x100000 .f32, xL c ↦{fullShare} f) ∗ (∃ f : FVec F S2x8x100000 .f32, oL c ↦{fullShare} f)
    ∗ semVal ((c : Thread nD τ), SemLoc.dma 0) 0 ∗ semVal ((c : Thread nD τ), SemLoc.dma 1) 0
    ∗ semVal ((c : Thread nD τ), SemLoc.dma 2) 0 ∗ semVal ((c : Thread nD τ), SemLoc.dma 3) 0
    ∗ (aL c ↦{fullShare} A))

/-- The state after the last trip: the incoming slots at rest, the last two outgoing transfers in flight, 112 rows landed. -/
theorem Inv_last : (Inv c A k0_t1_loop.trips : sProp 𝕄) = iprop(inFree c A 0 ∗ inFree c A 1 ∗ outFlight c A 0 14 ∗ outFlight c A 1 15
    ∗ (vL c ↦[loSet (8 * 14)]{fullShare} (GB A : FVec F S128x100000 .f32)) ∗ (∃ f : FVec F S128x100000 .f32, vL c ↦[hiSet (8 * 16)]{fullShare} f)
    ∗ ∃ W, owes (c : Thread nD τ) 0 W) := by
  rw [trips_eq]
  unfold Inv
  rw [inNow_free c A 16 (by decide), outNow_flight c A _ _ _ (by decide), outNow_flight c A _ _ _ (by decide)]

/-- The kernel's body: from its buffers at anything and its cells at zero it leaves `GB A` in the result and the rest as it was. -/
theorem body (g : FVec F S128x100000 .f32) (W : Waits sig Unit) :
    (iprop(Rest c A ∗ (vL c ↦{fullShare} g) ∗ owes (c : Thread nD τ) 0 W) : sProp 𝕄)
      ⊢ wp frame (wpE (defs₀ (F := F)) 𝒱 (c : Thread nD τ) bd) Set.univ (bodyAt0 (F := F) t0_0)
          (fun _ => iprop(Rest c A ∗ (vL c ↦{fullShare} (GB A : FVec F S128x100000 .f32)) ∗ ∃ W', owes (c : Thread nD τ) 0 W')) := by
  unfold bodyAt0
  rw [cc0__body_eq_skeleton]
  unfold cc0__body_skel Rest
  simp only [wp_bind, wp_pure]
  iintro ⟨⟨⟨%f, Hx⟩, ⟨%f', Ho⟩, S0, S1, S2, S3, HA⟩, Hv, HO⟩
  ihave Hx := (split_x c f) $$ Hx
  icases Hx with ⟨Hx0, Hx1⟩
  ihave Ho := (split_o c f') $$ Ho
  icases Ho with ⟨Ho0, Ho1⟩
  ihave HA := (share_a c A).1 $$ HA
  icases HA with ⟨HA0, HA1⟩
  iapply (issueInAt c A 𝒱 bd 0 (by decide) 0 (by decide) ![0, 0, 0] _ rfl ![0, 0] _ rfl ![0] _ rfl _ _ _)
  isplitl [S0 Hx0 HA0]
  · unfold inFree
    isplitl [S0]; · iexact S0
    isplitl [Hx0]; · iexists _; iexact Hx0
    iexact HA0
  iintro Hin
  iapply (Scf.wp_for _ _ _ k0_t1_loop.lb k0_t1_loop.ub k0_t1_loop.st k0_t1_ok _ _ (fun k _ => Inv c A k) (fun k acc => trip c A 𝒱 bd k))
  isplitl
  · unfold Inv
    isplitl [Hin]
    · rw [inNow_flight c A 0 (by decide)]; iexact Hin
    isplitl [S1 Hx1 HA1]
    · unfold inFree
      isplitl [S1]; · iexact S1
      isplitl [Hx1]; · iexists _; iexact Hx1
      iexact HA1
    isplitl [S2 Ho0]
    · rw [outNow_free c A _ _ _ (by decide)]
      unfold outFree
      isplitl [S2]; · iexact S2
      iexists _; iexact Ho0
    isplitl [S3 Ho1]
    · rw [outNow_free c A _ _ _ (by decide)]
      unfold outFree
      isplitl [S3]; · iexact S3
      iexists _; iexact Ho1
    isplitr
    · rw [show loSet (8 * (0 - 2)) = ∅ from lo_zero, pointsTo_empty]; iempintro
    isplitl [Hv]
    · rw [show hiSet (8 * 0) = Finset.univ from hi_zero]; iexists _; iexact Hv
    iexists _; iexact HO
  iintro %acc
  rw [show Scf.trips k0_t1_loop.lb k0_t1_loop.ub k0_t1_loop.st = k0_t1_loop.trips from rfl, Inv_last]
  iintro ⟨Hi0, Hi1, Hf0, Hf1, Hlo, -, ⟨%W0, HO⟩⟩
  iapply (waitOutAt c A 𝒱 bd 0 (by decide) 14 (by decide) ![0, 0, 0] _ rfl ![112, 0] _ rfl ![0] _ rfl _ _ W0)
  isplitl [Hf0]; · iexact Hf0
  isplitl [HO]; · iexact HO
  iintro ⟨Ho0, Hb, ⟨%W1, HO⟩⟩
  ihave Hlo := (join_lo c 14 (GB A)) $$ [Hlo Hb]
  · isplitl [Hlo]; · iexact Hlo
    iexact Hb
  iapply (waitOutAt c A 𝒱 bd 1 (by decide) 15 (by decide) ![1, 0, 0] _ rfl ![120, 0] _ rfl ![1] _ rfl _ _ W1)
  isplitl [Hf1]; · iexact Hf1
  isplitl [HO]; · iexact HO
  iintro ⟨Ho1, Hb, ⟨%W2, HO⟩⟩
  ihave Hlo := (join_lo c 15 (GB A)) $$ [Hlo Hb]
  · isplitl [Hlo]; · iexact Hlo
    iexact Hb
  imodintro
  unfold inFree outFree
  icases Hi0 with ⟨S0, ⟨%fx0, Hx0⟩, HA0⟩
  icases Hi1 with ⟨S1, ⟨%fx1, Hx1⟩, HA1⟩
  icases Ho0 with ⟨S2, ⟨%fo0, Ho0⟩⟩
  icases Ho1 with ⟨S3, ⟨%fo1, Ho1⟩⟩
  isplitl [S0 S1 S2 S3 Hx0 Hx1 HA0 HA1 Ho0 Ho1]
  · isplitl [Hx0 Hx1]
    · iapply (join_x c fx0 fx1)
      isplitl [Hx0]; · iexact Hx0
      iexact Hx1
    isplitl [Ho0 Ho1]
    · iapply (join_o c fo0 fo1)
      isplitl [Ho0]; · iexact Ho0
      iexact Ho1
    isplitl [S0]; · iexact S0
    isplitl [S1]; · iexact S1
    isplitl [S2]; · iexact S2
    isplitl [S3]; · iexact S3
    iapply (share_a c A).2
    isplitl [HA0]; · iexact HA0
    iexact HA1
  isplitl [Hlo]
  · rw [← lo_all]; iexact Hlo
  iexists _; iexact HO

end Body

/-! ## The launch -/

section Launch

variable (m : (ℓ : Loc nD τ sig) → Buf (Elt F) ℓ) (ρ : Dev nD → PrngReg)

/-- The one array that the body reads where it lies. -/
def H0 : Finset (Ref sig .tc) := {main_arg0}
/-- The one array that the body writes where it lies. -/
def R0 : Finset (Ref sig .tc) := {main_v0}

/-- What the buffers hold when the kernel starts. -/
abbrev V0 (c : Dev nD) (b : Ref sig .tc) : Buf (Elt F) ((c : Thread nD τ).loc b) := m ((c : Thread nD τ).loc b)
/-- What the buffers hold when the kernel ends: the result at `GB` of the argument, the others as they were. -/
def G0 (c : Dev nD) : (b : Ref sig .tc) → Buf (Elt F) ((c : Thread nD τ).loc b) :=
  Function.update (V0 m c) main_v0 (GB (F := F) (m (aL c)) : Buf (Elt F) (vL c))
/-- At the end the result holds `GB` of the argument. -/
theorem G0_v0 (c : Dev nD) : G0 m c main_v0 = (GB (F := F) (m (aL c)) : Buf (Elt F) (vL c)) := Function.update_self ..

/-- The program is its one region, from the buffers' starting contents. -/
theorem hmainU (𝒱₀ : Variants) : Pipeline.HMain (Ix := Unit) (Name := ℕ) (U := Pipeline.UD sig nD τ) (Lvl := ℕ) cfgs 0 defs₀ 𝒱₀ m (main (F := F)) (V0 m) :=
  Pipeline.hmain_region cfgs 0 defs₀ 𝒱₀ m main fun c => (main_chain c).trans rfl

/-- The kernel's own four cells. -/
abbrev osem0 : Fin 4 → SemLoc sig := fun j => (![SemLoc.dma 0, SemLoc.dma 1, SemLoc.dma 2, SemLoc.dma 3] : Fin 4 → SemLoc sig) j
/-- The four cells are the kernel's own: distinct, and none of the pipeline's. -/
theorem ownSemFacts0 : Pipeline.OwnSemFacts cfg0.spec osem0 := by decide
/-- The four cells at zero, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0
          ∗ semVal ((c : Thread nD τ), SemLoc.dma 2) 0 ∗ semVal ((c : Thread nD τ), SemLoc.dma 3) 0) := by
  rw [Pipeline.ownSems0_eq_of_list c osem0 [0, 1, 2, 3] (by decide) (by decide)]; rfl
/-- The array that is read where it lies is none of the staged ones. -/
theorem H0_sub : H0 ⊆ Pipeline.restRefs sig cfg0.spec := by decide
/-- The array that is written where it lies is none of the staged ones, nor the one that is read. -/
theorem R0_sub : R0 ⊆ Pipeline.restRefs sig cfg0.spec \ H0 := by decide

/-- The launch's invariant is the body's holdings beside the generator register, the result at `G`'s contents. -/
theorem inv_eq (c : Dev nD) (G : (c : Dev nD) → (b : Ref sig .tc) → Buf (Elt F) ((c : Thread nD τ).loc b)) :
    (Pipeline.ΦDRG osem0 cfg0.spec H0 R0 (V0 m) G c : sProp 𝕄)
      = iprop(((∃ f : FVec F S2x8x100000 .f32, xL c ↦{fullShare} f) ∗ (∃ f : FVec F S2x8x100000 .f32, oL c ↦{fullShare} f)) ∗ (∃ r, prngReg c r)
          ∗ (semVal ((c : Thread nD τ), SemLoc.dma 0) 0 ∗ semVal ((c : Thread nD τ), SemLoc.dma 1) 0
            ∗ semVal ((c : Thread nD τ), SemLoc.dma 2) 0 ∗ semVal ((c : Thread nD τ), SemLoc.dma 3) 0)
          ∗ (aL c ↦{fullShare} m (aL c)) ∗ (vL c ↦{fullShare} G c main_v0)) := by
  rw [Pipeline.ΦDRG_eq, scopedRest0_eq, ownSems00_eq, BI.bigSep_eq_bigSepL_of_eq [main_arg0] (by decide) (by decide)]
  unfold Pipeline.routed
  rw [BI.bigSep_eq_bigSepL_of_eq [main_v0] (by decide) (by decide)]
  rfl

/-- The proof data of the one region: no staged array; before the body the result at its launch contents, after it at `GB` of the argument. -/
def dats (_ : Fin 1) (c : Dev nD) : Dat τ (Elt F) Unit ℕ (Pipeline.UD sig nD τ) ℕ cfg0 c where
  A w := V0 m c (Pipeline.arrRef cfg0.spec w)
  after w := w.elim0
  Φ k := if k.val = 0 then Pipeline.ΦDRG osem0 cfg0.spec H0 R0 (V0 m) (V0 m) c else Pipeline.ΦDRG osem0 cfg0.spec H0 R0 (V0 m) (G0 m) c
  q _ := fullShare
  owed _ := 0

/-- From what the launch hands over, the body ends with what the launch takes back. -/
theorem body_obligation (c : Dev nD) : BodyObligation (dats (F := F) m 0 c) (defs₀ (F := F)) Variants.none () Set.univ := fun t => by
  obtain rfl := fin_N0 t
  have h0 : (dats (F := F) m 0 c).Φ t0_0.castSucc = Pipeline.ΦDRG osem0 cfg0.spec H0 R0 (V0 m) (V0 m) c := by dsimp only [dats]; exact if_pos rfl
  have h1 : (dats (F := F) m 0 c).Φ t0_0.succ = Pipeline.ΦDRG osem0 cfg0.spec H0 R0 (V0 m) (G0 m) c := by dsimp only [dats]; exact if_neg (Nat.succ_ne_zero _)
  rw [h0, h1, inv_eq, inv_eq, G0_v0]
  unfold Dat.owesAt Pipeline.owesWithin
  rw [show (dats (F := F) m 0 c).owed t0_0.castSucc = 0 from rfl, show (dats (F := F) m 0 c).owed t0_0.succ = 0 from rfl]
  have hW : (Finset.univ : Finset (Fin cfg0.W)) = ∅ := rfl
  rw [hW, BI.bigSep_empty, BI.bigSep_empty]
  show _ ⊢ wp frame (wpE (defs₀ (F := F)) Variants.none (c : Thread nD τ) none) Set.univ (bodyAt0 (F := F) t0_0) _
  iintro ⟨⟨⟨Hx, Ho⟩, Hg, ⟨S0, S1, S2, S3⟩, HA, Hv⟩, ⟨%W, -, HO⟩, -⟩
  iapply (wp_wand_r _ _ _)
  isplitl [Hx Ho S0 S1 S2 S3 HA Hv HO]
  · iapply (body c (m (aL c)) Variants.none none (m (vL c)) W)
    unfold Rest
    isplitr [Hv HO]
    · isplitl [Hx]; · iexact Hx
      isplitl [Ho]; · iexact Ho
      isplitl [S0]; · iexact S0
      isplitl [S1]; · iexact S1
      isplitl [S2]; · iexact S2
      isplitl [S3]; · iexact S3
      iexact HA
    isplitl [Hv]; · iexact Hv
    iexact HO
  unfold Rest
  iintro %a ⟨⟨Hx, Ho, S0, S1, S2, S3, HA⟩, Hv, ⟨%W', HO⟩⟩
  isplitr [HO]
  · isplitl [Hx Ho]
    · isplitl [Hx]; · iexact Hx
      iexact Ho
    isplitl [Hg]; · iexact Hg
    isplitl [S0 S1 S2 S3]
    · isplitl [S0]; · iexact S0
      isplitl [S1]; · iexact S1
      isplitl [S2]; · iexact S2
      iexact S3
    isplitl [HA]; · iexact HA
    iexact Hv
  isplitl [HO]
  · iexists W'; isplitr; · ipureintro; exact fun _ _ => Or.inl trivial
    iexact HO
  iempintro

/-! ## The run -/

set_option backward.isDefEq.respectTransparency.types false in
/-- The kernel runs to its end without fault: its argument is unchanged, its result is `GB` of the argument, and every semaphore is at zero. -/
theorem run : θ_run defs (onTc (τ := τ) (main (F := F))) ⟨m, fun _ => 0, ρ⟩ (fun r => (∀ c : Dev nD,
      r.2.mem (vL c) = (GB (F := F) (m (aL c)) : Buf (Elt F) (vL c)) ∧ r.2.mem (aL c) = m (aL c)) ∧ r.2.sem = fun _ => 0) :=
  (θ_run defs _ _).mono (fun r h => ⟨fun c => ⟨(h.1.2 c main_v0 (by decide)).trans (G0_v0 m c),
      (h.1.1 c).2 main_arg0 (Finset.mem_sdiff.mpr ⟨Pipeline.mem_restRefs_of main_arg0 (by decide) (by decide), by decide⟩)⟩, h.2⟩)
    (Pipeline.θ_run_frame_dmaRG (Q' := fun r => Pipeline.FramePostRG cfgs (dats m) 0 R0 (V0 m) (G0 m) r ∧ r.2.sem = fun _ => 0)
      cfgs (dats m) (0 : Fin 1) launch0 osem0 defs₀ Variants.none ownSemFacts0 H0 R0 H0_sub R0_sub m ρ main
      (hbody := fun c => (body_obligation m c).loose) (hshare := fun c => (dats m 0 c).share_full fun _ => rfl)
      (howed := fun _ _ => rfl) (V := V0 m) (hmain := hmainU m Variants.none) (hA := fun c w => w.elim0) (G := G0 m)
      (hin := fun c => Entails.of_eq (by dsimp only [dats]; exact (if_pos rfl).symm))
      (hout := fun c => Entails.of_eq (by dsimp only [dats]; exact if_neg (by decide))))

end Launch

end Cert.KernelIdeal.Hand

end
-- ==== Proof.Word.lean ====
module

public import Idealize.ShloMosaic.PureOps

/-!
# The random word

Both programs draw the sample at position `n` from one 32-bit word: the Threefry-2x32 cipher with key `(0, 42)` of the
counter `(0, n)`, its two output words xored. This file writes that word as a function of `n`, and gives the one-round
facts with which each program's arrays are followed round by round.
-/

@[expose] public section

namespace Cert.Word

open Idealize.ShloMosaic

/-! ## The cipher -/

/-- The word `y` shifted left by `a` and right by `b`, joined: a rotation when `a + b = 32`. -/
def rot (y a b : BitVec 32) : BitVec 32 := y <<< a ||| y >>> b

/-- One round: the first word takes the sum, the second is rotated and xored with it. -/
def step (a b : BitVec 32) (p : BitVec 32 × BitVec 32) : BitVec 32 × BitVec 32 :=
  (p.1 + p.2, (p.1 + p.2) ^^^ rot p.2 a b)

/-- A key injection: one word is added to each half. -/
def inj (c d : BitVec 32) (p : BitVec 32 × BitVec 32) : BitVec 32 × BitVec 32 := (p.1 + c, p.2 + d)

/-- The four rounds of an odd group. -/
def groupA (p : BitVec 32 × BitVec 32) : BitVec 32 × BitVec 32 :=
  step 6#32 26#32 (step 26#32 6#32 (step 15#32 17#32 (step 13#32 19#32 p)))
/-- The four rounds of an even group. -/
def groupB (p : BitVec 32 × BitVec 32) : BitVec 32 × BitVec 32 :=
  step 24#32 8#32 (step 16#32 16#32 (step 29#32 3#32 (step 17#32 15#32 p)))

/-- The state before the first round, for the counter word `n`. -/
def state0 (n : BitVec 32) : BitVec 32 × BitVec 32 := (0#32, n + 42#32)
/-- The state after four rounds and the first injection. -/
def state1 (n : BitVec 32) : BitVec 32 × BitVec 32 := inj 42#32 466689009#32 (groupA (state0 n))
/-- The state after eight rounds and the second injection. -/
def state2 (n : BitVec 32) : BitVec 32 × BitVec 32 := inj 466689008#32 2#32 (groupB (state1 n))
/-- The state after twelve rounds and the third injection. -/
def state3 (n : BitVec 32) : BitVec 32 × BitVec 32 := inj 0#32 45#32 (groupA (state2 n))
/-- The state after sixteen rounds and the fourth injection. -/
def state4 (n : BitVec 32) : BitVec 32 × BitVec 32 := inj 42#32 466689012#32 (groupB (state3 n))
/-- The state after twenty rounds and the last injection. -/
def state5 (n : BitVec 32) : BitVec 32 × BitVec 32 := inj 466689008#32 5#32 (groupA (state4 n))
/-- The random word of the counter word `n`. -/
def word (n : BitVec 32) : BitVec 32 := (state5 n).1 ^^^ (state5 n).2

/-! ## Following a program through the rounds -/

/-- `x` and `y` are what a program holds at state `p` once it has formed the next round's sum. -/
def At (x y : BitVec 32) (p : BitVec 32 × BitVec 32) : Prop := x = p.1 + p.2 ∧ y = p.2

/-- One round, from one sum to the next. -/
theorem At.next {x y x' y' : BitVec 32} {p : BitVec 32 × BitVec 32} {a b : BitVec 32} (h : At x y p)
    (hy : y' = x ^^^ rot y a b) (hx : x' = x + y') : At x' y' (step a b p) := by
  obtain ⟨rfl, rfl⟩ := h
  subst hy hx
  exact ⟨rfl, rfl⟩

/-- One round followed by a key injection, from one sum to the next. -/
theorem At.inject {x y x' y' : BitVec 32} {p : BitVec 32 × BitVec 32} {a b c d : BitVec 32} (h : At x y p)
    (hy : y' = (x ^^^ rot y a b) + d) (hx : x' = (x + c) + y') : At x' y' (inj c d (step a b p)) := by
  obtain ⟨rfl, rfl⟩ := h
  subst hy hx
  exact ⟨rfl, rfl⟩

/-- The last round and the last injection, the two halves xored. -/
theorem At.last {x y z : BitVec 32} {p : BitVec 32 × BitVec 32} {a b c d : BitVec 32} (h : At x y p)
    (hz : z = (x + c) ^^^ ((x ^^^ rot y a b) + d)) :
    z = (inj c d (step a b p)).1 ^^^ (inj c d (step a b p)).2 := by
  obtain ⟨rfl, rfl⟩ := h
  exact hz

/-! ## The shifts -/

/-- A left shift by less than the width, on any unit. -/
theorem shli_lt (u : ArithUnit) (y a : BitVec 32) (ha : a.toNat < 32) : IntOp.shli u y a = y <<< a := if_pos ha
/-- A right shift by less than the width, on any unit. -/
theorem shrui_lt (u : ArithUnit) (y b : BitVec 32) (hb : b.toNat < 32) : IntOp.shrui u y b = y >>> b := if_pos hb

/-- The two shifts, joined and xored, as one rotation. -/
theorem mix (u : ArithUnit) (x y a b : BitVec 32) (ha : a.toNat < 32) (hb : b.toNat < 32) :
    IntOp.xori x (IntOp.ori (IntOp.shli u y a) (IntOp.shrui u y b)) = x ^^^ rot y a b := by
  rw [shli_lt u y a ha, shrui_lt u y b hb]; rfl

/-! ## The counter -/

/-- The counter word of position `(i, j)` of the array. -/
def counter (i j : ℕ) : BitVec 32 := BitVec.ofNat 32 (i * 100000 + j)

end Cert.Word

end
-- ==== Proof.Sample.lean ====
module

public import Idealize.ShloMosaic.Lib.IdealHost
public import Mathlib.Analysis.SpecialFunctions.Log.Basic

/-!
# One sample, as extended reals

The reference draws `u` in `[0, 1)`, turns it into Gumbel noise, adds the logit, takes the sigmoid and asks whether it
is above one half. The kernel asks whether `exp (-exp logit)` is below `1 - u`. This file proves that the two answers
are the same number for every extended real logit, infinities included. Here `f = 1 + u` is the float in `[1, 2)`
that both programs build from the random word.
-/

@[expose] public section

noncomputable section

namespace Cert.Sample

open Idealize.ShloMosaic

/-! ## The two programs' scalar terms -/

/-- What the kernel computes from the float `f` of the random word and the logit `x`. -/
def kernelEl (f x : EReal) : EReal :=
  ((((Ideal.cmp .ogt (Ideal.ofBits .f32 0x40000000#32 - f)
    (Ideal.exp (Ideal.ofBits .f32 0x00000000#32 - Ideal.exp x))).setWidth 32).toInt : ℝ) : EReal)

/-- The noisy logit of the reference: `x` plus the Gumbel noise of `f`, over the temperature one. -/
def noisy (f x : EReal) : EReal :=
  Ideal.div (x + -(Ideal.log (-(Ideal.log1p (-(max (Ideal.ofBits .f32 0x00000000#32)
    ((f - Ideal.ofBits .f32 0x3F800000#32) * (Ideal.ofBits .f32 0x3F800000#32 - Ideal.ofBits .f32 0x00000000#32)
      + Ideal.ofBits .f32 0x00000000#32)))))))
    (Ideal.ofBits .f32 0x3F800000#32)

/-- The sigmoid as the reference writes it. -/
def soft (g : EReal) : EReal :=
  Ideal.div (Ideal.ofBits .f32 0x3F800000#32) (Ideal.ofBits .f32 0x3F800000#32 + Ideal.exp (-g))

/-- What the reference computes from the float `f` of the random word and the logit `x`. -/
def referenceEl (f x : EReal) : EReal :=
  ((((Ideal.cmp .ogt (soft (noisy f x)) (Ideal.ofBits .f32 0x3F000000#32)).toNat : ℝ) : EReal) - soft (noisy f x))
    + soft (noisy f x)

/-! ## Literals -/

/-- The pattern of two denotes two. -/
theorem two_f32 : Ideal.ofBits .f32 0x40000000#32 = ((2 : ℝ) : EReal) := by
  simp [Ideal.ofBits, Ideal.ieee]; rw [← EReal.coe_mul]; norm_num
/-- The pattern of one half denotes one half. -/
theorem half_f32 : Ideal.ofBits .f32 0x3F000000#32 = ((1 / 2 : ℝ) : EReal) := by
  simp [Ideal.ofBits, Ideal.ieee]; rw [← EReal.coe_mul]; norm_num

/-! ## The sigmoid -/

/-- Dividing by one changes nothing. -/
theorem div_one (x : EReal) : Ideal.div x 1 = x := by
  have h : (1 : EReal) ≠ 0 := one_ne_zero
  have h1 : (1 : EReal) = ((1 : ℝ) : EReal) := rfl
  rw [Ideal.div, if_neg h, h1, ← EReal.coe_inv, inv_one, EReal.coe_one, mul_one]

/-- The sigmoid at minus infinity is zero. -/
theorem soft_bot : soft ⊥ = ((0 : ℝ) : EReal) := by
  have h : (1 : EReal) + ⊤ = ⊤ := rfl
  simp [soft, h, Ideal.div]
/-- The sigmoid at plus infinity is one. -/
theorem soft_top : soft ⊤ = ((1 : ℝ) : EReal) := by
  simp [soft, div_one]
/-- The sigmoid at a real number. -/
theorem soft_coe (r : ℝ) : soft (r : EReal) = ((1 / (1 + Real.exp (-r)) : ℝ) : EReal) := by
  have h0 : (0 : ℝ) < 1 + Real.exp (-r) := by positivity
  have h1 : (1 : EReal) + (Real.exp (-r) : EReal) = ((1 + Real.exp (-r) : ℝ) : EReal) := by push_cast; rfl
  rw [soft, ← EReal.coe_neg, Ideal.exp_coe, Ideal.ofBits_one_f32, h1, Ideal.div_coe h0.ne', one_mul]

/-- The sigmoid of anything is a real number, above one half exactly when its argument is positive. -/
theorem soft_real (g : EReal) : ∃ s : ℝ, soft g = (s : EReal) ∧ (1 / 2 < s ↔ 0 < g) := by
  induction g with
  | bot => exact ⟨0, soft_bot, by norm_num⟩
  | top => exact ⟨1, soft_top, by norm_num⟩
  | coe r =>
    refine ⟨_, soft_coe r, ?_⟩
    have h0 : (0 : ℝ) < 1 + Real.exp (-r) := by positivity
    rw [EReal.coe_pos, div_lt_div_iff₀ (by norm_num) h0]
    constructor
    · intro h
      have : Real.exp (-r) < 1 := by linarith
      have := Real.exp_lt_one_iff.mp this
      linarith
    · intro h
      have : Real.exp (-r) < 1 := Real.exp_lt_one_iff.mpr (by linarith)
      linarith

/-! ## Both answers as a choice of one or zero -/

/-- The kernel answers one or zero, by its comparison. -/
theorem kernelEl_eq (f x : EReal) :
    kernelEl f x = if Ideal.exp (0 - Ideal.exp x) < ((2 : ℝ) : EReal) - f then 1 else 0 := by
  rw [kernelEl, two_f32, Ideal.ofBits_zero_f32]
  by_cases h : Ideal.exp (0 - Ideal.exp x) < ((2 : ℝ) : EReal) - f
  · have hc : Ideal.cmp .ogt (((2 : ℝ) : EReal) - f) (Ideal.exp (0 - Ideal.exp x)) = 1#1 := by
      simp only [Ideal.cmp, h]; rfl
    rw [if_pos h, hc]; simp
  · have hc : Ideal.cmp .ogt (((2 : ℝ) : EReal) - f) (Ideal.exp (0 - Ideal.exp x)) = 0#1 := by
      simp only [Ideal.cmp, h]; rfl
    rw [if_neg h, hc]; simp

/-- The reference answers one or zero, by the sign of the noisy logit: the sigmoid it subtracts and adds back
    is a real number, so it cancels. -/
theorem referenceEl_eq (f x : EReal) : referenceEl f x = if 0 < noisy f x then 1 else 0 := by
  obtain ⟨s, hs, hp⟩ := soft_real (noisy f x)
  rw [referenceEl, hs, half_f32]
  by_cases h : 0 < noisy f x
  · have h' := hp.mpr h
    rw [if_pos h]
    have hc : Ideal.cmp .ogt (s : EReal) ((1 / 2 : ℝ) : EReal) = 1#1 := by
      simp only [Ideal.cmp, EReal.coe_lt_coe_iff, h']; rfl
    rw [hc, ← EReal.coe_sub, ← EReal.coe_add]; simp
  · have h' : ¬ 1 / 2 < s := fun q => h (hp.mp q)
    rw [if_neg h]
    have hc : Ideal.cmp .ogt (s : EReal) ((1 / 2 : ℝ) : EReal) = 0#1 := by
      simp only [Ideal.cmp, EReal.coe_lt_coe_iff, h']; rfl
    rw [hc, ← EReal.coe_sub, ← EReal.coe_add]; simp

/-! ## The noise -/

/-- The noisy logit: the logit minus the logarithm of `-log (2 - f)`. -/
theorem noisy_eq (f : ℝ) (h1 : 1 ≤ f) (h2 : f < 2) (x : EReal) :
    noisy f x = x + -(Ideal.log ((-Real.log (2 - f) : ℝ) : EReal)) := by
  have hu : max (0 : EReal) (((f : EReal) - 1) * (1 - 0) + 0) = ((f - 1 : ℝ) : EReal) := by
    rw [sub_zero, mul_one, add_zero, ← EReal.coe_one, ← EReal.coe_sub]
    exact max_eq_right (EReal.coe_nonneg.mpr (by linarith))
  have hl : Ideal.log1p (-((f - 1 : ℝ) : EReal)) = (Real.log (2 - f) : EReal) := by
    have hs : (1 : EReal) + -((f - 1 : ℝ) : EReal) = ((2 - f : ℝ) : EReal) := by
      rw [← EReal.coe_neg, ← EReal.coe_one, ← EReal.coe_add]; congr 1; ring
    rw [Ideal.log1p, hs, Ideal.log_coe, if_neg (by linarith)]
  rw [noisy, Ideal.ofBits_zero_f32, Ideal.ofBits_one_f32, hu, hl, div_one, ← EReal.coe_neg]

/-! ## The two answers agree -/

/-- For `f` in `[1, 2)` and every extended real logit the reference and the kernel compute the same number. -/
theorem referenceEl_eq_kernelEl (f : ℝ) (h1 : 1 ≤ f) (h2 : f < 2) (x : EReal) : referenceEl f x = kernelEl f x := by
  rw [referenceEl_eq, kernelEl_eq, noisy_eq f h1 h2, ← EReal.coe_sub]
  refine if_congr ?_ rfl rfl
  have hpos : (0 : ℝ) < 2 - f := by linarith
  have he : 0 ≤ -Real.log (2 - f) := by
    have := Real.log_nonpos hpos.le (by linarith : 2 - f ≤ 1); linarith
  induction x with
  | bot =>
    rw [EReal.bot_add, Ideal.exp_bot, sub_zero, ← EReal.coe_zero, Ideal.exp_coe, Real.exp_zero, EReal.coe_lt_coe_iff]
    exact ⟨fun h => absurd h (by simp), fun h => absurd h (by linarith)⟩
  | top =>
    have ht : (⊤ : EReal) + -(Ideal.log ((-Real.log (2 - f) : ℝ) : EReal)) = ⊤ := by
      apply EReal.top_add_of_ne_bot
      rw [Ideal.log_coe]
      split_ifs
      · simp
      · rw [← EReal.coe_neg]; exact EReal.coe_ne_bot _
    have h0 : (0 : EReal) - ⊤ = ⊥ := rfl
    rw [ht, Ideal.exp_top, h0, Ideal.exp_bot, EReal.coe_pos]
    exact ⟨fun _ => hpos, fun _ => EReal.zero_lt_top⟩
  | coe r =>
    rw [Ideal.exp_coe, zero_sub, ← EReal.coe_neg, Ideal.exp_coe, EReal.coe_lt_coe_iff, Ideal.log_coe]
    have hk : Real.exp (-Real.exp r) < 2 - f ↔ -Real.log (2 - f) < Real.exp r := by
      rw [← Real.lt_log_iff_exp_lt hpos]; constructor <;> intro h <;> linarith
    rw [hk]
    by_cases h0 : -Real.log (2 - f) ≤ 0
    · rw [if_pos h0, EReal.neg_bot, EReal.coe_add_top]
      exact ⟨fun _ => lt_of_le_of_lt h0 (Real.exp_pos r), fun _ => EReal.zero_lt_top⟩
    · rw [if_neg h0, ← EReal.coe_neg, ← EReal.coe_add, EReal.coe_pos, ← Real.log_lt_iff_lt_exp (not_le.mp h0)]
      constructor <;> intro h <;> linarith

/-! ## The float of a random word -/

/-- The float that both programs build from a random word: its upper 23 bits as the fraction, the exponent of one. -/
def unitWord (w : BitVec 32) : BitVec 32 := (w >>> 9#32) ||| 1065353216#32

/-- That float is a real number in `[1, 2)`. -/
theorem unitWord_real (w : BitVec 32) : ∃ f : ℝ, Ideal.ofBits .f32 (unitWord w) = (f : EReal) ∧ 1 ≤ f ∧ f < 2 := by
  have hs : (unitWord w).extractLsb' 31 1 = 0#1 := by
    apply BitVec.eq_of_getLsbD_eq
    intro i hi
    interval_cases i
    simp [unitWord]
  have hx : (unitWord w).extractLsb' 23 8 = 127#8 := by
    apply BitVec.eq_of_getLsbD_eq
    intro i hi
    interval_cases i <;> simp [unitWord]
  have hf : ((unitWord w).extractLsb' 0 23).toNat < 2 ^ 23 := BitVec.isLt _
  generalize hn : ((unitWord w).extractLsb' 0 23).toNat = n at hf
  refine ⟨(2 ^ 23 + n : ℕ) * (2 : ℝ) ^ (-23 : ℤ), ?_, ?_, ?_⟩
  · show Ideal.ieee 8 23 (unitWord w) = _
    simp only [Ideal.ieee, hs, hx, hn]
    norm_num
  · have : (0 : ℝ) ≤ n := Nat.cast_nonneg n
    push_cast; norm_num; linarith
  · have : (n : ℝ) < 8388608 := by exact_mod_cast hf
    push_cast; norm_num; linarith

/-- From one random word and one logit, the reference and the kernel compute the same number. -/
theorem sample_eq (w : BitVec 32) (x : EReal) :
    referenceEl (Ideal.ofBits .f32 (unitWord w)) x = kernelEl (Ideal.ofBits .f32 (unitWord w)) x := by
  obtain ⟨f, hf, h1, h2⟩ := unitWord_real w
  rw [hf]; exact referenceEl_eq_kernelEl f h1 h2 x

end Cert.Sample

end

end
-- ==== Proof.KValue.lean ====
module

public import proofs.«01_k».proof.Proof.KBody
public import proofs.«01_k».proof.Proof.Word
public import proofs.«01_k».proof.Proof.Sample

/-!
# The kernel's result, entry by entry

The entry at `(i, j)` of the kernel's result is `Sample.kernelEl` of the float of the random word of position
`100000 i + j` and of the logit at `(i, j)`. The kernel's integer arrays are followed through the cipher's rounds at one
index; the scalar state is that of `Word`.
-/

@[expose] public section

noncomputable section

namespace Cert.KernelIdeal.Hand

open Cert.KernelIdeal Cert.KernelIdeal.Gen Cert.Word
open Idealize.ShloMosaic Idealize.ShloMosaic.TcCoe Idealize.ShloMosaic.ValueIdx

variable {F : FTy → Type} [FloatOps F]

/-- The counter that trip `k` forms at row `r` and column `q` of its block, with the key's second word added. -/
theorem pay3_at (k : Fin k0_t1_loop.trips) (r : Fin 8) (q : Fin 100000) :
    k0_pay3 0#32 1#32 k (ix2 r q) = counter (8 * k.val + r.val) q.val + 42#32 := by
  have h : k0_pay3 0#32 1#32 k (ix2 r q)
      = (BitVec.ofNat 32 (0 * 8 + r.val) + (0#32 + BitVec.ofNat 32 k.val * 1#32) * 8#32) * 100000#32
        + BitVec.ofNat 32 (0 * 100000 + q.val) + 42#32 := rfl
  have e : (8 * k.val + r.val) * 100000 + q.val = (0 * 8 + r.val + k.val * 8) * 100000 + (0 * 100000 + q.val) := by ring
  rw [h, counter, e]
  simp only [BitVec.ofNat_add, BitVec.ofNat_mul, BitVec.zero_add, BitVec.mul_one]

/-- After trip `k`'s first stretch: two rounds begun, the left half of the second rotation formed. -/
theorem part1_at (k : Fin k0_t1_loop.trips) (r : Fin 8) (q : Fin 100000) :
    At (k0_pay5 0#32 1#32 k (ix2 r q)) (k0_pay4 0#32 1#32 k (ix2 r q))
        (step 13#32 19#32 (state0 (counter (8 * k.val + r.val) q.val)))
      ∧ k0_pay6 0#32 1#32 k (ix2 r q) = k0_pay4 0#32 1#32 k (ix2 r q) <<< 15#32 := by
  have h0 : At (k0_pay3 0#32 1#32 k (ix2 r q)) (k0_pay3 0#32 1#32 k (ix2 r q)) (state0 (counter (8 * k.val + r.val) q.val)) :=
    ⟨(pay3_at k r q).trans (BitVec.zero_add _).symm, pay3_at k r q⟩
  exact ⟨h0.next (a := 13#32) (b := 19#32) (mix .vector _ _ 13#32 19#32 (by decide) (by decide)) rfl,
    shli_lt .vector _ 15#32 (by decide)⟩

/-- The second stretch, from the two rounds begun to the eighth. -/
theorem part2_at (a b c : IVec S8x100000 32) (i : S8x100000.Idx) (n : BitVec 32)
    (h : At (b i) (a i) (step 13#32 19#32 (state0 n))) (hc : c i = a i <<< 15#32) :
    At (k0_pay18 a b c i) (k0_pay17 a b c i)
        (step 16#32 16#32 (step 29#32 3#32 (step 17#32 15#32 (state1 n))))
      ∧ k0_pay19 a b c i = k0_pay17 a b c i <<< 24#32 := by
  have m1 : (k0_pay7 a b c i) = b i ^^^ rot (a i) 15#32 17#32 := by
    have e : IntOp.shli .vector (a i) 15#32 = (c i) := (shli_lt .vector _ 15#32 (by decide)).trans hc.symm
    have m := mix .vector (b i) (a i) 15#32 17#32 (by decide) (by decide)
    rw [e] at m; exact m
  have h1 : At (k0_pay8 a b c i) (k0_pay7 a b c i) _ := h.next m1 rfl
  have h2 : At (k0_pay10 a b c i) (k0_pay9 a b c i) _ := h1.next (a := 26#32) (b := 6#32)
    (mix .vector (k0_pay8 a b c i) (k0_pay7 a b c i) 26#32 6#32 (by decide) (by decide)) rfl
  have h3 : At (k0_pay12 a b c i) (k0_pay11 a b c i) _ := h2.inject (a := 6#32) (b := 26#32) (c := 42#32) (d := 466689009#32)
    (congrArg (· + 466689009#32) (mix .vector (k0_pay10 a b c i) (k0_pay9 a b c i) 6#32 26#32 (by decide) (by decide))) rfl
  have h4 : At (k0_pay14 a b c i) (k0_pay13 a b c i) _ := h3.next (a := 17#32) (b := 15#32)
    (mix .vector (k0_pay12 a b c i) (k0_pay11 a b c i) 17#32 15#32 (by decide) (by decide)) rfl
  have h5 : At (k0_pay16 a b c i) (k0_pay15 a b c i) _ := h4.next (a := 29#32) (b := 3#32)
    (mix .vector (k0_pay14 a b c i) (k0_pay13 a b c i) 29#32 3#32 (by decide) (by decide)) rfl
  have h6 : At (k0_pay18 a b c i) (k0_pay17 a b c i) _ := h5.next (a := 16#32) (b := 16#32)
    (mix .vector (k0_pay16 a b c i) (k0_pay15 a b c i) 16#32 16#32 (by decide) (by decide)) rfl
  exact ⟨h6, shli_lt .vector _ 24#32 (by decide)⟩

/-- The third stretch, from the eighth round to the thirteenth. -/
theorem part3_at (a b c : IVec S8x100000 32) (i : S8x100000.Idx) (n : BitVec 32)
    (h : At (b i) (a i) (step 16#32 16#32 (step 29#32 3#32 (step 17#32 15#32 (state1 n))))) (hc : c i = a i <<< 24#32) :
    At (k0_pay31 a b c i) (k0_pay30 a b c i) (step 17#32 15#32 (state3 n)) := by
  have m1 : (k0_pay20 a b c i) = (b i ^^^ rot (a i) 24#32 8#32) + 2#32 := congrArg (· + 2#32) (by
    have e : IntOp.shli .vector (a i) 24#32 = (c i) := (shli_lt .vector _ 24#32 (by decide)).trans hc.symm
    have m := mix .vector (b i) (a i) 24#32 8#32 (by decide) (by decide)
    rw [e] at m; exact m)
  have h1 : At (k0_pay21 a b c i) (k0_pay20 a b c i) (state2 n) := h.inject (c := 466689008#32) m1 rfl
  have h2 : At (k0_pay23 a b c i) (k0_pay22 a b c i) _ := h1.next (a := 13#32) (b := 19#32)
    (mix .vector (k0_pay21 a b c i) (k0_pay20 a b c i) 13#32 19#32 (by decide) (by decide)) rfl
  have h3 : At (k0_pay25 a b c i) (k0_pay24 a b c i) _ := h2.next (a := 15#32) (b := 17#32)
    (mix .vector (k0_pay23 a b c i) (k0_pay22 a b c i) 15#32 17#32 (by decide) (by decide)) rfl
  have h4 : At (k0_pay27 a b c i) (k0_pay26 a b c i) _ := h3.next (a := 26#32) (b := 6#32)
    (mix .vector (k0_pay25 a b c i) (k0_pay24 a b c i) 26#32 6#32 (by decide) (by decide)) rfl
  have h5 : At (k0_pay29 a b c i) (k0_pay28 a b c i) _ := h4.inject (a := 6#32) (b := 26#32) (c := 0#32) (d := 45#32)
    (congrArg (· + 45#32) (mix .vector (k0_pay27 a b c i) (k0_pay26 a b c i) 6#32 26#32 (by decide) (by decide))) (by rw [BitVec.add_zero]; rfl)
  have h6 : At (k0_pay31 a b c i) (k0_pay30 a b c i) _ := h5.next (a := 17#32) (b := 15#32)
    (mix .vector (k0_pay29 a b c i) (k0_pay28 a b c i) 17#32 15#32 (by decide) (by decide)) rfl
  exact h6

/-- The fourth stretch, from the thirteenth round to the nineteenth. -/
theorem part4_at (a b : IVec S8x100000 32) (i : S8x100000.Idx) (n : BitVec 32) (h : At (b i) (a i) (step 17#32 15#32 (state3 n))) :
    At (k0_pay43 a b i) (k0_pay42 a b i)
      (step 26#32 6#32 (step 15#32 17#32 (step 13#32 19#32 (state4 n)))) := by
  have h1 : At (k0_pay33 a b i) (k0_pay32 a b i) _ := h.next (a := 29#32) (b := 3#32)
    (mix .vector (b i) (a i) 29#32 3#32 (by decide) (by decide)) rfl
  have h2 : At (k0_pay35 a b i) (k0_pay34 a b i) _ := h1.next (a := 16#32) (b := 16#32)
    (mix .vector (k0_pay33 a b i) (k0_pay32 a b i) 16#32 16#32 (by decide) (by decide)) rfl
  have h3 : At (k0_pay37 a b i) (k0_pay36 a b i) _ := h2.inject (a := 24#32) (b := 8#32) (c := 42#32) (d := 466689012#32)
    (congrArg (· + 466689012#32) (mix .vector (k0_pay35 a b i) (k0_pay34 a b i) 24#32 8#32 (by decide) (by decide))) rfl
  have h4 : At (k0_pay39 a b i) (k0_pay38 a b i) _ := h3.next (a := 13#32) (b := 19#32)
    (mix .vector (k0_pay37 a b i) (k0_pay36 a b i) 13#32 19#32 (by decide) (by decide)) rfl
  have h5 : At (k0_pay41 a b i) (k0_pay40 a b i) _ := h4.next (a := 15#32) (b := 17#32)
    (mix .vector (k0_pay39 a b i) (k0_pay38 a b i) 15#32 17#32 (by decide) (by decide)) rfl
  have h6 : At (k0_pay43 a b i) (k0_pay42 a b i) _ := h5.next (a := 26#32) (b := 6#32)
    (mix .vector (k0_pay41 a b i) (k0_pay40 a b i) 26#32 6#32 (by decide) (by decide)) rfl
  exact h6

/-- The last stretch at one index, operation by operation. -/
theorem pay1_ops (v : FVec F S8x100000 .f32) (a b : IVec S8x100000 32) (r : Fin 8) (q : Fin 100000) :
    k0_pay1 v a b (ix3 (0 : Fin 1) r q)
      = FloatOps.sitofp .f32 ((FloatOps.cmpf .ogt
          (FloatOps.subf (Scalar.ofBits .f32 0x40000000#32) (FloatOps.ofBits .f32 (IntOp.ori (IntOp.shrui .vector
            (IntOp.xori (b (ix2 r q) + 466689008#32)
              (IntOp.xori (b (ix2 r q)) (IntOp.ori (IntOp.shli .vector (a (ix2 r q)) 6#32)
                (IntOp.shrui .vector (a (ix2 r q)) 26#32)) + 5#32)) 9#32) 1065353216#32)))
          (FloatOps.exp (FloatOps.subf (Scalar.ofBits .f32 0x00000000#32) (FloatOps.exp (v (ix2 r q)))))).setWidth 32) := by
  unfold k0_pay1
  exact shapeCast_ab_1ab_apply _ shapeCasts_S8x100000_S1x8x100000 0 r q

/-- The comparison on extended reals, whatever its literals. -/
theorem compare_ideal (w : BitVec 32) (t z : BitVec 32) (x : EReal) :
    (FloatOps.sitofp (F := Ideal) .f32 ((FloatOps.cmpf (F := Ideal) (φ := .f32) .ogt
        (FloatOps.subf (F := Ideal) (φ := .f32) (Scalar.ofBits (F := Ideal) .f32 t) (FloatOps.ofBits (F := Ideal) .f32 w))
        (FloatOps.exp (F := Ideal) (φ := .f32) (FloatOps.subf (F := Ideal) (φ := .f32) (Scalar.ofBits (F := Ideal) .f32 z)
          (FloatOps.exp (F := Ideal) (φ := .f32) x)))).setWidth 32) : EReal)
      = ((((Ideal.cmp .ogt (Ideal.ofBits .f32 t - Ideal.ofBits .f32 w)
          (Ideal.exp (Ideal.ofBits .f32 z - Ideal.exp x))).setWidth 32).toInt : ℝ) : EReal) := rfl

/-- The last stretch: the random word, its float, and the comparison with the logit. -/
theorem pay1_at (v : FVec Ideal S8x100000 .f32) (a b : IVec S8x100000 32) (r : Fin 8) (q : Fin 100000) (n : BitVec 32)
    (h : At (b (ix2 r q)) (a (ix2 r q)) (step 26#32 6#32 (step 15#32 17#32 (step 13#32 19#32 (state4 n))))) :
    k0_pay1 (F := Ideal) v a b (ix3 (0 : Fin 1) r q)
      = Sample.kernelEl (Ideal.ofBits .f32 (Sample.unitWord (word n))) (v (ix2 r q)) := by
  have hw : IntOp.xori (b (ix2 r q) + 466689008#32)
      (IntOp.xori (b (ix2 r q)) (IntOp.ori (IntOp.shli .vector (a (ix2 r q)) 6#32) (IntOp.shrui .vector (a (ix2 r q)) 26#32)) + 5#32)
      = word n := by
    rw [mix .vector _ _ 6#32 26#32 (by decide) (by decide)]
    exact h.last (a := 6#32) (b := 26#32) (c := 466689008#32) (d := 5#32) rfl
  have hu : IntOp.ori (IntOp.shrui .vector (word n) 9#32) 1065353216#32 = Sample.unitWord (word n) := by
    rw [shrui_lt _ _ 9#32 (by decide)]; rfl
  rw [pay1_ops, hw, hu]
  exact compare_ideal _ _ _ _

/-- What trip `k` stores at row `r` and column `q` of its block. -/
theorem tripVal_at (k : Fin k0_t1_loop.trips) (v : FVec Ideal S1x8x100000 .f32) (r : Fin 8) (q : Fin 100000) :
    tripVal (F := Ideal) k v (ix3 (0 : Fin 1) r q)
      = Sample.kernelEl (Ideal.ofBits .f32 (Sample.unitWord (word (counter (8 * k.val + r.val) q.val)))) (v (ix3 (0 : Fin 1) r q)) := by
  have h1 := part1_at k r q
  have h2 := part2_at _ _ _ _ _ h1.1 h1.2
  have h3 := part3_at _ _ _ _ _ h2.1 h2.2
  have h4 := part4_at _ _ _ _ h3
  refine (pay1_at _ _ _ r q _ h4).trans ?_
  exact congrArg (Sample.kernelEl _) (shapeCast_1ab_ab_apply v shapeCasts_S1x8x100000_S8x100000 r q)

/-- The kernel's result at any index: the kernel's sample of that position's word and that logit. -/
theorem GB_at (A : FVec Ideal S128x100000 .f32) (i : Fin 128) (j : Fin 100000) :
    GB (F := Ideal) A (ix2 i j)
      = Sample.kernelEl (Ideal.ofBits .f32 (Sample.unitWord (word (counter i.val j.val)))) (A (ix2 i j)) := by
  have hk : (tripOf (i.val / 8)).val = i.val / 8 := Nat.mod_eq_of_lt (by have := i.isLt; omega)
  have hi : 8 * (i.val / 8) + i.val % 8 = i.val := Nat.div_add_mod _ _
  have hr : rowOf (i.val / 8) (i.val % 8) = i := Fin.ext (by
    show (8 * (i.val / 8) + i.val % 8) % 128 = i.val
    rw [hi]; exact Nat.mod_eq_of_lt i.isLt)
  refine (tripVal_at (tripOf (i.val / 8)) (xBlk A (i.val / 8)) ⟨i.val % 8, Nat.mod_lt _ (by decide)⟩ j).trans ?_
  have hx : xBlk A (i.val / 8) (ix3 (0 : Fin 1) (⟨i.val % 8, Nat.mod_lt _ (by decide)⟩ : Fin 8) j) = A (ix2 i j) :=
    congrArg (fun t => A (ix2 t j)) hr
  rw [hx]
  show Sample.kernelEl (Ideal.ofBits .f32 (Sample.unitWord (word (counter (8 * (tripOf (i.val / 8)).val + i.val % 8) j.val)))) _ = _
  rw [hk, hi]

end Cert.KernelIdeal.Hand

end

end
-- ==== Proof.RefOps.lean ====
module
public import proofs.«01_k».proof.Proof.Gen.ReferenceIdeal
public import Idealize.ShloMosaic.Lib.StableHlo.Run
public import Idealize.ShloMosaic.Lib.Pipeline.Frame

/-! The reference program as a list of its host operations, in ten groups, with the facts that running a list asks
    for: the program is the sequence of the list, the operations touch TensorCore buffers only and allocate none.
    This module, `RefTerms` and `RefRun` are the text of a generated reference run, for the program with the parts of its
    called function put back into one body. -/

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v6`, named. It packs its operands into a list of dependent pairs
    whose shapes a later argument's type mentions, so `simp` cannot rewrite an operand where it stands; applied by
    name, the operands are plain arguments, which the window lemmas below rewrite before the name unfolds. -/
def fn_main_v6 : (⟨S1, .i32⟩ : BufTy).Contents (Elt F) → (⟨S1, .i32⟩ : BufTy).Contents (Elt F) → (⟨S2, .i32⟩ : BufTy).Contents (Elt F) :=
  (fun a b => concatenate S2 0 [⟨S1, a⟩, ⟨S1, b⟩] concatenates_S1_S1_S2_d0)

/-- @main's operations 1 … 30 of 297. -/
abbrev ops_0 : List (HloOp τ sig (Elt F)) :=
  [ nullary main_c (constantI S_ 32 42#32),
    nullary main_c_0 (constantI S_ 32 32#32),
    binary main_c main_c_0 main_v0 (Host.shrui : (⟨S_, .i32⟩ : BufTy).Contents (Elt F) → (⟨S_, .i32⟩ : BufTy).Contents (Elt F) → (⟨S_, .i32⟩ : BufTy).Contents (Elt F)),
    unary main_v0 main_v1 (id : (⟨S_, .i32⟩ : BufTy).Contents (Elt F) → (⟨S_, .i32⟩ : BufTy).Contents (Elt F)),
    unary main_v1 main_v2 (broadcastInDim S1 ![] bcast_S_S1 : (⟨S_, .i32⟩ : BufTy).Contents (Elt F) → (⟨S1, .i32⟩ : BufTy).Contents (Elt F)),
    nullary main_c_1 (constantI S_ 32 4294967295#32),
    binary main_c main_c_1 main_v3 (andi : (⟨S_, .i32⟩ : BufTy).Contents (Elt F) → (⟨S_, .i32⟩ : BufTy).Contents (Elt F) → (⟨S_, .i32⟩ : BufTy).Contents (Elt F)),
    unary main_v3 main_v4 (id : (⟨S_, .i32⟩ : BufTy).Contents (Elt F) → (⟨S_, .i32⟩ : BufTy).Contents (Elt F)),
    unary main_v4 main_v5 (broadcastInDim S1 ![] bcast_S_S1 : (⟨S_, .i32⟩ : BufTy).Contents (Elt F) → (⟨S1, .i32⟩ : BufTy).Contents (Elt F)),
    binary main_v2 main_v5 main_v6 (fn_main_v6 (F := F)),
    TRef.nullary (TRef.of (T := ⟨S_, .f32⟩) main_call0_cst) (constant S_ .f32 0x00000000#32),
    TRef.nullary (TRef.of (T := ⟨S_, .f32⟩) main_call0_cst_0) (constant S_ .f32 0x3F800000#32),
    TRef.unary (TRef.of (T := ⟨S_, .f32⟩) main_call0_cst) (TRef.of (T := ⟨S_, .f32⟩) main_call0_call0_v0) id,
    TRef.unary (TRef.of (T := ⟨S_, .f32⟩) main_call0_cst_0) (TRef.of (T := ⟨S_, .f32⟩) main_call0_call0_v1) id,
    TRef.unary (TRef.of (T := ⟨S_, .f32⟩) main_call0_call0_v0) (TRef.of (T := ⟨S1x1, .f32⟩) main_call0_call0_v2) (broadcastInDim S1x1 ![] bcast_S_S1x1),
    TRef.unary (TRef.of (T := ⟨S_, .f32⟩) main_call0_call0_v1) (TRef.of (T := ⟨S1x1, .f32⟩) main_call0_call0_v3) (broadcastInDim S1x1 ![] bcast_S_S1x1),
    TRef.unary (TRef.of (T := ⟨S2, .i32⟩) main_v6) (TRef.of (T := ⟨S1, .i32⟩) main_call0_call0_v4) (extractStridedSlice S1 ![0] · slices_S2_S1_0),
    TRef.reshape (TRef.of (T := ⟨S1, .i32⟩) main_call0_call0_v4) (TRef.of (T := ⟨S_, .i32⟩) main_call0_call0_v5) (rfl : (.i32 : EltTy) = .i32) shapeCasts_S1_S_,
    TRef.unary (TRef.of (T := ⟨S2, .i32⟩) main_v6) (TRef.of (T := ⟨S1, .i32⟩) main_call0_call0_v6) (extractStridedSlice S1 ![1] · slices_S2_S1_1),
    TRef.reshape (TRef.of (T := ⟨S1, .i32⟩) main_call0_call0_v6) (TRef.of (T := ⟨S_, .i32⟩) main_call0_call0_v7) (rfl : (.i32 : EltTy) = .i32) shapeCasts_S1_S_,
    TRef.nullary (TRef.of (T := ⟨S128x100000, .i64⟩) main_call0_call0_v8) (iotaInDim S128x100000 64 0),
    TRef.nullary (TRef.of (T := ⟨S128x100000, .i64⟩) main_call0_call0_v9) (iotaInDim S128x100000 64 1),
    TRef.nullary (TRef.of (T := ⟨S_, .i64⟩) main_call0_call0_c) (constantI S_ 64 100000#64),
    TRef.unary (TRef.of (T := ⟨S_, .i64⟩) main_call0_call0_c) (TRef.of (T := ⟨S128x100000, .i64⟩) main_call0_call0_v10) (broadcastInDim S128x100000 ![] bcast_S_S128x100000),
    TRef.binary (TRef.of (T := ⟨S128x100000, .i64⟩) main_call0_call0_v10) (TRef.of (T := ⟨S128x100000, .i64⟩) main_call0_call0_v8) (TRef.of (T := ⟨S128x100000, .i64⟩) main_call0_call0_v11) muli,
    TRef.nullary (TRef.of (T := ⟨S_, .i64⟩) main_call0_call0_c_0) (constantI S_ 64 1#64),
    TRef.unary (TRef.of (T := ⟨S_, .i64⟩) main_call0_call0_c_0) (TRef.of (T := ⟨S128x100000, .i64⟩) main_call0_call0_v12) (broadcastInDim S128x100000 ![] bcast_S_S128x100000),
    TRef.binary (TRef.of (T := ⟨S128x100000, .i64⟩) main_call0_call0_v12) (TRef.of (T := ⟨S128x100000, .i64⟩) main_call0_call0_v9) (TRef.of (T := ⟨S128x100000, .i64⟩) main_call0_call0_v13) muli,
    TRef.binary (TRef.of (T := ⟨S128x100000, .i64⟩) main_call0_call0_v11) (TRef.of (T := ⟨S128x100000, .i64⟩) main_call0_call0_v13) (TRef.of (T := ⟨S128x100000, .i64⟩) main_call0_call0_v14) addi,
    TRef.nullary (TRef.of (T := ⟨S_, .i64⟩) main_call0_call0_c_1) (constantI S_ 64 32#64) ]

/-- @main's operations 31 … 60 of 297. -/
abbrev ops_1 : List (HloOp τ sig (Elt F)) :=
  [ TRef.unary (TRef.of (T := ⟨S_, .i64⟩) main_call0_call0_c_1) (TRef.of (T := ⟨S128x100000, .i64⟩) main_call0_call0_v15) (broadcastInDim S128x100000 ![] bcast_S_S128x100000),
    TRef.binary (TRef.of (T := ⟨S128x100000, .i64⟩) main_call0_call0_v14) (TRef.of (T := ⟨S128x100000, .i64⟩) main_call0_call0_v15) (TRef.of (T := ⟨S128x100000, .i64⟩) main_call0_call0_v16) Host.shrui,
    TRef.unary (TRef.of (T := ⟨S128x100000, .i64⟩) main_call0_call0_v14) (TRef.of (T := ⟨S128x100000, .i32⟩) main_call0_call0_v17) (trunci 32 · natLt_32_64),
    TRef.unary (TRef.of (T := ⟨S128x100000, .i64⟩) main_call0_call0_v16) (TRef.of (T := ⟨S128x100000, .i32⟩) main_call0_call0_v18) (trunci 32 · natLt_32_64),
    TRef.binary (TRef.of (T := ⟨S_, .i32⟩) main_call0_call0_v5) (TRef.of (T := ⟨S_, .i32⟩) main_call0_call0_v7) (TRef.of (T := ⟨S_, .i32⟩) main_call0_call0_call0_v0) xori,
    TRef.nullary (TRef.of (T := ⟨S_, .i32⟩) main_call0_call0_call0_c) (constantI S_ 32 466688986#32),
    TRef.binary (TRef.of (T := ⟨S_, .i32⟩) main_call0_call0_call0_v0) (TRef.of (T := ⟨S_, .i32⟩) main_call0_call0_call0_c) (TRef.of (T := ⟨S_, .i32⟩) main_call0_call0_call0_v1) xori,
    TRef.unary (TRef.of (T := ⟨S_, .i32⟩) main_call0_call0_v5) (TRef.of (T := ⟨S128x100000, .i32⟩) main_call0_call0_call0_v2) (broadcastInDim S128x100000 ![] bcast_S_S128x100000),
    TRef.binary (TRef.of (T := ⟨S128x100000, .i32⟩) main_call0_call0_v18) (TRef.of (T := ⟨S128x100000, .i32⟩) main_call0_call0_call0_v2) (TRef.of (T := ⟨S128x100000, .i32⟩) main_call0_call0_call0_v3) addi,
    TRef.unary (TRef.of (T := ⟨S_, .i32⟩) main_call0_call0_v7) (TRef.of (T := ⟨S128x100000, .i32⟩) main_call0_call0_call0_v4) (broadcastInDim S128x100000 ![] bcast_S_S128x100000),
    TRef.binary (TRef.of (T := ⟨S128x100000, .i32⟩) main_call0_call0_v17) (TRef.of (T := ⟨S128x100000, .i32⟩) main_call0_call0_call0_v4) (TRef.of (T := ⟨S128x100000, .i32⟩) main_call0_call0_call0_v5) addi,
    TRef.binary (TRef.of (T := ⟨S128x100000, .i32⟩) main_call0_call0_call0_v3) (TRef.of (T := ⟨S128x100000, .i32⟩) main_call0_call0_call0_v5) (TRef.of (T := ⟨S128x100000, .i32⟩) main_call0_call0_call0_v6) addi,
    TRef.nullary (TRef.of (T := ⟨S_, .i32⟩) main_call0_call0_call0_c_0) (constantI S_ 32 13#32),
    TRef.unary (TRef.of (T := ⟨S_, .i32⟩) main_call0_call0_call0_c_0) (TRef.of (T := ⟨S128x100000, .i32⟩) main_call0_call0_call0_v7) (broadcastInDim S128x100000 ![] bcast_S_S128x100000),
    TRef.binary (TRef.of (T := ⟨S128x100000, .i32⟩) main_call0_call0_call0_v5) (TRef.of (T := ⟨S128x100000, .i32⟩) main_call0_call0_call0_v7) (TRef.of (T := ⟨S128x100000, .i32⟩) main_call0_call0_call0_v8) Host.shli,
    TRef.nullary (TRef.of (T := ⟨S_, .i32⟩) main_call0_call0_call0_c_1) (constantI S_ 32 19#32),
    TRef.unary (TRef.of (T := ⟨S_, .i32⟩) main_call0_call0_call0_c_1) (TRef.of (T := ⟨S128x100000, .i32⟩) main_call0_call0_call0_v9) (broadcastInDim S128x100000 ![] bcast_S_S128x100000),
    TRef.binary (TRef.of (T := ⟨S128x100000, .i32⟩) main_call0_call0_call0_v5) (TRef.of (T := ⟨S128x100000, .i32⟩) main_call0_call0_call0_v9) (TRef.of (T := ⟨S128x100000, .i32⟩) main_call0_call0_call0_v10) Host.shrui,
    TRef.binary (TRef.of (T := ⟨S128x100000, .i32⟩) main_call0_call0_call0_v8) (TRef.of (T := ⟨S128x100000, .i32⟩) main_call0_call0_call0_v10) (TRef.of (T := ⟨S128x100000, .i32⟩) main_call0_call0_call0_v11) ori,
    TRef.binary (TRef.of (T := ⟨S128x100000, .i32⟩) main_call0_call0_call0_v6) (TRef.of (T := ⟨S128x100000, .i32⟩) main_call0_call0_call0_v11) (TRef.of (T := ⟨S128x100000, .i32⟩) main_call0_call0_call0_v12) xori,
    TRef.binary (TRef.of (T := ⟨S128x100000, .i32⟩) main_call0_call0_call0_v6) (TRef.of (T := ⟨S128x100000, .i32⟩) main_call0_call0_call0_v12) (TRef.of (T := ⟨S128x100000, .i32⟩) main_call0_call0_call0_v13) addi,
    TRef.nullary (TRef.of (T := ⟨S_, .i32⟩) main_call0_call0_call0_c_2) (constantI S_ 32 15#32),
    TRef.unary (TRef.of (T := ⟨S_, .i32⟩) main_call0_call0_call0_c_2) (TRef.of (T := ⟨S128x100000, .i32⟩) main_call0_call0_call0_v14) (broadcastInDim S128x100000 ![] bcast_S_S128x100000),
    TRef.binary (TRef.of (T := ⟨S128x100000, .i32⟩) main_call0_call0_call0_v12) (TRef.of (T := ⟨S128x100000, .i32⟩) main_call0_call0_call0_v14) (TRef.of (T := ⟨S128x100000, .i32⟩) main_call0_call0_call0_v15) Host.shli,
    TRef.nullary (TRef.of (T := ⟨S_, .i32⟩) main_call0_call0_call0_c_3) (constantI S_ 32 17#32),
    TRef.unary (TRef.of (T := ⟨S_, .i32⟩) main_call0_call0_call0_c_3) (TRef.of (T := ⟨S128x100000, .i32⟩) main_call0_call0_call0_v16) (broadcastInDim S128x100000 ![] bcast_S_S128x100000),
    TRef.binary (TRef.of (T := ⟨S128x100000, .i32⟩) main_call0_call0_call0_v12) (TRef.of (T := ⟨S128x100000, .i32⟩) main_call0_call0_call0_v16) (TRef.of (T := ⟨S128x100000, .i32⟩) main_call0_call0_call0_v17) Host.shrui,
    TRef.binary (TRef.of (T := ⟨S128x100000, .i32⟩) main_call0_call0_call0_v15) (TRef.of (T := ⟨S128x100000, .i32⟩) main_call0_call0_call0_v17) (TRef.of (T := ⟨S128x100000, .i32⟩) main_call0_call0_call0_v18) ori,
    TRef.binary (TRef.of (T := ⟨S128x100000, .i32⟩) main_call0_call0_call0_v13) (TRef.of (T := ⟨S128x100000, .i32⟩) main_call0_call0_call0_v18) (TRef.of (T := ⟨S128x100000, .i32⟩) main_call0_call0_call0_v19) xori,
    TRef.binary (TRef.of (T := ⟨S128x100000, .i32⟩) main_call0_call0_call0_v13) (TRef.of (T := ⟨S128x100000, .i32⟩) main_call0_call0_call0_v19) (TRef.of (T := ⟨S128x100000, .i32⟩) main_call0_call0_call0_v20) addi ]

/-- @main's operations 61 … 90 of 297. -/
abbrev ops_2 : List (HloOp τ sig (Elt F)) :=
  [ TRef.nullary (TRef.of (T := ⟨S_, .i32⟩) main_call0_call0_call0_c_4) (constantI S_ 32 26#32),
    TRef.unary (TRef.of (T := ⟨S_, .i32⟩) main_call0_call0_call0_c_4) (TRef.of (T := ⟨S128x100000, .i32⟩) main_call0_call0_call0_v21) (broadcastInDim S128x100000 ![] bcast_S_S128x100000),
    TRef.binary (TRef.of (T := ⟨S128x100000, .i32⟩) main_call0_call0_call0_v19) (TRef.of (T := ⟨S128x100000, .i32⟩) main_call0_call0_call0_v21) (TRef.of (T := ⟨S128x100000, .i32⟩) main_call0_call0_call0_v22) Host.shli,
    TRef.nullary (TRef.of (T := ⟨S_, .i32⟩) main_call0_call0_call0_c_5) (constantI S_ 32 6#32),
    TRef.unary (TRef.of (T := ⟨S_, .i32⟩) main_call0_call0_call0_c_5) (TRef.of (T := ⟨S128x100000, .i32⟩) main_call0_call0_call0_v23) (broadcastInDim S128x100000 ![] bcast_S_S128x100000),
    TRef.binary (TRef.of (T := ⟨S128x100000, .i32⟩) main_call0_call0_call0_v19) (TRef.of (T := ⟨S128x100000, .i32⟩) main_call0_call0_call0_v23) (TRef.of (T := ⟨S128x100000, .i32⟩) main_call0_call0_call0_v24) Host.shrui,
    TRef.binary (TRef.of (T := ⟨S128x100000, .i32⟩) main_call0_call0_call0_v22) (TRef.of (T := ⟨S128x100000, .i32⟩) main_call0_call0_call0_v24) (TRef.of (T := ⟨S128x100000, .i32⟩) main_call0_call0_call0_v25) ori,
    TRef.binary (TRef.of (T := ⟨S128x100000, .i32⟩) main_call0_call0_call0_v20) (TRef.of (T := ⟨S128x100000, .i32⟩) main_call0_call0_call0_v25) (TRef.of (T := ⟨S128x100000, .i32⟩) main_call0_call0_call0_v26) xori,
    TRef.binary (TRef.of (T := ⟨S128x100000, .i32⟩) main_call0_call0_call0_v20) (TRef.of (T := ⟨S128x100000, .i32⟩) main_call0_call0_call0_v26) (TRef.of (T := ⟨S128x100000, .i32⟩) main_call0_call0_call0_v27) addi,
    TRef.nullary (TRef.of (T := ⟨S_, .i32⟩) main_call0_call0_call0_c_6) (constantI S_ 32 6#32),
    TRef.unary (TRef.of (T := ⟨S_, .i32⟩) main_call0_call0_call0_c_6) (TRef.of (T := ⟨S128x100000, .i32⟩) main_call0_call0_call0_v28) (broadcastInDim S128x100000 ![] bcast_S_S128x100000),
    TRef.binary (TRef.of (T := ⟨S128x100000, .i32⟩) main_call0_call0_call0_v26) (TRef.of (T := ⟨S128x100000, .i32⟩) main_call0_call0_call0_v28) (TRef.of (T := ⟨S128x100000, .i32⟩) main_call0_call0_call0_v29) Host.shli,
    TRef.nullary (TRef.of (T := ⟨S_, .i32⟩) main_call0_call0_call0_c_7) (constantI S_ 32 26#32),
    TRef.unary (TRef.of (T := ⟨S_, .i32⟩) main_call0_call0_call0_c_7) (TRef.of (T := ⟨S128x100000, .i32⟩) main_call0_call0_call0_v30) (broadcastInDim S128x100000 ![] bcast_S_S128x100000),
    TRef.binary (TRef.of (T := ⟨S128x100000, .i32⟩) main_call0_call0_call0_v26) (TRef.of (T := ⟨S128x100000, .i32⟩) main_call0_call0_call0_v30) (TRef.of (T := ⟨S128x100000, .i32⟩) main_call0_call0_call0_v31) Host.shrui,
    TRef.binary (TRef.of (T := ⟨S128x100000, .i32⟩) main_call0_call0_call0_v29) (TRef.of (T := ⟨S128x100000, .i32⟩) main_call0_call0_call0_v31) (TRef.of (T := ⟨S128x100000, .i32⟩) main_call0_call0_call0_v32) ori,
    TRef.binary (TRef.of (T := ⟨S128x100000, .i32⟩) main_call0_call0_call0_v27) (TRef.of (T := ⟨S128x100000, .i32⟩) main_call0_call0_call0_v32) (TRef.of (T := ⟨S128x100000, .i32⟩) main_call0_call0_call0_v33) xori,
    TRef.unary (TRef.of (T := ⟨S_, .i32⟩) main_call0_call0_v7) (TRef.of (T := ⟨S128x100000, .i32⟩) main_call0_call0_call0_v34) (broadcastInDim S128x100000 ![] bcast_S_S128x100000),
    TRef.binary (TRef.of (T := ⟨S128x100000, .i32⟩) main_call0_call0_call0_v27) (TRef.of (T := ⟨S128x100000, .i32⟩) main_call0_call0_call0_v34) (TRef.of (T := ⟨S128x100000, .i32⟩) main_call0_call0_call0_v35) addi,
    TRef.unary (TRef.of (T := ⟨S_, .i32⟩) main_call0_call0_call0_v1) (TRef.of (T := ⟨S128x100000, .i32⟩) main_call0_call0_call0_v36) (broadcastInDim S128x100000 ![] bcast_S_S128x100000),
    TRef.binary (TRef.of (T := ⟨S128x100000, .i32⟩) main_call0_call0_call0_v33) (TRef.of (T := ⟨S128x100000, .i32⟩) main_call0_call0_call0_v36) (TRef.of (T := ⟨S128x100000, .i32⟩) main_call0_call0_call0_v37) addi,
    TRef.nullary (TRef.of (T := ⟨S_, .i32⟩) main_call0_call0_call0_c_8) (constantI S_ 32 1#32),
    TRef.unary (TRef.of (T := ⟨S_, .i32⟩) main_call0_call0_call0_c_8) (TRef.of (T := ⟨S128x100000, .i32⟩) main_call0_call0_call0_v38) (broadcastInDim S128x100000 ![] bcast_S_S128x100000),
    TRef.binary (TRef.of (T := ⟨S128x100000, .i32⟩) main_call0_call0_call0_v37) (TRef.of (T := ⟨S128x100000, .i32⟩) main_call0_call0_call0_v38) (TRef.of (T := ⟨S128x100000, .i32⟩) main_call0_call0_call0_v39) addi,
    TRef.binary (TRef.of (T := ⟨S128x100000, .i32⟩) main_call0_call0_call0_v35) (TRef.of (T := ⟨S128x100000, .i32⟩) main_call0_call0_call0_v39) (TRef.of (T := ⟨S128x100000, .i32⟩) main_call0_call0_call0_v40) addi,
    TRef.nullary (TRef.of (T := ⟨S_, .i32⟩) main_call0_call0_call0_c_9) (constantI S_ 32 17#32),
    TRef.unary (TRef.of (T := ⟨S_, .i32⟩) main_call0_call0_call0_c_9) (TRef.of (T := ⟨S128x100000, .i32⟩) main_call0_call0_call0_v41) (broadcastInDim S128x100000 ![] bcast_S_S128x100000),
    TRef.binary (TRef.of (T := ⟨S128x100000, .i32⟩) main_call0_call0_call0_v39) (TRef.of (T := ⟨S128x100000, .i32⟩) main_call0_call0_call0_v41) (TRef.of (T := ⟨S128x100000, .i32⟩) main_call0_call0_call0_v42) Host.shli,
    TRef.nullary (TRef.of (T := ⟨S_, .i32⟩) main_call0_call0_call0_c_10) (constantI S_ 32 15#32),
    TRef.unary (TRef.of (T := ⟨S_, .i32⟩) main_call0_call0_call0_c_10) (TRef.of (T := ⟨S128x100000, .i32⟩) main_call0_call0_call0_v43) (broadcastInDim S128x100000 ![] bcast_S_S128x100000) ]

/-- @main's operations 91 … 120 of 297. -/
abbrev ops_3 : List (HloOp τ sig (Elt F)) :=
  [ TRef.binary (TRef.of (T := ⟨S128x100000, .i32⟩) main_call0_call0_call0_v39) (TRef.of (T := ⟨S128x100000, .i32⟩) main_call0_call0_call0_v43) (TRef.of (T := ⟨S128x100000, .i32⟩) main_call0_call0_call0_v44) Host.shrui,
    TRef.binary (TRef.of (T := ⟨S128x100000, .i32⟩) main_call0_call0_call0_v42) (TRef.of (T := ⟨S128x100000, .i32⟩) main_call0_call0_call0_v44) (TRef.of (T := ⟨S128x100000, .i32⟩) main_call0_call0_call0_v45) ori,
    TRef.binary (TRef.of (T := ⟨S128x100000, .i32⟩) main_call0_call0_call0_v40) (TRef.of (T := ⟨S128x100000, .i32⟩) main_call0_call0_call0_v45) (TRef.of (T := ⟨S128x100000, .i32⟩) main_call0_call0_call0_v46) xori,
    TRef.binary (TRef.of (T := ⟨S128x100000, .i32⟩) main_call0_call0_call0_v40) (TRef.of (T := ⟨S128x100000, .i32⟩) main_call0_call0_call0_v46) (TRef.of (T := ⟨S128x100000, .i32⟩) main_call0_call0_call0_v47) addi,
    TRef.nullary (TRef.of (T := ⟨S_, .i32⟩) main_call0_call0_call0_c_11) (constantI S_ 32 29#32),
    TRef.unary (TRef.of (T := ⟨S_, .i32⟩) main_call0_call0_call0_c_11) (TRef.of (T := ⟨S128x100000, .i32⟩) main_call0_call0_call0_v48) (broadcastInDim S128x100000 ![] bcast_S_S128x100000),
    TRef.binary (TRef.of (T := ⟨S128x100000, .i32⟩) main_call0_call0_call0_v46) (TRef.of (T := ⟨S128x100000, .i32⟩) main_call0_call0_call0_v48) (TRef.of (T := ⟨S128x100000, .i32⟩) main_call0_call0_call0_v49) Host.shli,
    TRef.nullary (TRef.of (T := ⟨S_, .i32⟩) main_call0_call0_call0_c_12) (constantI S_ 32 3#32),
    TRef.unary (TRef.of (T := ⟨S_, .i32⟩) main_call0_call0_call0_c_12) (TRef.of (T := ⟨S128x100000, .i32⟩) main_call0_call0_call0_v50) (broadcastInDim S128x100000 ![] bcast_S_S128x100000),
    TRef.binary (TRef.of (T := ⟨S128x100000, .i32⟩) main_call0_call0_call0_v46) (TRef.of (T := ⟨S128x100000, .i32⟩) main_call0_call0_call0_v50) (TRef.of (T := ⟨S128x100000, .i32⟩) main_call0_call0_call0_v51) Host.shrui,
    TRef.binary (TRef.of (T := ⟨S128x100000, .i32⟩) main_call0_call0_call0_v49) (TRef.of (T := ⟨S128x100000, .i32⟩) main_call0_call0_call0_v51) (TRef.of (T := ⟨S128x100000, .i32⟩) main_call0_call0_call0_v52) ori,
    TRef.binary (TRef.of (T := ⟨S128x100000, .i32⟩) main_call0_call0_call0_v47) (TRef.of (T := ⟨S128x100000, .i32⟩) main_call0_call0_call0_v52) (TRef.of (T := ⟨S128x100000, .i32⟩) main_call0_call0_call0_v53) xori,
    TRef.binary (TRef.of (T := ⟨S128x100000, .i32⟩) main_call0_call0_call0_v47) (TRef.of (T := ⟨S128x100000, .i32⟩) main_call0_call0_call0_v53) (TRef.of (T := ⟨S128x100000, .i32⟩) main_call0_call0_call0_v54) addi,
    TRef.nullary (TRef.of (T := ⟨S_, .i32⟩) main_call0_call0_call0_c_13) (constantI S_ 32 16#32),
    TRef.unary (TRef.of (T := ⟨S_, .i32⟩) main_call0_call0_call0_c_13) (TRef.of (T := ⟨S128x100000, .i32⟩) main_call0_call0_call0_v55) (broadcastInDim S128x100000 ![] bcast_S_S128x100000),
    TRef.binary (TRef.of (T := ⟨S128x100000, .i32⟩) main_call0_call0_call0_v53) (TRef.of (T := ⟨S128x100000, .i32⟩) main_call0_call0_call0_v55) (TRef.of (T := ⟨S128x100000, .i32⟩) main_call0_call0_call0_v56) Host.shli,
    TRef.nullary (TRef.of (T := ⟨S_, .i32⟩) main_call0_call0_call0_c_14) (constantI S_ 32 16#32),
    TRef.unary (TRef.of (T := ⟨S_, .i32⟩) main_call0_call0_call0_c_14) (TRef.of (T := ⟨S128x100000, .i32⟩) main_call0_call0_call0_v57) (broadcastInDim S128x100000 ![] bcast_S_S128x100000),
    TRef.binary (TRef.of (T := ⟨S128x100000, .i32⟩) main_call0_call0_call0_v53) (TRef.of (T := ⟨S128x100000, .i32⟩) main_call0_call0_call0_v57) (TRef.of (T := ⟨S128x100000, .i32⟩) main_call0_call0_call0_v58) Host.shrui,
    TRef.binary (TRef.of (T := ⟨S128x100000, .i32⟩) main_call0_call0_call0_v56) (TRef.of (T := ⟨S128x100000, .i32⟩) main_call0_call0_call0_v58) (TRef.of (T := ⟨S128x100000, .i32⟩) main_call0_call0_call0_v59) ori,
    TRef.binary (TRef.of (T := ⟨S128x100000, .i32⟩) main_call0_call0_call0_v54) (TRef.of (T := ⟨S128x100000, .i32⟩) main_call0_call0_call0_v59) (TRef.of (T := ⟨S128x100000, .i32⟩) main_call0_call0_call0_v60) xori,
    TRef.binary (TRef.of (T := ⟨S128x100000, .i32⟩) main_call0_call0_call0_v54) (TRef.of (T := ⟨S128x100000, .i32⟩) main_call0_call0_call0_v60) (TRef.of (T := ⟨S128x100000, .i32⟩) main_call0_call0_call0_v61) addi,
    TRef.nullary (TRef.of (T := ⟨S_, .i32⟩) main_call0_call0_call0_c_15) (constantI S_ 32 24#32),
    TRef.unary (TRef.of (T := ⟨S_, .i32⟩) main_call0_call0_call0_c_15) (TRef.of (T := ⟨S128x100000, .i32⟩) main_call0_call0_call0_v62) (broadcastInDim S128x100000 ![] bcast_S_S128x100000),
    TRef.binary (TRef.of (T := ⟨S128x100000, .i32⟩) main_call0_call0_call0_v60) (TRef.of (T := ⟨S128x100000, .i32⟩) main_call0_call0_call0_v62) (TRef.of (T := ⟨S128x100000, .i32⟩) main_call0_call0_call0_v63) Host.shli,
    TRef.nullary (TRef.of (T := ⟨S_, .i32⟩) main_call0_call0_call0_c_16) (constantI S_ 32 8#32),
    TRef.unary (TRef.of (T := ⟨S_, .i32⟩) main_call0_call0_call0_c_16) (TRef.of (T := ⟨S128x100000, .i32⟩) main_call0_call0_call0_v64) (broadcastInDim S128x100000 ![] bcast_S_S128x100000),
    TRef.binary (TRef.of (T := ⟨S128x100000, .i32⟩) main_call0_call0_call0_v60) (TRef.of (T := ⟨S128x100000, .i32⟩) main_call0_call0_call0_v64) (TRef.of (T := ⟨S128x100000, .i32⟩) main_call0_call0_call0_v65) Host.shrui,
    TRef.binary (TRef.of (T := ⟨S128x100000, .i32⟩) main_call0_call0_call0_v63) (TRef.of (T := ⟨S128x100000, .i32⟩) main_call0_call0_call0_v65) (TRef.of (T := ⟨S128x100000, .i32⟩) main_call0_call0_call0_v66) ori,
    TRef.binary (TRef.of (T := ⟨S128x100000, .i32⟩) main_call0_call0_call0_v61) (TRef.of (T := ⟨S128x100000, .i32⟩) main_call0_call0_call0_v66) (TRef.of (T := ⟨S128x100000, .i32⟩) main_call0_call0_call0_v67) xori ]

/-- @main's operations 121 … 150 of 297. -/
abbrev ops_4 : List (HloOp τ sig (Elt F)) :=
  [ TRef.unary (TRef.of (T := ⟨S_, .i32⟩) main_call0_call0_call0_v1) (TRef.of (T := ⟨S128x100000, .i32⟩) main_call0_call0_call0_v68) (broadcastInDim S128x100000 ![] bcast_S_S128x100000),
    TRef.binary (TRef.of (T := ⟨S128x100000, .i32⟩) main_call0_call0_call0_v61) (TRef.of (T := ⟨S128x100000, .i32⟩) main_call0_call0_call0_v68) (TRef.of (T := ⟨S128x100000, .i32⟩) main_call0_call0_call0_v69) addi,
    TRef.unary (TRef.of (T := ⟨S_, .i32⟩) main_call0_call0_v5) (TRef.of (T := ⟨S128x100000, .i32⟩) main_call0_call0_call0_v70) (broadcastInDim S128x100000 ![] bcast_S_S128x100000),
    TRef.binary (TRef.of (T := ⟨S128x100000, .i32⟩) main_call0_call0_call0_v67) (TRef.of (T := ⟨S128x100000, .i32⟩) main_call0_call0_call0_v70) (TRef.of (T := ⟨S128x100000, .i32⟩) main_call0_call0_call0_v71) addi,
    TRef.nullary (TRef.of (T := ⟨S_, .i32⟩) main_call0_call0_call0_c_17) (constantI S_ 32 2#32),
    TRef.unary (TRef.of (T := ⟨S_, .i32⟩) main_call0_call0_call0_c_17) (TRef.of (T := ⟨S128x100000, .i32⟩) main_call0_call0_call0_v72) (broadcastInDim S128x100000 ![] bcast_S_S128x100000),
    TRef.binary (TRef.of (T := ⟨S128x100000, .i32⟩) main_call0_call0_call0_v71) (TRef.of (T := ⟨S128x100000, .i32⟩) main_call0_call0_call0_v72) (TRef.of (T := ⟨S128x100000, .i32⟩) main_call0_call0_call0_v73) addi,
    TRef.binary (TRef.of (T := ⟨S128x100000, .i32⟩) main_call0_call0_call0_v69) (TRef.of (T := ⟨S128x100000, .i32⟩) main_call0_call0_call0_v73) (TRef.of (T := ⟨S128x100000, .i32⟩) main_call0_call0_call0_v74) addi,
    TRef.nullary (TRef.of (T := ⟨S_, .i32⟩) main_call0_call0_call0_c_18) (constantI S_ 32 13#32),
    TRef.unary (TRef.of (T := ⟨S_, .i32⟩) main_call0_call0_call0_c_18) (TRef.of (T := ⟨S128x100000, .i32⟩) main_call0_call0_call0_v75) (broadcastInDim S128x100000 ![] bcast_S_S128x100000),
    TRef.binary (TRef.of (T := ⟨S128x100000, .i32⟩) main_call0_call0_call0_v73) (TRef.of (T := ⟨S128x100000, .i32⟩) main_call0_call0_call0_v75) (TRef.of (T := ⟨S128x100000, .i32⟩) main_call0_call0_call0_v76) Host.shli,
    TRef.nullary (TRef.of (T := ⟨S_, .i32⟩) main_call0_call0_call0_c_19) (constantI S_ 32 19#32),
    TRef.unary (TRef.of (T := ⟨S_, .i32⟩) main_call0_call0_call0_c_19) (TRef.of (T := ⟨S128x100000, .i32⟩) main_call0_call0_call0_v77) (broadcastInDim S128x100000 ![] bcast_S_S128x100000),
    TRef.binary (TRef.of (T := ⟨S128x100000, .i32⟩) main_call0_call0_call0_v73) (TRef.of (T := ⟨S128x100000, .i32⟩) main_call0_call0_call0_v77) (TRef.of (T := ⟨S128x100000, .i32⟩) main_call0_call0_call0_v78) Host.shrui,
    TRef.binary (TRef.of (T := ⟨S128x100000, .i32⟩) main_call0_call0_call0_v76) (TRef.of (T := ⟨S128x100000, .i32⟩) main_call0_call0_call0_v78) (TRef.of (T := ⟨S128x100000, .i32⟩) main_call0_call0_call0_v79) ori,
    TRef.binary (TRef.of (T := ⟨S128x100000, .i32⟩) main_call0_call0_call0_v74) (TRef.of (T := ⟨S128x100000, .i32⟩) main_call0_call0_call0_v79) (TRef.of (T := ⟨S128x100000, .i32⟩) main_call0_call0_call0_v80) xori,
    TRef.binary (TRef.of (T := ⟨S128x100000, .i32⟩) main_call0_call0_call0_v74) (TRef.of (T := ⟨S128x100000, .i32⟩) main_call0_call0_call0_v80) (TRef.of (T := ⟨S128x100000, .i32⟩) main_call0_call0_call0_v81) addi,
    TRef.nullary (TRef.of (T := ⟨S_, .i32⟩) main_call0_call0_call0_c_20) (constantI S_ 32 15#32),
    TRef.unary (TRef.of (T := ⟨S_, .i32⟩) main_call0_call0_call0_c_20) (TRef.of (T := ⟨S128x100000, .i32⟩) main_call0_call0_call0_v82) (broadcastInDim S128x100000 ![] bcast_S_S128x100000),
    TRef.binary (TRef.of (T := ⟨S128x100000, .i32⟩) main_call0_call0_call0_v80) (TRef.of (T := ⟨S128x100000, .i32⟩) main_call0_call0_call0_v82) (TRef.of (T := ⟨S128x100000, .i32⟩) main_call0_call0_call0_v83) Host.shli,
    TRef.nullary (TRef.of (T := ⟨S_, .i32⟩) main_call0_call0_call0_c_21) (constantI S_ 32 17#32),
    TRef.unary (TRef.of (T := ⟨S_, .i32⟩) main_call0_call0_call0_c_21) (TRef.of (T := ⟨S128x100000, .i32⟩) main_call0_call0_call0_v84) (broadcastInDim S128x100000 ![] bcast_S_S128x100000),
    TRef.binary (TRef.of (T := ⟨S128x100000, .i32⟩) main_call0_call0_call0_v80) (TRef.of (T := ⟨S128x100000, .i32⟩) main_call0_call0_call0_v84) (TRef.of (T := ⟨S128x100000, .i32⟩) main_call0_call0_call0_v85) Host.shrui,
    TRef.binary (TRef.of (T := ⟨S128x100000, .i32⟩) main_call0_call0_call0_v83) (TRef.of (T := ⟨S128x100000, .i32⟩) main_call0_call0_call0_v85) (TRef.of (T := ⟨S128x100000, .i32⟩) main_call0_call0_call0_v86) ori,
    TRef.binary (TRef.of (T := ⟨S128x100000, .i32⟩) main_call0_call0_call0_v81) (TRef.of (T := ⟨S128x100000, .i32⟩) main_call0_call0_call0_v86) (TRef.of (T := ⟨S128x100000, .i32⟩) main_call0_call0_call0_v87) xori,
    TRef.binary (TRef.of (T := ⟨S128x100000, .i32⟩) main_call0_call0_call0_v81) (TRef.of (T := ⟨S128x100000, .i32⟩) main_call0_call0_call0_v87) (TRef.of (T := ⟨S128x100000, .i32⟩) main_call0_call0_call0_v88) addi,
    TRef.nullary (TRef.of (T := ⟨S_, .i32⟩) main_call0_call0_call0_c_22) (constantI S_ 32 26#32),
    TRef.unary (TRef.of (T := ⟨S_, .i32⟩) main_call0_call0_call0_c_22) (TRef.of (T := ⟨S128x100000, .i32⟩) main_call0_call0_call0_v89) (broadcastInDim S128x100000 ![] bcast_S_S128x100000),
    TRef.binary (TRef.of (T := ⟨S128x100000, .i32⟩) main_call0_call0_call0_v87) (TRef.of (T := ⟨S128x100000, .i32⟩) main_call0_call0_call0_v89) (TRef.of (T := ⟨S128x100000, .i32⟩) main_call0_call0_call0_v90) Host.shli,
    TRef.nullary (TRef.of (T := ⟨S_, .i32⟩) main_call0_call0_call0_c_23) (constantI S_ 32 6#32) ]

/-- @main's operations 151 … 180 of 297. -/
abbrev ops_5 : List (HloOp τ sig (Elt F)) :=
  [ TRef.unary (TRef.of (T := ⟨S_, .i32⟩) main_call0_call0_call0_c_23) (TRef.of (T := ⟨S128x100000, .i32⟩) main_call0_call0_call0_v91) (broadcastInDim S128x100000 ![] bcast_S_S128x100000),
    TRef.binary (TRef.of (T := ⟨S128x100000, .i32⟩) main_call0_call0_call0_v87) (TRef.of (T := ⟨S128x100000, .i32⟩) main_call0_call0_call0_v91) (TRef.of (T := ⟨S128x100000, .i32⟩) main_call0_call0_call0_v92) Host.shrui,
    TRef.binary (TRef.of (T := ⟨S128x100000, .i32⟩) main_call0_call0_call0_v90) (TRef.of (T := ⟨S128x100000, .i32⟩) main_call0_call0_call0_v92) (TRef.of (T := ⟨S128x100000, .i32⟩) main_call0_call0_call0_v93) ori,
    TRef.binary (TRef.of (T := ⟨S128x100000, .i32⟩) main_call0_call0_call0_v88) (TRef.of (T := ⟨S128x100000, .i32⟩) main_call0_call0_call0_v93) (TRef.of (T := ⟨S128x100000, .i32⟩) main_call0_call0_call0_v94) xori,
    TRef.binary (TRef.of (T := ⟨S128x100000, .i32⟩) main_call0_call0_call0_v88) (TRef.of (T := ⟨S128x100000, .i32⟩) main_call0_call0_call0_v94) (TRef.of (T := ⟨S128x100000, .i32⟩) main_call0_call0_call0_v95) addi,
    TRef.nullary (TRef.of (T := ⟨S_, .i32⟩) main_call0_call0_call0_c_24) (constantI S_ 32 6#32),
    TRef.unary (TRef.of (T := ⟨S_, .i32⟩) main_call0_call0_call0_c_24) (TRef.of (T := ⟨S128x100000, .i32⟩) main_call0_call0_call0_v96) (broadcastInDim S128x100000 ![] bcast_S_S128x100000),
    TRef.binary (TRef.of (T := ⟨S128x100000, .i32⟩) main_call0_call0_call0_v94) (TRef.of (T := ⟨S128x100000, .i32⟩) main_call0_call0_call0_v96) (TRef.of (T := ⟨S128x100000, .i32⟩) main_call0_call0_call0_v97) Host.shli,
    TRef.nullary (TRef.of (T := ⟨S_, .i32⟩) main_call0_call0_call0_c_25) (constantI S_ 32 26#32),
    TRef.unary (TRef.of (T := ⟨S_, .i32⟩) main_call0_call0_call0_c_25) (TRef.of (T := ⟨S128x100000, .i32⟩) main_call0_call0_call0_v98) (broadcastInDim S128x100000 ![] bcast_S_S128x100000),
    TRef.binary (TRef.of (T := ⟨S128x100000, .i32⟩) main_call0_call0_call0_v94) (TRef.of (T := ⟨S128x100000, .i32⟩) main_call0_call0_call0_v98) (TRef.of (T := ⟨S128x100000, .i32⟩) main_call0_call0_call0_v99) Host.shrui,
    TRef.binary (TRef.of (T := ⟨S128x100000, .i32⟩) main_call0_call0_call0_v97) (TRef.of (T := ⟨S128x100000, .i32⟩) main_call0_call0_call0_v99) (TRef.of (T := ⟨S128x100000, .i32⟩) main_call0_call0_call0_v100) ori,
    TRef.binary (TRef.of (T := ⟨S128x100000, .i32⟩) main_call0_call0_call0_v95) (TRef.of (T := ⟨S128x100000, .i32⟩) main_call0_call0_call0_v100) (TRef.of (T := ⟨S128x100000, .i32⟩) main_call0_call0_call0_v101) xori,
    TRef.unary (TRef.of (T := ⟨S_, .i32⟩) main_call0_call0_v5) (TRef.of (T := ⟨S128x100000, .i32⟩) main_call0_call0_call0_v102) (broadcastInDim S128x100000 ![] bcast_S_S128x100000),
    TRef.binary (TRef.of (T := ⟨S128x100000, .i32⟩) main_call0_call0_call0_v95) (TRef.of (T := ⟨S128x100000, .i32⟩) main_call0_call0_call0_v102) (TRef.of (T := ⟨S128x100000, .i32⟩) main_call0_call0_call0_v103) addi,
    TRef.unary (TRef.of (T := ⟨S_, .i32⟩) main_call0_call0_v7) (TRef.of (T := ⟨S128x100000, .i32⟩) main_call0_call0_call0_v104) (broadcastInDim S128x100000 ![] bcast_S_S128x100000),
    TRef.binary (TRef.of (T := ⟨S128x100000, .i32⟩) main_call0_call0_call0_v101) (TRef.of (T := ⟨S128x100000, .i32⟩) main_call0_call0_call0_v104) (TRef.of (T := ⟨S128x100000, .i32⟩) main_call0_call0_call0_v105) addi,
    TRef.nullary (TRef.of (T := ⟨S_, .i32⟩) main_call0_call0_call0_c_26) (constantI S_ 32 3#32),
    TRef.unary (TRef.of (T := ⟨S_, .i32⟩) main_call0_call0_call0_c_26) (TRef.of (T := ⟨S128x100000, .i32⟩) main_call0_call0_call0_v106) (broadcastInDim S128x100000 ![] bcast_S_S128x100000),
    TRef.binary (TRef.of (T := ⟨S128x100000, .i32⟩) main_call0_call0_call0_v105) (TRef.of (T := ⟨S128x100000, .i32⟩) main_call0_call0_call0_v106) (TRef.of (T := ⟨S128x100000, .i32⟩) main_call0_call0_call0_v107) addi,
    TRef.binary (TRef.of (T := ⟨S128x100000, .i32⟩) main_call0_call0_call0_v103) (TRef.of (T := ⟨S128x100000, .i32⟩) main_call0_call0_call0_v107) (TRef.of (T := ⟨S128x100000, .i32⟩) main_call0_call0_call0_v108) addi,
    TRef.nullary (TRef.of (T := ⟨S_, .i32⟩) main_call0_call0_call0_c_27) (constantI S_ 32 17#32),
    TRef.unary (TRef.of (T := ⟨S_, .i32⟩) main_call0_call0_call0_c_27) (TRef.of (T := ⟨S128x100000, .i32⟩) main_call0_call0_call0_v109) (broadcastInDim S128x100000 ![] bcast_S_S128x100000),
    TRef.binary (TRef.of (T := ⟨S128x100000, .i32⟩) main_call0_call0_call0_v107) (TRef.of (T := ⟨S128x100000, .i32⟩) main_call0_call0_call0_v109) (TRef.of (T := ⟨S128x100000, .i32⟩) main_call0_call0_call0_v110) Host.shli,
    TRef.nullary (TRef.of (T := ⟨S_, .i32⟩) main_call0_call0_call0_c_28) (constantI S_ 32 15#32),
    TRef.unary (TRef.of (T := ⟨S_, .i32⟩) main_call0_call0_call0_c_28) (TRef.of (T := ⟨S128x100000, .i32⟩) main_call0_call0_call0_v111) (broadcastInDim S128x100000 ![] bcast_S_S128x100000),
    TRef.binary (TRef.of (T := ⟨S128x100000, .i32⟩) main_call0_call0_call0_v107) (TRef.of (T := ⟨S128x100000, .i32⟩) main_call0_call0_call0_v111) (TRef.of (T := ⟨S128x100000, .i32⟩) main_call0_call0_call0_v112) Host.shrui,
    TRef.binary (TRef.of (T := ⟨S128x100000, .i32⟩) main_call0_call0_call0_v110) (TRef.of (T := ⟨S128x100000, .i32⟩) main_call0_call0_call0_v112) (TRef.of (T := ⟨S128x100000, .i32⟩) main_call0_call0_call0_v113) ori,
    TRef.binary (TRef.of (T := ⟨S128x100000, .i32⟩) main_call0_call0_call0_v108) (TRef.of (T := ⟨S128x100000, .i32⟩) main_call0_call0_call0_v113) (TRef.of (T := ⟨S128x100000, .i32⟩) main_call0_call0_call0_v114) xori,
    TRef.binary (TRef.of (T := ⟨S128x100000, .i32⟩) main_call0_call0_call0_v108) (TRef.of (T := ⟨S128x100000, .i32⟩) main_call0_call0_call0_v114) (TRef.of (T := ⟨S128x100000, .i32⟩) main_call0_call0_call0_v115) addi ]

/-- @main's operations 181 … 210 of 297. -/
abbrev ops_6 : List (HloOp τ sig (Elt F)) :=
  [ TRef.nullary (TRef.of (T := ⟨S_, .i32⟩) main_call0_call0_call0_c_29) (constantI S_ 32 29#32),
    TRef.unary (TRef.of (T := ⟨S_, .i32⟩) main_call0_call0_call0_c_29) (TRef.of (T := ⟨S128x100000, .i32⟩) main_call0_call0_call0_v116) (broadcastInDim S128x100000 ![] bcast_S_S128x100000),
    TRef.binary (TRef.of (T := ⟨S128x100000, .i32⟩) main_call0_call0_call0_v114) (TRef.of (T := ⟨S128x100000, .i32⟩) main_call0_call0_call0_v116) (TRef.of (T := ⟨S128x100000, .i32⟩) main_call0_call0_call0_v117) Host.shli,
    TRef.nullary (TRef.of (T := ⟨S_, .i32⟩) main_call0_call0_call0_c_30) (constantI S_ 32 3#32),
    TRef.unary (TRef.of (T := ⟨S_, .i32⟩) main_call0_call0_call0_c_30) (TRef.of (T := ⟨S128x100000, .i32⟩) main_call0_call0_call0_v118) (broadcastInDim S128x100000 ![] bcast_S_S128x100000),
    TRef.binary (TRef.of (T := ⟨S128x100000, .i32⟩) main_call0_call0_call0_v114) (TRef.of (T := ⟨S128x100000, .i32⟩) main_call0_call0_call0_v118) (TRef.of (T := ⟨S128x100000, .i32⟩) main_call0_call0_call0_v119) Host.shrui,
    TRef.binary (TRef.of (T := ⟨S128x100000, .i32⟩) main_call0_call0_call0_v117) (TRef.of (T := ⟨S128x100000, .i32⟩) main_call0_call0_call0_v119) (TRef.of (T := ⟨S128x100000, .i32⟩) main_call0_call0_call0_v120) ori,
    TRef.binary (TRef.of (T := ⟨S128x100000, .i32⟩) main_call0_call0_call0_v115) (TRef.of (T := ⟨S128x100000, .i32⟩) main_call0_call0_call0_v120) (TRef.of (T := ⟨S128x100000, .i32⟩) main_call0_call0_call0_v121) xori,
    TRef.binary (TRef.of (T := ⟨S128x100000, .i32⟩) main_call0_call0_call0_v115) (TRef.of (T := ⟨S128x100000, .i32⟩) main_call0_call0_call0_v121) (TRef.of (T := ⟨S128x100000, .i32⟩) main_call0_call0_call0_v122) addi,
    TRef.nullary (TRef.of (T := ⟨S_, .i32⟩) main_call0_call0_call0_c_31) (constantI S_ 32 16#32),
    TRef.unary (TRef.of (T := ⟨S_, .i32⟩) main_call0_call0_call0_c_31) (TRef.of (T := ⟨S128x100000, .i32⟩) main_call0_call0_call0_v123) (broadcastInDim S128x100000 ![] bcast_S_S128x100000),
    TRef.binary (TRef.of (T := ⟨S128x100000, .i32⟩) main_call0_call0_call0_v121) (TRef.of (T := ⟨S128x100000, .i32⟩) main_call0_call0_call0_v123) (TRef.of (T := ⟨S128x100000, .i32⟩) main_call0_call0_call0_v124) Host.shli,
    TRef.nullary (TRef.of (T := ⟨S_, .i32⟩) main_call0_call0_call0_c_32) (constantI S_ 32 16#32),
    TRef.unary (TRef.of (T := ⟨S_, .i32⟩) main_call0_call0_call0_c_32) (TRef.of (T := ⟨S128x100000, .i32⟩) main_call0_call0_call0_v125) (broadcastInDim S128x100000 ![] bcast_S_S128x100000),
    TRef.binary (TRef.of (T := ⟨S128x100000, .i32⟩) main_call0_call0_call0_v121) (TRef.of (T := ⟨S128x100000, .i32⟩) main_call0_call0_call0_v125) (TRef.of (T := ⟨S128x100000, .i32⟩) main_call0_call0_call0_v126) Host.shrui,
    TRef.binary (TRef.of (T := ⟨S128x100000, .i32⟩) main_call0_call0_call0_v124) (TRef.of (T := ⟨S128x100000, .i32⟩) main_call0_call0_call0_v126) (TRef.of (T := ⟨S128x100000, .i32⟩) main_call0_call0_call0_v127) ori,
    TRef.binary (TRef.of (T := ⟨S128x100000, .i32⟩) main_call0_call0_call0_v122) (TRef.of (T := ⟨S128x100000, .i32⟩) main_call0_call0_call0_v127) (TRef.of (T := ⟨S128x100000, .i32⟩) main_call0_call0_call0_v128) xori,
    TRef.binary (TRef.of (T := ⟨S128x100000, .i32⟩) main_call0_call0_call0_v122) (TRef.of (T := ⟨S128x100000, .i32⟩) main_call0_call0_call0_v128) (TRef.of (T := ⟨S128x100000, .i32⟩) main_call0_call0_call0_v129) addi,
    TRef.nullary (TRef.of (T := ⟨S_, .i32⟩) main_call0_call0_call0_c_33) (constantI S_ 32 24#32),
    TRef.unary (TRef.of (T := ⟨S_, .i32⟩) main_call0_call0_call0_c_33) (TRef.of (T := ⟨S128x100000, .i32⟩) main_call0_call0_call0_v130) (broadcastInDim S128x100000 ![] bcast_S_S128x100000),
    TRef.binary (TRef.of (T := ⟨S128x100000, .i32⟩) main_call0_call0_call0_v128) (TRef.of (T := ⟨S128x100000, .i32⟩) main_call0_call0_call0_v130) (TRef.of (T := ⟨S128x100000, .i32⟩) main_call0_call0_call0_v131) Host.shli,
    TRef.nullary (TRef.of (T := ⟨S_, .i32⟩) main_call0_call0_call0_c_34) (constantI S_ 32 8#32),
    TRef.unary (TRef.of (T := ⟨S_, .i32⟩) main_call0_call0_call0_c_34) (TRef.of (T := ⟨S128x100000, .i32⟩) main_call0_call0_call0_v132) (broadcastInDim S128x100000 ![] bcast_S_S128x100000),
    TRef.binary (TRef.of (T := ⟨S128x100000, .i32⟩) main_call0_call0_call0_v128) (TRef.of (T := ⟨S128x100000, .i32⟩) main_call0_call0_call0_v132) (TRef.of (T := ⟨S128x100000, .i32⟩) main_call0_call0_call0_v133) Host.shrui,
    TRef.binary (TRef.of (T := ⟨S128x100000, .i32⟩) main_call0_call0_call0_v131) (TRef.of (T := ⟨S128x100000, .i32⟩) main_call0_call0_call0_v133) (TRef.of (T := ⟨S128x100000, .i32⟩) main_call0_call0_call0_v134) ori,
    TRef.binary (TRef.of (T := ⟨S128x100000, .i32⟩) main_call0_call0_call0_v129) (TRef.of (T := ⟨S128x100000, .i32⟩) main_call0_call0_call0_v134) (TRef.of (T := ⟨S128x100000, .i32⟩) main_call0_call0_call0_v135) xori,
    TRef.unary (TRef.of (T := ⟨S_, .i32⟩) main_call0_call0_v7) (TRef.of (T := ⟨S128x100000, .i32⟩) main_call0_call0_call0_v136) (broadcastInDim S128x100000 ![] bcast_S_S128x100000),
    TRef.binary (TRef.of (T := ⟨S128x100000, .i32⟩) main_call0_call0_call0_v129) (TRef.of (T := ⟨S128x100000, .i32⟩) main_call0_call0_call0_v136) (TRef.of (T := ⟨S128x100000, .i32⟩) main_call0_call0_call0_v137) addi,
    TRef.unary (TRef.of (T := ⟨S_, .i32⟩) main_call0_call0_call0_v1) (TRef.of (T := ⟨S128x100000, .i32⟩) main_call0_call0_call0_v138) (broadcastInDim S128x100000 ![] bcast_S_S128x100000),
    TRef.binary (TRef.of (T := ⟨S128x100000, .i32⟩) main_call0_call0_call0_v135) (TRef.of (T := ⟨S128x100000, .i32⟩) main_call0_call0_call0_v138) (TRef.of (T := ⟨S128x100000, .i32⟩) main_call0_call0_call0_v139) addi ]

/-- @main's operations 211 … 240 of 297. -/
abbrev ops_7 : List (HloOp τ sig (Elt F)) :=
  [ TRef.nullary (TRef.of (T := ⟨S_, .i32⟩) main_call0_call0_call0_c_35) (constantI S_ 32 4#32),
    TRef.unary (TRef.of (T := ⟨S_, .i32⟩) main_call0_call0_call0_c_35) (TRef.of (T := ⟨S128x100000, .i32⟩) main_call0_call0_call0_v140) (broadcastInDim S128x100000 ![] bcast_S_S128x100000),
    TRef.binary (TRef.of (T := ⟨S128x100000, .i32⟩) main_call0_call0_call0_v139) (TRef.of (T := ⟨S128x100000, .i32⟩) main_call0_call0_call0_v140) (TRef.of (T := ⟨S128x100000, .i32⟩) main_call0_call0_call0_v141) addi,
    TRef.binary (TRef.of (T := ⟨S128x100000, .i32⟩) main_call0_call0_call0_v137) (TRef.of (T := ⟨S128x100000, .i32⟩) main_call0_call0_call0_v141) (TRef.of (T := ⟨S128x100000, .i32⟩) main_call0_call0_call0_v142) addi,
    TRef.nullary (TRef.of (T := ⟨S_, .i32⟩) main_call0_call0_call0_c_36) (constantI S_ 32 13#32),
    TRef.unary (TRef.of (T := ⟨S_, .i32⟩) main_call0_call0_call0_c_36) (TRef.of (T := ⟨S128x100000, .i32⟩) main_call0_call0_call0_v143) (broadcastInDim S128x100000 ![] bcast_S_S128x100000),
    TRef.binary (TRef.of (T := ⟨S128x100000, .i32⟩) main_call0_call0_call0_v141) (TRef.of (T := ⟨S128x100000, .i32⟩) main_call0_call0_call0_v143) (TRef.of (T := ⟨S128x100000, .i32⟩) main_call0_call0_call0_v144) Host.shli,
    TRef.nullary (TRef.of (T := ⟨S_, .i32⟩) main_call0_call0_call0_c_37) (constantI S_ 32 19#32),
    TRef.unary (TRef.of (T := ⟨S_, .i32⟩) main_call0_call0_call0_c_37) (TRef.of (T := ⟨S128x100000, .i32⟩) main_call0_call0_call0_v145) (broadcastInDim S128x100000 ![] bcast_S_S128x100000),
    TRef.binary (TRef.of (T := ⟨S128x100000, .i32⟩) main_call0_call0_call0_v141) (TRef.of (T := ⟨S128x100000, .i32⟩) main_call0_call0_call0_v145) (TRef.of (T := ⟨S128x100000, .i32⟩) main_call0_call0_call0_v146) Host.shrui,
    TRef.binary (TRef.of (T := ⟨S128x100000, .i32⟩) main_call0_call0_call0_v144) (TRef.of (T := ⟨S128x100000, .i32⟩) main_call0_call0_call0_v146) (TRef.of (T := ⟨S128x100000, .i32⟩) main_call0_call0_call0_v147) ori,
    TRef.binary (TRef.of (T := ⟨S128x100000, .i32⟩) main_call0_call0_call0_v142) (TRef.of (T := ⟨S128x100000, .i32⟩) main_call0_call0_call0_v147) (TRef.of (T := ⟨S128x100000, .i32⟩) main_call0_call0_call0_v148) xori,
    TRef.binary (TRef.of (T := ⟨S128x100000, .i32⟩) main_call0_call0_call0_v142) (TRef.of (T := ⟨S128x100000, .i32⟩) main_call0_call0_call0_v148) (TRef.of (T := ⟨S128x100000, .i32⟩) main_call0_call0_call0_v149) addi,
    TRef.nullary (TRef.of (T := ⟨S_, .i32⟩) main_call0_call0_call0_c_38) (constantI S_ 32 15#32),
    TRef.unary (TRef.of (T := ⟨S_, .i32⟩) main_call0_call0_call0_c_38) (TRef.of (T := ⟨S128x100000, .i32⟩) main_call0_call0_call0_v150) (broadcastInDim S128x100000 ![] bcast_S_S128x100000),
    TRef.binary (TRef.of (T := ⟨S128x100000, .i32⟩) main_call0_call0_call0_v148) (TRef.of (T := ⟨S128x100000, .i32⟩) main_call0_call0_call0_v150) (TRef.of (T := ⟨S128x100000, .i32⟩) main_call0_call0_call0_v151) Host.shli,
    TRef.nullary (TRef.of (T := ⟨S_, .i32⟩) main_call0_call0_call0_c_39) (constantI S_ 32 17#32),
    TRef.unary (TRef.of (T := ⟨S_, .i32⟩) main_call0_call0_call0_c_39) (TRef.of (T := ⟨S128x100000, .i32⟩) main_call0_call0_call0_v152) (broadcastInDim S128x100000 ![] bcast_S_S128x100000),
    TRef.binary (TRef.of (T := ⟨S128x100000, .i32⟩) main_call0_call0_call0_v148) (TRef.of (T := ⟨S128x100000, .i32⟩) main_call0_call0_call0_v152) (TRef.of (T := ⟨S128x100000, .i32⟩) main_call0_call0_call0_v153) Host.shrui,
    TRef.binary (TRef.of (T := ⟨S128x100000, .i32⟩) main_call0_call0_call0_v151) (TRef.of (T := ⟨S128x100000, .i32⟩) main_call0_call0_call0_v153) (TRef.of (T := ⟨S128x100000, .i32⟩) main_call0_call0_call0_v154) ori,
    TRef.binary (TRef.of (T := ⟨S128x100000, .i32⟩) main_call0_call0_call0_v149) (TRef.of (T := ⟨S128x100000, .i32⟩) main_call0_call0_call0_v154) (TRef.of (T := ⟨S128x100000, .i32⟩) main_call0_call0_call0_v155) xori,
    TRef.binary (TRef.of (T := ⟨S128x100000, .i32⟩) main_call0_call0_call0_v149) (TRef.of (T := ⟨S128x100000, .i32⟩) main_call0_call0_call0_v155) (TRef.of (T := ⟨S128x100000, .i32⟩) main_call0_call0_call0_v156) addi,
    TRef.nullary (TRef.of (T := ⟨S_, .i32⟩) main_call0_call0_call0_c_40) (constantI S_ 32 26#32),
    TRef.unary (TRef.of (T := ⟨S_, .i32⟩) main_call0_call0_call0_c_40) (TRef.of (T := ⟨S128x100000, .i32⟩) main_call0_call0_call0_v157) (broadcastInDim S128x100000 ![] bcast_S_S128x100000),
    TRef.binary (TRef.of (T := ⟨S128x100000, .i32⟩) main_call0_call0_call0_v155) (TRef.of (T := ⟨S128x100000, .i32⟩) main_call0_call0_call0_v157) (TRef.of (T := ⟨S128x100000, .i32⟩) main_call0_call0_call0_v158) Host.shli,
    TRef.nullary (TRef.of (T := ⟨S_, .i32⟩) main_call0_call0_call0_c_41) (constantI S_ 32 6#32),
    TRef.unary (TRef.of (T := ⟨S_, .i32⟩) main_call0_call0_call0_c_41) (TRef.of (T := ⟨S128x100000, .i32⟩) main_call0_call0_call0_v159) (broadcastInDim S128x100000 ![] bcast_S_S128x100000),
    TRef.binary (TRef.of (T := ⟨S128x100000, .i32⟩) main_call0_call0_call0_v155) (TRef.of (T := ⟨S128x100000, .i32⟩) main_call0_call0_call0_v159) (TRef.of (T := ⟨S128x100000, .i32⟩) main_call0_call0_call0_v160) Host.shrui,
    TRef.binary (TRef.of (T := ⟨S128x100000, .i32⟩) main_call0_call0_call0_v158) (TRef.of (T := ⟨S128x100000, .i32⟩) main_call0_call0_call0_v160) (TRef.of (T := ⟨S128x100000, .i32⟩) main_call0_call0_call0_v161) ori,
    TRef.binary (TRef.of (T := ⟨S128x100000, .i32⟩) main_call0_call0_call0_v156) (TRef.of (T := ⟨S128x100000, .i32⟩) main_call0_call0_call0_v161) (TRef.of (T := ⟨S128x100000, .i32⟩) main_call0_call0_call0_v162) xori ]

/-- @main's operations 241 … 270 of 297. -/
abbrev ops_8 : List (HloOp τ sig (Elt F)) :=
  [ TRef.binary (TRef.of (T := ⟨S128x100000, .i32⟩) main_call0_call0_call0_v156) (TRef.of (T := ⟨S128x100000, .i32⟩) main_call0_call0_call0_v162) (TRef.of (T := ⟨S128x100000, .i32⟩) main_call0_call0_call0_v163) addi,
    TRef.nullary (TRef.of (T := ⟨S_, .i32⟩) main_call0_call0_call0_c_42) (constantI S_ 32 6#32),
    TRef.unary (TRef.of (T := ⟨S_, .i32⟩) main_call0_call0_call0_c_42) (TRef.of (T := ⟨S128x100000, .i32⟩) main_call0_call0_call0_v164) (broadcastInDim S128x100000 ![] bcast_S_S128x100000),
    TRef.binary (TRef.of (T := ⟨S128x100000, .i32⟩) main_call0_call0_call0_v162) (TRef.of (T := ⟨S128x100000, .i32⟩) main_call0_call0_call0_v164) (TRef.of (T := ⟨S128x100000, .i32⟩) main_call0_call0_call0_v165) Host.shli,
    TRef.nullary (TRef.of (T := ⟨S_, .i32⟩) main_call0_call0_call0_c_43) (constantI S_ 32 26#32),
    TRef.unary (TRef.of (T := ⟨S_, .i32⟩) main_call0_call0_call0_c_43) (TRef.of (T := ⟨S128x100000, .i32⟩) main_call0_call0_call0_v166) (broadcastInDim S128x100000 ![] bcast_S_S128x100000),
    TRef.binary (TRef.of (T := ⟨S128x100000, .i32⟩) main_call0_call0_call0_v162) (TRef.of (T := ⟨S128x100000, .i32⟩) main_call0_call0_call0_v166) (TRef.of (T := ⟨S128x100000, .i32⟩) main_call0_call0_call0_v167) Host.shrui,
    TRef.binary (TRef.of (T := ⟨S128x100000, .i32⟩) main_call0_call0_call0_v165) (TRef.of (T := ⟨S128x100000, .i32⟩) main_call0_call0_call0_v167) (TRef.of (T := ⟨S128x100000, .i32⟩) main_call0_call0_call0_v168) ori,
    TRef.binary (TRef.of (T := ⟨S128x100000, .i32⟩) main_call0_call0_call0_v163) (TRef.of (T := ⟨S128x100000, .i32⟩) main_call0_call0_call0_v168) (TRef.of (T := ⟨S128x100000, .i32⟩) main_call0_call0_call0_v169) xori,
    TRef.unary (TRef.of (T := ⟨S_, .i32⟩) main_call0_call0_call0_v1) (TRef.of (T := ⟨S128x100000, .i32⟩) main_call0_call0_call0_v170) (broadcastInDim S128x100000 ![] bcast_S_S128x100000),
    TRef.binary (TRef.of (T := ⟨S128x100000, .i32⟩) main_call0_call0_call0_v163) (TRef.of (T := ⟨S128x100000, .i32⟩) main_call0_call0_call0_v170) (TRef.of (T := ⟨S128x100000, .i32⟩) main_call0_call0_v19_0) addi,
    TRef.unary (TRef.of (T := ⟨S_, .i32⟩) main_call0_call0_v5) (TRef.of (T := ⟨S128x100000, .i32⟩) main_call0_call0_call0_v172) (broadcastInDim S128x100000 ![] bcast_S_S128x100000),
    TRef.binary (TRef.of (T := ⟨S128x100000, .i32⟩) main_call0_call0_call0_v169) (TRef.of (T := ⟨S128x100000, .i32⟩) main_call0_call0_call0_v172) (TRef.of (T := ⟨S128x100000, .i32⟩) main_call0_call0_call0_v173) addi,
    TRef.nullary (TRef.of (T := ⟨S_, .i32⟩) main_call0_call0_call0_c_44) (constantI S_ 32 5#32),
    TRef.unary (TRef.of (T := ⟨S_, .i32⟩) main_call0_call0_call0_c_44) (TRef.of (T := ⟨S128x100000, .i32⟩) main_call0_call0_call0_v174) (broadcastInDim S128x100000 ![] bcast_S_S128x100000),
    TRef.binary (TRef.of (T := ⟨S128x100000, .i32⟩) main_call0_call0_call0_v173) (TRef.of (T := ⟨S128x100000, .i32⟩) main_call0_call0_call0_v174) (TRef.of (T := ⟨S128x100000, .i32⟩) main_call0_call0_v19_1) addi,
    TRef.binary (TRef.of (T := ⟨S128x100000, .i32⟩) main_call0_call0_v19_0) (TRef.of (T := ⟨S128x100000, .i32⟩) main_call0_call0_v19_1) (TRef.of (T := ⟨S128x100000, .i32⟩) main_call0_call0_v20) xori,
    TRef.nullary (TRef.of (T := ⟨S_, .i32⟩) main_call0_call0_c_2) (constantI S_ 32 9#32),
    TRef.unary (TRef.of (T := ⟨S_, .i32⟩) main_call0_call0_c_2) (TRef.of (T := ⟨S128x100000, .i32⟩) main_call0_call0_v21) (broadcastInDim S128x100000 ![] bcast_S_S128x100000),
    TRef.binary (TRef.of (T := ⟨S128x100000, .i32⟩) main_call0_call0_v20) (TRef.of (T := ⟨S128x100000, .i32⟩) main_call0_call0_v21) (TRef.of (T := ⟨S128x100000, .i32⟩) main_call0_call0_v22) Host.shrui,
    TRef.nullary (TRef.of (T := ⟨S_, .i32⟩) main_call0_call0_c_3) (constantI S_ 32 1065353216#32),
    TRef.unary (TRef.of (T := ⟨S_, .i32⟩) main_call0_call0_c_3) (TRef.of (T := ⟨S128x100000, .i32⟩) main_call0_call0_v23) (broadcastInDim S128x100000 ![] bcast_S_S128x100000),
    TRef.binary (TRef.of (T := ⟨S128x100000, .i32⟩) main_call0_call0_v22) (TRef.of (T := ⟨S128x100000, .i32⟩) main_call0_call0_v23) (TRef.of (T := ⟨S128x100000, .i32⟩) main_call0_call0_v24) ori,
    TRef.unary (TRef.of (T := ⟨S128x100000, .i32⟩) main_call0_call0_v24) (TRef.of (T := ⟨S128x100000, .f32⟩) main_call0_call0_v25) (bitcastToFloat (F := F) .f32),
    TRef.nullary (TRef.of (T := ⟨S_, .f32⟩) main_call0_call0_cst) (constant S_ .f32 0x3F800000#32),
    TRef.unary (TRef.of (T := ⟨S_, .f32⟩) main_call0_call0_cst) (TRef.of (T := ⟨S128x100000, .f32⟩) main_call0_call0_v26) (broadcastInDim S128x100000 ![] bcast_S_S128x100000),
    TRef.binary (TRef.of (T := ⟨S128x100000, .f32⟩) main_call0_call0_v25) (TRef.of (T := ⟨S128x100000, .f32⟩) main_call0_call0_v26) (TRef.of (T := ⟨S128x100000, .f32⟩) main_call0_call0_v27) subf,
    TRef.binary (TRef.of (T := ⟨S1x1, .f32⟩) main_call0_call0_v3) (TRef.of (T := ⟨S1x1, .f32⟩) main_call0_call0_v2) (TRef.of (T := ⟨S1x1, .f32⟩) main_call0_call0_v28) subf,
    TRef.unary (TRef.of (T := ⟨S1x1, .f32⟩) main_call0_call0_v28) (TRef.of (T := ⟨S128x100000, .f32⟩) main_call0_call0_v29) (broadcastInDim S128x100000 ![0, 1] bcast_S1x1_S128x100000_0_1),
    TRef.binary (TRef.of (T := ⟨S128x100000, .f32⟩) main_call0_call0_v27) (TRef.of (T := ⟨S128x100000, .f32⟩) main_call0_call0_v29) (TRef.of (T := ⟨S128x100000, .f32⟩) main_call0_call0_v30) mulf ]

/-- @main's operations 271 … 297 of 297. -/
abbrev ops_9 : List (HloOp τ sig (Elt F)) :=
  [ TRef.unary (TRef.of (T := ⟨S1x1, .f32⟩) main_call0_call0_v2) (TRef.of (T := ⟨S128x100000, .f32⟩) main_call0_call0_v31) (broadcastInDim S128x100000 ![0, 1] bcast_S1x1_S128x100000_0_1),
    TRef.binary (TRef.of (T := ⟨S128x100000, .f32⟩) main_call0_call0_v30) (TRef.of (T := ⟨S128x100000, .f32⟩) main_call0_call0_v31) (TRef.of (T := ⟨S128x100000, .f32⟩) main_call0_call0_v32) addf,
    TRef.unary (TRef.of (T := ⟨S1x1, .f32⟩) main_call0_call0_v2) (TRef.of (T := ⟨S128x100000, .f32⟩) main_call0_call0_v33) (broadcastInDim S128x100000 ![0, 1] bcast_S1x1_S128x100000_0_1),
    TRef.binary (TRef.of (T := ⟨S128x100000, .f32⟩) main_call0_call0_v33) (TRef.of (T := ⟨S128x100000, .f32⟩) main_call0_call0_v32) (TRef.of (T := ⟨S128x100000, .f32⟩) main_call0_v0) maximumf,
    TRef.unary (TRef.of (T := ⟨S128x100000, .f32⟩) main_call0_v0) (TRef.of (T := ⟨S128x100000, .f32⟩) main_call0_v1) Host.negf,
    TRef.unary (TRef.of (T := ⟨S128x100000, .f32⟩) main_call0_v1) (TRef.of (T := ⟨S128x100000, .f32⟩) main_call0_v2) Host.log1p,
    TRef.unary (TRef.of (T := ⟨S128x100000, .f32⟩) main_call0_v2) (TRef.of (T := ⟨S128x100000, .f32⟩) main_v7) Host.negf,
    unary main_v7 main_v8 (Host.log : (⟨S128x100000, .f32⟩ : BufTy).Contents (Elt F) → (⟨S128x100000, .f32⟩ : BufTy).Contents (Elt F)),
    unary main_v8 main_v9 (Host.negf : (⟨S128x100000, .f32⟩ : BufTy).Contents (Elt F) → (⟨S128x100000, .f32⟩ : BufTy).Contents (Elt F)),
    binary main_arg0 main_v9 main_v10 (addf : (⟨S128x100000, .f32⟩ : BufTy).Contents (Elt F) → (⟨S128x100000, .f32⟩ : BufTy).Contents (Elt F) → (⟨S128x100000, .f32⟩ : BufTy).Contents (Elt F)),
    nullary main_cst (constant S_ .f32 0x3F800000#32),
    unary main_cst main_v11 (broadcastInDim S128x100000 ![] bcast_S_S128x100000 : (⟨S_, .f32⟩ : BufTy).Contents (Elt F) → (⟨S128x100000, .f32⟩ : BufTy).Contents (Elt F)),
    binary main_v10 main_v11 main_v12 (Host.divf : (⟨S128x100000, .f32⟩ : BufTy).Contents (Elt F) → (⟨S128x100000, .f32⟩ : BufTy).Contents (Elt F) → (⟨S128x100000, .f32⟩ : BufTy).Contents (Elt F)),
    unary main_v12 main_v13 (Host.negf : (⟨S128x100000, .f32⟩ : BufTy).Contents (Elt F) → (⟨S128x100000, .f32⟩ : BufTy).Contents (Elt F)),
    unary main_v13 main_v14 (Host.exp : (⟨S128x100000, .f32⟩ : BufTy).Contents (Elt F) → (⟨S128x100000, .f32⟩ : BufTy).Contents (Elt F)),
    nullary main_cst_2 (constant S_ .f32 0x3F800000#32),
    unary main_cst_2 main_v15 (broadcastInDim S128x100000 ![] bcast_S_S128x100000 : (⟨S_, .f32⟩ : BufTy).Contents (Elt F) → (⟨S128x100000, .f32⟩ : BufTy).Contents (Elt F)),
    binary main_v15 main_v14 main_v16 (addf : (⟨S128x100000, .f32⟩ : BufTy).Contents (Elt F) → (⟨S128x100000, .f32⟩ : BufTy).Contents (Elt F) → (⟨S128x100000, .f32⟩ : BufTy).Contents (Elt F)),
    nullary main_cst_3 (constant S_ .f32 0x3F800000#32),
    unary main_cst_3 main_v17 (broadcastInDim S128x100000 ![] bcast_S_S128x100000 : (⟨S_, .f32⟩ : BufTy).Contents (Elt F) → (⟨S128x100000, .f32⟩ : BufTy).Contents (Elt F)),
    binary main_v17 main_v16 main_v18 (Host.divf : (⟨S128x100000, .f32⟩ : BufTy).Contents (Elt F) → (⟨S128x100000, .f32⟩ : BufTy).Contents (Elt F) → (⟨S128x100000, .f32⟩ : BufTy).Contents (Elt F)),
    nullary main_cst_4 (constant S_ .f32 0x3F000000#32),
    unary main_cst_4 main_v19 (broadcastInDim S128x100000 ![] bcast_S_S128x100000 : (⟨S_, .f32⟩ : BufTy).Contents (Elt F) → (⟨S128x100000, .f32⟩ : BufTy).Contents (Elt F)),
    binary main_v18 main_v19 main_v20 (cmpf .ogt : (⟨S128x100000, .f32⟩ : BufTy).Contents (Elt F) → (⟨S128x100000, .f32⟩ : BufTy).Contents (Elt F) → (⟨S128x100000, .i1⟩ : BufTy).Contents (Elt F)),
    unary main_v20 main_v21 (uitofp .f32 : (⟨S128x100000, .i1⟩ : BufTy).Contents (Elt F) → (⟨S128x100000, .f32⟩ : BufTy).Contents (Elt F)),
    binary main_v21 main_v18 main_v22 (subf : (⟨S128x100000, .f32⟩ : BufTy).Contents (Elt F) → (⟨S128x100000, .f32⟩ : BufTy).Contents (Elt F) → (⟨S128x100000, .f32⟩ : BufTy).Contents (Elt F)),
    binary main_v22 main_v18 main_v23 (addf : (⟨S128x100000, .f32⟩ : BufTy).Contents (Elt F) → (⟨S128x100000, .f32⟩ : BufTy).Contents (Elt F) → (⟨S128x100000, .f32⟩ : BufTy).Contents (Elt F)) ]

/-- @main's 297 operations, in order (a called function's operations stand in its call's place, spelt `TRef.…`). -/
abbrev ops : List (HloOp τ sig (Elt F)) :=
  ops_0 ++ (ops_1 ++ (ops_2 ++ (ops_3 ++ (ops_4 ++ (ops_5 ++ (ops_6 ++ (ops_7 ++ (ops_8 ++ (ops_9)))))))))

set_option maxRecDepth 8192 in
set_option maxHeartbeats 4000000 in
/-- The reference program is the sequence of the listed operations. -/
theorem main_eq (c : Dev nD) : main (F := F) c = seq ops := rfl
/-- The reference declares no scoped buffer. -/
theorem scopedRefs_eq : (Finset.univ.filter fun b : Ref sig .tc => b.isScoped) = ∅ := by decide
/-- The reference declares no scoped semaphore. -/
theorem scopedSems_eq : (Finset.univ.filter fun sm : SemLoc sig => sm.isScoped .tc) = ∅ := by decide
set_option maxRecDepth 8192 in
/-- Every operation of `ops_0` touches TensorCore buffers only. -/
theorem ops_0_sub : (ops_0 : List (HloOp τ sig (Elt F))).Forall fun op => op.bufs ⊆ tcRefs τ sig :=
  ⟨nullary_bufs_sub .., nullary_bufs_sub .., binary_bufs_sub .., unary_bufs_sub .., unary_bufs_sub .., nullary_bufs_sub .., binary_bufs_sub .., unary_bufs_sub .., unary_bufs_sub .., binary_bufs_sub .., nullary_bufs_sub .., nullary_bufs_sub .., unary_bufs_sub .., unary_bufs_sub .., unary_bufs_sub .., unary_bufs_sub .., unary_bufs_sub .., reshape_bufs_sub .., unary_bufs_sub .., reshape_bufs_sub .., nullary_bufs_sub .., nullary_bufs_sub .., nullary_bufs_sub .., unary_bufs_sub .., binary_bufs_sub .., nullary_bufs_sub .., unary_bufs_sub .., binary_bufs_sub .., binary_bufs_sub .., nullary_bufs_sub ..⟩
set_option maxRecDepth 8192 in
/-- No operation of `ops_0` allocates a buffer. -/
theorem ops_0_fresh : (ops_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- Every operation of `ops_1` touches TensorCore buffers only. -/
theorem ops_1_sub : (ops_1 : List (HloOp τ sig (Elt F))).Forall fun op => op.bufs ⊆ tcRefs τ sig :=
  ⟨unary_bufs_sub .., binary_bufs_sub .., unary_bufs_sub .., unary_bufs_sub .., binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub ..⟩
set_option maxRecDepth 8192 in
/-- No operation of `ops_1` allocates a buffer. -/
theorem ops_1_fresh : (ops_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- Every operation of `ops_2` touches TensorCore buffers only. -/
theorem ops_2_sub : (ops_2 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub ..⟩
set_option maxRecDepth 8192 in
/-- No operation of `ops_2` allocates a buffer. -/
theorem ops_2_fresh : (ops_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- Every operation of `ops_3` touches TensorCore buffers only. -/
theorem ops_3_sub : (ops_3 : List (HloOp τ sig (Elt F))).Forall fun op => op.bufs ⊆ tcRefs τ sig :=
  ⟨binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩
set_option maxRecDepth 8192 in
/-- No operation of `ops_3` allocates a buffer. -/
theorem ops_3_fresh : (ops_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- Every operation of `ops_4` touches TensorCore buffers only. -/
theorem ops_4_sub : (ops_4 : List (HloOp τ sig (Elt F))).Forall fun op => op.bufs ⊆ tcRefs τ sig :=
  ⟨unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub ..⟩
set_option maxRecDepth 8192 in
/-- No operation of `ops_4` allocates a buffer. -/
theorem ops_4_fresh : (ops_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- Every operation of `ops_5` touches TensorCore buffers only. -/
theorem ops_5_sub : (ops_5 : List (HloOp τ sig (Elt F))).Forall fun op => op.bufs ⊆ tcRefs τ sig :=
  ⟨unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub ..⟩
set_option maxRecDepth 8192 in
/-- No operation of `ops_5` allocates a buffer. -/
theorem ops_5_fresh : (ops_5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- Every operation of `ops_6` touches TensorCore buffers only. -/
theorem ops_6_sub : (ops_6 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub ..⟩
set_option maxRecDepth 8192 in
/-- No operation of `ops_6` allocates a buffer. -/
theorem ops_6_fresh : (ops_6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- Every operation of `ops_7` touches TensorCore buffers only. -/
theorem ops_7_sub : (ops_7 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩
set_option maxRecDepth 8192 in
/-- No operation of `ops_7` allocates a buffer. -/
theorem ops_7_fresh : (ops_7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- Every operation of `ops_8` touches TensorCore buffers only. -/
theorem ops_8_sub : (ops_8 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., binary_bufs_sub ..⟩
set_option maxRecDepth 8192 in
/-- No operation of `ops_8` allocates a buffer. -/
theorem ops_8_fresh : (ops_8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- Every operation of `ops_9` touches TensorCore buffers only. -/
theorem ops_9_sub : (ops_9 : List (HloOp τ sig (Elt F))).Forall fun op => op.bufs ⊆ tcRefs τ sig :=
  ⟨unary_bufs_sub .., binary_bufs_sub .., unary_bufs_sub .., binary_bufs_sub .., unary_bufs_sub .., unary_bufs_sub .., unary_bufs_sub .., unary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., binary_bufs_sub ..⟩
set_option maxRecDepth 8192 in
/-- No operation of `ops_9` allocates a buffer. -/
theorem ops_9_fresh : (ops_9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
/-- Every operation of `ops` touches TensorCore buffers only. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h
    exacts [List.forall_iff_forall_mem.mp ops_0_sub op h, List.forall_iff_forall_mem.mp ops_1_sub op h, List.forall_iff_forall_mem.mp ops_2_sub op h, List.forall_iff_forall_mem.mp ops_3_sub op h, List.forall_iff_forall_mem.mp ops_4_sub op h, List.forall_iff_forall_mem.mp ops_5_sub op h, List.forall_iff_forall_mem.mp ops_6_sub op h, List.forall_iff_forall_mem.mp ops_7_sub op h, List.forall_iff_forall_mem.mp ops_8_sub op h, List.forall_iff_forall_mem.mp ops_9_sub op h]
/-- No operation of `ops` allocates a buffer. -/
theorem ops_fresh : ∀ op ∈ (ops : List (HloOp τ sig (Elt F))), op.fresh = ∅ := fun op h => by
    simp only [ops, List.mem_append] at h
    rcases h with h | h | h | h | h | h | h | h | h | h
    exacts [List.forall_iff_forall_mem.mp ops_0_fresh op h, List.forall_iff_forall_mem.mp ops_1_fresh op h, List.forall_iff_forall_mem.mp ops_2_fresh op h, List.forall_iff_forall_mem.mp ops_3_fresh op h, List.forall_iff_forall_mem.mp ops_4_fresh op h, List.forall_iff_forall_mem.mp ops_5_fresh op h, List.forall_iff_forall_mem.mp ops_6_fresh op h, List.forall_iff_forall_mem.mp ops_7_fresh op h, List.forall_iff_forall_mem.mp ops_8_fresh op h, List.forall_iff_forall_mem.mp ops_9_fresh op h]

end Cert.ReferenceIdeal.Value

end

end
-- ==== Proof.RefTerms.lean ====
module
public import proofs.«01_k».proof.Proof.RefOps

/-! The arrays that the reference computes on the way, each as a term of what the program starts from. An array that
    is used more than once has a name here, so that later terms stay short. -/

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- `main_c`'s composed term of the arguments (named: it is used 2 times). -/
def res_main_c (V0 : Valuation τ sig (Elt F)) : (Proc.devRef .tc main_c : DevRef τ sig).ty.Contents (Elt F) :=
  constantI S_ 32 42#32

set_option maxRecDepth 8192 in
/-- `main_v6`'s composed term of the arguments (named: it is used 2 times). -/
def res_main_v6 (V0 : Valuation τ sig (Elt F)) : (Proc.devRef .tc main_v6 : DevRef τ sig).ty.Contents (Elt F) :=
  concatenate S2 0 [⟨S1, (broadcastInDim S1 ![] bcast_S_S1 (id (Host.shrui (res_main_c V0) (constantI S_ 32 32#32))))⟩, ⟨S1, (broadcastInDim S1 ![] bcast_S_S1 (id (andi (res_main_c V0) (constantI S_ 32 4294967295#32))))⟩] concatenates_S1_S1_S2_d0

set_option maxRecDepth 8192 in
/-- `main_call0_call0_v2`'s composed term of the arguments (named: it is used 3 times). -/
def res_main_call0_call0_v2 (V0 : Valuation τ sig (Elt F)) : (Proc.devRef .tc main_call0_call0_v2 : DevRef τ sig).ty.Contents (Elt F) :=
  broadcastInDim S1x1 ![] bcast_S_S1x1 (id (constant S_ .f32 0x00000000#32))

set_option maxRecDepth 8192 in
/-- `main_call0_call0_v5`'s composed term of the arguments (named: it is used 5 times). -/
def res_main_call0_call0_v5 (V0 : Valuation τ sig (Elt F)) : (Proc.devRef .tc main_call0_call0_v5 : DevRef τ sig).ty.Contents (Elt F) :=
  shapeCast _ (extractStridedSlice S1 ![0] (res_main_v6 V0) slices_S2_S1_0) shapeCasts_S1_S_

set_option maxRecDepth 8192 in
/-- `main_call0_call0_v7`'s composed term of the arguments (named: it is used 5 times). -/
def res_main_call0_call0_v7 (V0 : Valuation τ sig (Elt F)) : (Proc.devRef .tc main_call0_call0_v7 : DevRef τ sig).ty.Contents (Elt F) :=
  shapeCast _ (extractStridedSlice S1 ![1] (res_main_v6 V0) slices_S2_S1_1) shapeCasts_S1_S_

set_option maxRecDepth 8192 in
/-- `main_call0_call0_v14`'s composed term of the arguments (named: it is used 2 times). -/
def res_main_call0_call0_v14 (V0 : Valuation τ sig (Elt F)) : (Proc.devRef .tc main_call0_call0_v14 : DevRef τ sig).ty.Contents (Elt F) :=
  addi (muli (broadcastInDim S128x100000 ![] bcast_S_S128x100000 (constantI S_ 64 100000#64)) (iotaInDim S128x100000 64 0)) (muli (broadcastInDim S128x100000 ![] bcast_S_S128x100000 (constantI S_ 64 1#64)) (iotaInDim S128x100000 64 1))

set_option maxRecDepth 8192 in
/-- `main_call0_call0_call0_v1`'s composed term of the arguments (named: it is used 4 times). -/
def res_main_call0_call0_call0_v1 (V0 : Valuation τ sig (Elt F)) : (Proc.devRef .tc main_call0_call0_call0_v1 : DevRef τ sig).ty.Contents (Elt F) :=
  xori (xori (res_main_call0_call0_v5 V0) (res_main_call0_call0_v7 V0)) (constantI S_ 32 466688986#32)

set_option maxRecDepth 8192 in
/-- `main_call0_call0_call0_v5`'s composed term of the arguments (named: it is used 3 times). -/
def res_main_call0_call0_call0_v5 (V0 : Valuation τ sig (Elt F)) : (Proc.devRef .tc main_call0_call0_call0_v5 : DevRef τ sig).ty.Contents (Elt F) :=
  addi (trunci 32 (res_main_call0_call0_v14 V0) natLt_32_64) (broadcastInDim S128x100000 ![] bcast_S_S128x100000 (res_main_call0_call0_v7 V0))

set_option maxRecDepth 8192 in
/-- `main_call0_call0_call0_v6`'s composed term of the arguments (named: it is used 2 times). -/
def res_main_call0_call0_call0_v6 (V0 : Valuation τ sig (Elt F)) : (Proc.devRef .tc main_call0_call0_call0_v6 : DevRef τ sig).ty.Contents (Elt F) :=
  addi (addi (trunci 32 (Host.shrui (res_main_call0_call0_v14 V0) (broadcastInDim S128x100000 ![] bcast_S_S128x100000 (constantI S_ 64 32#64))) natLt_32_64) (broadcastInDim S128x100000 ![] bcast_S_S128x100000 (res_main_call0_call0_v5 V0))) (res_main_call0_call0_call0_v5 V0)

set_option maxRecDepth 8192 in
/-- `main_call0_call0_call0_v12`'s composed term of the arguments (named: it is used 3 times). -/
def res_main_call0_call0_call0_v12 (V0 : Valuation τ sig (Elt F)) : (Proc.devRef .tc main_call0_call0_call0_v12 : DevRef τ sig).ty.Contents (Elt F) :=
  xori (res_main_call0_call0_call0_v6 V0) (ori (Host.shli (res_main_call0_call0_call0_v5 V0) (broadcastInDim S128x100000 ![] bcast_S_S128x100000 (constantI S_ 32 13#32))) (Host.shrui (res_main_call0_call0_call0_v5 V0) (broadcastInDim S128x100000 ![] bcast_S_S128x100000 (constantI S_ 32 19#32))))

set_option maxRecDepth 8192 in
/-- `main_call0_call0_call0_v13`'s composed term of the arguments (named: it is used 2 times). -/
def res_main_call0_call0_call0_v13 (V0 : Valuation τ sig (Elt F)) : (Proc.devRef .tc main_call0_call0_call0_v13 : DevRef τ sig).ty.Contents (Elt F) :=
  addi (res_main_call0_call0_call0_v6 V0) (res_main_call0_call0_call0_v12 V0)

set_option maxRecDepth 8192 in
/-- `main_call0_call0_call0_v19`'s composed term of the arguments (named: it is used 3 times). -/
def res_main_call0_call0_call0_v19 (V0 : Valuation τ sig (Elt F)) : (Proc.devRef .tc main_call0_call0_call0_v19 : DevRef τ sig).ty.Contents (Elt F) :=
  xori (res_main_call0_call0_call0_v13 V0) (ori (Host.shli (res_main_call0_call0_call0_v12 V0) (broadcastInDim S128x100000 ![] bcast_S_S128x100000 (constantI S_ 32 15#32))) (Host.shrui (res_main_call0_call0_call0_v12 V0) (broadcastInDim S128x100000 ![] bcast_S_S128x100000 (constantI S_ 32 17#32))))

set_option maxRecDepth 8192 in
/-- `main_call0_call0_call0_v20`'s composed term of the arguments (named: it is used 2 times). -/
def res_main_call0_call0_call0_v20 (V0 : Valuation τ sig (Elt F)) : (Proc.devRef .tc main_call0_call0_call0_v20 : DevRef τ sig).ty.Contents (Elt F) :=
  addi (res_main_call0_call0_call0_v13 V0) (res_main_call0_call0_call0_v19 V0)

set_option maxRecDepth 8192 in
/-- `main_call0_call0_call0_v26`'s composed term of the arguments (named: it is used 3 times). -/
def res_main_call0_call0_call0_v26 (V0 : Valuation τ sig (Elt F)) : (Proc.devRef .tc main_call0_call0_call0_v26 : DevRef τ sig).ty.Contents (Elt F) :=
  xori (res_main_call0_call0_call0_v20 V0) (ori (Host.shli (res_main_call0_call0_call0_v19 V0) (broadcastInDim S128x100000 ![] bcast_S_S128x100000 (constantI S_ 32 26#32))) (Host.shrui (res_main_call0_call0_call0_v19 V0) (broadcastInDim S128x100000 ![] bcast_S_S128x100000 (constantI S_ 32 6#32))))

set_option maxRecDepth 8192 in
/-- `main_call0_call0_call0_v27`'s composed term of the arguments (named: it is used 2 times). -/
def res_main_call0_call0_call0_v27 (V0 : Valuation τ sig (Elt F)) : (Proc.devRef .tc main_call0_call0_call0_v27 : DevRef τ sig).ty.Contents (Elt F) :=
  addi (res_main_call0_call0_call0_v20 V0) (res_main_call0_call0_call0_v26 V0)

set_option maxRecDepth 8192 in
/-- `main_call0_call0_call0_v39`'s composed term of the arguments (named: it is used 3 times). -/
def res_main_call0_call0_call0_v39 (V0 : Valuation τ sig (Elt F)) : (Proc.devRef .tc main_call0_call0_call0_v39 : DevRef τ sig).ty.Contents (Elt F) :=
  addi (addi (xori (res_main_call0_call0_call0_v27 V0) (ori (Host.shli (res_main_call0_call0_call0_v26 V0) (broadcastInDim S128x100000 ![] bcast_S_S128x100000 (constantI S_ 32 6#32))) (Host.shrui (res_main_call0_call0_call0_v26 V0) (broadcastInDim S128x100000 ![] bcast_S_S128x100000 (constantI S_ 32 26#32))))) (broadcastInDim S128x100000 ![] bcast_S_S128x100000 (res_main_call0_call0_call0_v1 V0))) (broadcastInDim S128x100000 ![] bcast_S_S128x100000 (constantI S_ 32 1#32))

set_option maxRecDepth 8192 in
/-- `main_call0_call0_call0_v40`'s composed term of the arguments (named: it is used 2 times). -/
def res_main_call0_call0_call0_v40 (V0 : Valuation τ sig (Elt F)) : (Proc.devRef .tc main_call0_call0_call0_v40 : DevRef τ sig).ty.Contents (Elt F) :=
  addi (addi (res_main_call0_call0_call0_v27 V0) (broadcastInDim S128x100000 ![] bcast_S_S128x100000 (res_main_call0_call0_v7 V0))) (res_main_call0_call0_call0_v39 V0)

set_option maxRecDepth 8192 in
/-- `main_call0_call0_call0_v46`'s composed term of the arguments (named: it is used 3 times). -/
def res_main_call0_call0_call0_v46 (V0 : Valuation τ sig (Elt F)) : (Proc.devRef .tc main_call0_call0_call0_v46 : DevRef τ sig).ty.Contents (Elt F) :=
  xori (res_main_call0_call0_call0_v40 V0) (ori (Host.shli (res_main_call0_call0_call0_v39 V0) (broadcastInDim S128x100000 ![] bcast_S_S128x100000 (constantI S_ 32 17#32))) (Host.shrui (res_main_call0_call0_call0_v39 V0) (broadcastInDim S128x100000 ![] bcast_S_S128x100000 (constantI S_ 32 15#32))))

set_option maxRecDepth 8192 in
/-- `main_call0_call0_call0_v47`'s composed term of the arguments (named: it is used 2 times). -/
def res_main_call0_call0_call0_v47 (V0 : Valuation τ sig (Elt F)) : (Proc.devRef .tc main_call0_call0_call0_v47 : DevRef τ sig).ty.Contents (Elt F) :=
  addi (res_main_call0_call0_call0_v40 V0) (res_main_call0_call0_call0_v46 V0)

set_option maxRecDepth 8192 in
/-- `main_call0_call0_call0_v53`'s composed term of the arguments (named: it is used 3 times). -/
def res_main_call0_call0_call0_v53 (V0 : Valuation τ sig (Elt F)) : (Proc.devRef .tc main_call0_call0_call0_v53 : DevRef τ sig).ty.Contents (Elt F) :=
  xori (res_main_call0_call0_call0_v47 V0) (ori (Host.shli (res_main_call0_call0_call0_v46 V0) (broadcastInDim S128x100000 ![] bcast_S_S128x100000 (constantI S_ 32 29#32))) (Host.shrui (res_main_call0_call0_call0_v46 V0) (broadcastInDim S128x100000 ![] bcast_S_S128x100000 (constantI S_ 32 3#32))))

set_option maxRecDepth 8192 in
/-- `main_call0_call0_call0_v54`'s composed term of the arguments (named: it is used 2 times). -/
def res_main_call0_call0_call0_v54 (V0 : Valuation τ sig (Elt F)) : (Proc.devRef .tc main_call0_call0_call0_v54 : DevRef τ sig).ty.Contents (Elt F) :=
  addi (res_main_call0_call0_call0_v47 V0) (res_main_call0_call0_call0_v53 V0)

set_option maxRecDepth 8192 in
/-- `main_call0_call0_call0_v60`'s composed term of the arguments (named: it is used 3 times). -/
def res_main_call0_call0_call0_v60 (V0 : Valuation τ sig (Elt F)) : (Proc.devRef .tc main_call0_call0_call0_v60 : DevRef τ sig).ty.Contents (Elt F) :=
  xori (res_main_call0_call0_call0_v54 V0) (ori (Host.shli (res_main_call0_call0_call0_v53 V0) (broadcastInDim S128x100000 ![] bcast_S_S128x100000 (constantI S_ 32 16#32))) (Host.shrui (res_main_call0_call0_call0_v53 V0) (broadcastInDim S128x100000 ![] bcast_S_S128x100000 (constantI S_ 32 16#32))))

set_option maxRecDepth 8192 in
/-- `main_call0_call0_call0_v61`'s composed term of the arguments (named: it is used 2 times). -/
def res_main_call0_call0_call0_v61 (V0 : Valuation τ sig (Elt F)) : (Proc.devRef .tc main_call0_call0_call0_v61 : DevRef τ sig).ty.Contents (Elt F) :=
  addi (res_main_call0_call0_call0_v54 V0) (res_main_call0_call0_call0_v60 V0)

set_option maxRecDepth 8192 in
/-- `main_call0_call0_call0_v73`'s composed term of the arguments (named: it is used 3 times). -/
def res_main_call0_call0_call0_v73 (V0 : Valuation τ sig (Elt F)) : (Proc.devRef .tc main_call0_call0_call0_v73 : DevRef τ sig).ty.Contents (Elt F) :=
  addi (addi (xori (res_main_call0_call0_call0_v61 V0) (ori (Host.shli (res_main_call0_call0_call0_v60 V0) (broadcastInDim S128x100000 ![] bcast_S_S128x100000 (constantI S_ 32 24#32))) (Host.shrui (res_main_call0_call0_call0_v60 V0) (broadcastInDim S128x100000 ![] bcast_S_S128x100000 (constantI S_ 32 8#32))))) (broadcastInDim S128x100000 ![] bcast_S_S128x100000 (res_main_call0_call0_v5 V0))) (broadcastInDim S128x100000 ![] bcast_S_S128x100000 (constantI S_ 32 2#32))

set_option maxRecDepth 8192 in
/-- `main_call0_call0_call0_v74`'s composed term of the arguments (named: it is used 2 times). -/
def res_main_call0_call0_call0_v74 (V0 : Valuation τ sig (Elt F)) : (Proc.devRef .tc main_call0_call0_call0_v74 : DevRef τ sig).ty.Contents (Elt F) :=
  addi (addi (res_main_call0_call0_call0_v61 V0) (broadcastInDim S128x100000 ![] bcast_S_S128x100000 (res_main_call0_call0_call0_v1 V0))) (res_main_call0_call0_call0_v73 V0)

set_option maxRecDepth 8192 in
/-- `main_call0_call0_call0_v80`'s composed term of the arguments (named: it is used 3 times). -/
def res_main_call0_call0_call0_v80 (V0 : Valuation τ sig (Elt F)) : (Proc.devRef .tc main_call0_call0_call0_v80 : DevRef τ sig).ty.Contents (Elt F) :=
  xori (res_main_call0_call0_call0_v74 V0) (ori (Host.shli (res_main_call0_call0_call0_v73 V0) (broadcastInDim S128x100000 ![] bcast_S_S128x100000 (constantI S_ 32 13#32))) (Host.shrui (res_main_call0_call0_call0_v73 V0) (broadcastInDim S128x100000 ![] bcast_S_S128x100000 (constantI S_ 32 19#32))))

set_option maxRecDepth 8192 in
/-- `main_call0_call0_call0_v81`'s composed term of the arguments (named: it is used 2 times). -/
def res_main_call0_call0_call0_v81 (V0 : Valuation τ sig (Elt F)) : (Proc.devRef .tc main_call0_call0_call0_v81 : DevRef τ sig).ty.Contents (Elt F) :=
  addi (res_main_call0_call0_call0_v74 V0) (res_main_call0_call0_call0_v80 V0)

set_option maxRecDepth 8192 in
/-- `main_call0_call0_call0_v87`'s composed term of the arguments (named: it is used 3 times). -/
def res_main_call0_call0_call0_v87 (V0 : Valuation τ sig (Elt F)) : (Proc.devRef .tc main_call0_call0_call0_v87 : DevRef τ sig).ty.Contents (Elt F) :=
  xori (res_main_call0_call0_call0_v81 V0) (ori (Host.shli (res_main_call0_call0_call0_v80 V0) (broadcastInDim S128x100000 ![] bcast_S_S128x100000 (constantI S_ 32 15#32))) (Host.shrui (res_main_call0_call0_call0_v80 V0) (broadcastInDim S128x100000 ![] bcast_S_S128x100000 (constantI S_ 32 17#32))))

set_option maxRecDepth 8192 in
/-- `main_call0_call0_call0_v88`'s composed term of the arguments (named: it is used 2 times). -/
def res_main_call0_call0_call0_v88 (V0 : Valuation τ sig (Elt F)) : (Proc.devRef .tc main_call0_call0_call0_v88 : DevRef τ sig).ty.Contents (Elt F) :=
  addi (res_main_call0_call0_call0_v81 V0) (res_main_call0_call0_call0_v87 V0)

set_option maxRecDepth 8192 in
/-- `main_call0_call0_call0_v94`'s composed term of the arguments (named: it is used 3 times). -/
def res_main_call0_call0_call0_v94 (V0 : Valuation τ sig (Elt F)) : (Proc.devRef .tc main_call0_call0_call0_v94 : DevRef τ sig).ty.Contents (Elt F) :=
  xori (res_main_call0_call0_call0_v88 V0) (ori (Host.shli (res_main_call0_call0_call0_v87 V0) (broadcastInDim S128x100000 ![] bcast_S_S128x100000 (constantI S_ 32 26#32))) (Host.shrui (res_main_call0_call0_call0_v87 V0) (broadcastInDim S128x100000 ![] bcast_S_S128x100000 (constantI S_ 32 6#32))))

set_option maxRecDepth 8192 in
/-- `main_call0_call0_call0_v95`'s composed term of the arguments (named: it is used 2 times). -/
def res_main_call0_call0_call0_v95 (V0 : Valuation τ sig (Elt F)) : (Proc.devRef .tc main_call0_call0_call0_v95 : DevRef τ sig).ty.Contents (Elt F) :=
  addi (res_main_call0_call0_call0_v88 V0) (res_main_call0_call0_call0_v94 V0)

set_option maxRecDepth 8192 in
/-- `main_call0_call0_call0_v107`'s composed term of the arguments (named: it is used 3 times). -/
def res_main_call0_call0_call0_v107 (V0 : Valuation τ sig (Elt F)) : (Proc.devRef .tc main_call0_call0_call0_v107 : DevRef τ sig).ty.Contents (Elt F) :=
  addi (addi (xori (res_main_call0_call0_call0_v95 V0) (ori (Host.shli (res_main_call0_call0_call0_v94 V0) (broadcastInDim S128x100000 ![] bcast_S_S128x100000 (constantI S_ 32 6#32))) (Host.shrui (res_main_call0_call0_call0_v94 V0) (broadcastInDim S128x100000 ![] bcast_S_S128x100000 (constantI S_ 32 26#32))))) (broadcastInDim S128x100000 ![] bcast_S_S128x100000 (res_main_call0_call0_v7 V0))) (broadcastInDim S128x100000 ![] bcast_S_S128x100000 (constantI S_ 32 3#32))

set_option maxRecDepth 8192 in
/-- `main_call0_call0_call0_v108`'s composed term of the arguments (named: it is used 2 times). -/
def res_main_call0_call0_call0_v108 (V0 : Valuation τ sig (Elt F)) : (Proc.devRef .tc main_call0_call0_call0_v108 : DevRef τ sig).ty.Contents (Elt F) :=
  addi (addi (res_main_call0_call0_call0_v95 V0) (broadcastInDim S128x100000 ![] bcast_S_S128x100000 (res_main_call0_call0_v5 V0))) (res_main_call0_call0_call0_v107 V0)

set_option maxRecDepth 8192 in
/-- `main_call0_call0_call0_v114`'s composed term of the arguments (named: it is used 3 times). -/
def res_main_call0_call0_call0_v114 (V0 : Valuation τ sig (Elt F)) : (Proc.devRef .tc main_call0_call0_call0_v114 : DevRef τ sig).ty.Contents (Elt F) :=
  xori (res_main_call0_call0_call0_v108 V0) (ori (Host.shli (res_main_call0_call0_call0_v107 V0) (broadcastInDim S128x100000 ![] bcast_S_S128x100000 (constantI S_ 32 17#32))) (Host.shrui (res_main_call0_call0_call0_v107 V0) (broadcastInDim S128x100000 ![] bcast_S_S128x100000 (constantI S_ 32 15#32))))

set_option maxRecDepth 8192 in
/-- `main_call0_call0_call0_v115`'s composed term of the arguments (named: it is used 2 times). -/
def res_main_call0_call0_call0_v115 (V0 : Valuation τ sig (Elt F)) : (Proc.devRef .tc main_call0_call0_call0_v115 : DevRef τ sig).ty.Contents (Elt F) :=
  addi (res_main_call0_call0_call0_v108 V0) (res_main_call0_call0_call0_v114 V0)

set_option maxRecDepth 8192 in
/-- `main_call0_call0_call0_v121`'s composed term of the arguments (named: it is used 3 times). -/
def res_main_call0_call0_call0_v121 (V0 : Valuation τ sig (Elt F)) : (Proc.devRef .tc main_call0_call0_call0_v121 : DevRef τ sig).ty.Contents (Elt F) :=
  xori (res_main_call0_call0_call0_v115 V0) (ori (Host.shli (res_main_call0_call0_call0_v114 V0) (broadcastInDim S128x100000 ![] bcast_S_S128x100000 (constantI S_ 32 29#32))) (Host.shrui (res_main_call0_call0_call0_v114 V0) (broadcastInDim S128x100000 ![] bcast_S_S128x100000 (constantI S_ 32 3#32))))

set_option maxRecDepth 8192 in
/-- `main_call0_call0_call0_v122`'s composed term of the arguments (named: it is used 2 times). -/
def res_main_call0_call0_call0_v122 (V0 : Valuation τ sig (Elt F)) : (Proc.devRef .tc main_call0_call0_call0_v122 : DevRef τ sig).ty.Contents (Elt F) :=
  addi (res_main_call0_call0_call0_v115 V0) (res_main_call0_call0_call0_v121 V0)

set_option maxRecDepth 8192 in
/-- `main_call0_call0_call0_v128`'s composed term of the arguments (named: it is used 3 times). -/
def res_main_call0_call0_call0_v128 (V0 : Valuation τ sig (Elt F)) : (Proc.devRef .tc main_call0_call0_call0_v128 : DevRef τ sig).ty.Contents (Elt F) :=
  xori (res_main_call0_call0_call0_v122 V0) (ori (Host.shli (res_main_call0_call0_call0_v121 V0) (broadcastInDim S128x100000 ![] bcast_S_S128x100000 (constantI S_ 32 16#32))) (Host.shrui (res_main_call0_call0_call0_v121 V0) (broadcastInDim S128x100000 ![] bcast_S_S128x100000 (constantI S_ 32 16#32))))

set_option maxRecDepth 8192 in
/-- `main_call0_call0_call0_v129`'s composed term of the arguments (named: it is used 2 times). -/
def res_main_call0_call0_call0_v129 (V0 : Valuation τ sig (Elt F)) : (Proc.devRef .tc main_call0_call0_call0_v129 : DevRef τ sig).ty.Contents (Elt F) :=
  addi (res_main_call0_call0_call0_v122 V0) (res_main_call0_call0_call0_v128 V0)

set_option maxRecDepth 8192 in
/-- `main_call0_call0_call0_v141`'s composed term of the arguments (named: it is used 3 times). -/
def res_main_call0_call0_call0_v141 (V0 : Valuation τ sig (Elt F)) : (Proc.devRef .tc main_call0_call0_call0_v141 : DevRef τ sig).ty.Contents (Elt F) :=
  addi (addi (xori (res_main_call0_call0_call0_v129 V0) (ori (Host.shli (res_main_call0_call0_call0_v128 V0) (broadcastInDim S128x100000 ![] bcast_S_S128x100000 (constantI S_ 32 24#32))) (Host.shrui (res_main_call0_call0_call0_v128 V0) (broadcastInDim S128x100000 ![] bcast_S_S128x100000 (constantI S_ 32 8#32))))) (broadcastInDim S128x100000 ![] bcast_S_S128x100000 (res_main_call0_call0_call0_v1 V0))) (broadcastInDim S128x100000 ![] bcast_S_S128x100000 (constantI S_ 32 4#32))

set_option maxRecDepth 8192 in
/-- `main_call0_call0_call0_v142`'s composed term of the arguments (named: it is used 2 times). -/
def res_main_call0_call0_call0_v142 (V0 : Valuation τ sig (Elt F)) : (Proc.devRef .tc main_call0_call0_call0_v142 : DevRef τ sig).ty.Contents (Elt F) :=
  addi (addi (res_main_call0_call0_call0_v129 V0) (broadcastInDim S128x100000 ![] bcast_S_S128x100000 (res_main_call0_call0_v7 V0))) (res_main_call0_call0_call0_v141 V0)

set_option maxRecDepth 8192 in
/-- `main_call0_call0_call0_v148`'s composed term of the arguments (named: it is used 3 times). -/
def res_main_call0_call0_call0_v148 (V0 : Valuation τ sig (Elt F)) : (Proc.devRef .tc main_call0_call0_call0_v148 : DevRef τ sig).ty.Contents (Elt F) :=
  xori (res_main_call0_call0_call0_v142 V0) (ori (Host.shli (res_main_call0_call0_call0_v141 V0) (broadcastInDim S128x100000 ![] bcast_S_S128x100000 (constantI S_ 32 13#32))) (Host.shrui (res_main_call0_call0_call0_v141 V0) (broadcastInDim S128x100000 ![] bcast_S_S128x100000 (constantI S_ 32 19#32))))

set_option maxRecDepth 8192 in
/-- `main_call0_call0_call0_v149`'s composed term of the arguments (named: it is used 2 times). -/
def res_main_call0_call0_call0_v149 (V0 : Valuation τ sig (Elt F)) : (Proc.devRef .tc main_call0_call0_call0_v149 : DevRef τ sig).ty.Contents (Elt F) :=
  addi (res_main_call0_call0_call0_v142 V0) (res_main_call0_call0_call0_v148 V0)

set_option maxRecDepth 8192 in
/-- `main_call0_call0_call0_v155`'s composed term of the arguments (named: it is used 3 times). -/
def res_main_call0_call0_call0_v155 (V0 : Valuation τ sig (Elt F)) : (Proc.devRef .tc main_call0_call0_call0_v155 : DevRef τ sig).ty.Contents (Elt F) :=
  xori (res_main_call0_call0_call0_v149 V0) (ori (Host.shli (res_main_call0_call0_call0_v148 V0) (broadcastInDim S128x100000 ![] bcast_S_S128x100000 (constantI S_ 32 15#32))) (Host.shrui (res_main_call0_call0_call0_v148 V0) (broadcastInDim S128x100000 ![] bcast_S_S128x100000 (constantI S_ 32 17#32))))

set_option maxRecDepth 8192 in
/-- `main_call0_call0_call0_v156`'s composed term of the arguments (named: it is used 2 times). -/
def res_main_call0_call0_call0_v156 (V0 : Valuation τ sig (Elt F)) : (Proc.devRef .tc main_call0_call0_call0_v156 : DevRef τ sig).ty.Contents (Elt F) :=
  addi (res_main_call0_call0_call0_v149 V0) (res_main_call0_call0_call0_v155 V0)

set_option maxRecDepth 8192 in
/-- `main_call0_call0_call0_v162`'s composed term of the arguments (named: it is used 3 times). -/
def res_main_call0_call0_call0_v162 (V0 : Valuation τ sig (Elt F)) : (Proc.devRef .tc main_call0_call0_call0_v162 : DevRef τ sig).ty.Contents (Elt F) :=
  xori (res_main_call0_call0_call0_v156 V0) (ori (Host.shli (res_main_call0_call0_call0_v155 V0) (broadcastInDim S128x100000 ![] bcast_S_S128x100000 (constantI S_ 32 26#32))) (Host.shrui (res_main_call0_call0_call0_v155 V0) (broadcastInDim S128x100000 ![] bcast_S_S128x100000 (constantI S_ 32 6#32))))

set_option maxRecDepth 8192 in
/-- `main_call0_call0_call0_v163`'s composed term of the arguments (named: it is used 2 times). -/
def res_main_call0_call0_call0_v163 (V0 : Valuation τ sig (Elt F)) : (Proc.devRef .tc main_call0_call0_call0_v163 : DevRef τ sig).ty.Contents (Elt F) :=
  addi (res_main_call0_call0_call0_v156 V0) (res_main_call0_call0_call0_v162 V0)

set_option maxRecDepth 8192 in
/-- `main_v18`'s composed term of the arguments (named: it is used 3 times). -/
def res_main_v18 (V0 : Valuation τ sig (Elt F)) : (Proc.devRef .tc main_v18 : DevRef τ sig).ty.Contents (Elt F) :=
  Host.divf (broadcastInDim S128x100000 ![] bcast_S_S128x100000 (constant S_ .f32 0x3F800000#32)) (addf (broadcastInDim S128x100000 ![] bcast_S_S128x100000 (constant S_ .f32 0x3F800000#32)) (Host.exp (Host.negf (Host.divf (addf (V0 (Proc.devRef .tc main_arg0)) (Host.negf (Host.log (Host.negf (Host.log1p (Host.negf (maximumf (broadcastInDim S128x100000 ![0, 1] bcast_S1x1_S128x100000_0_1 (res_main_call0_call0_v2 V0)) (addf (mulf (subf (bitcastToFloat (F := F) .f32 (ori (Host.shrui (xori (addi (res_main_call0_call0_call0_v163 V0) (broadcastInDim S128x100000 ![] bcast_S_S128x100000 (res_main_call0_call0_call0_v1 V0))) (addi (addi (xori (res_main_call0_call0_call0_v163 V0) (ori (Host.shli (res_main_call0_call0_call0_v162 V0) (broadcastInDim S128x100000 ![] bcast_S_S128x100000 (constantI S_ 32 6#32))) (Host.shrui (res_main_call0_call0_call0_v162 V0) (broadcastInDim S128x100000 ![] bcast_S_S128x100000 (constantI S_ 32 26#32))))) (broadcastInDim S128x100000 ![] bcast_S_S128x100000 (res_main_call0_call0_v5 V0))) (broadcastInDim S128x100000 ![] bcast_S_S128x100000 (constantI S_ 32 5#32)))) (broadcastInDim S128x100000 ![] bcast_S_S128x100000 (constantI S_ 32 9#32))) (broadcastInDim S128x100000 ![] bcast_S_S128x100000 (constantI S_ 32 1065353216#32)))) (broadcastInDim S128x100000 ![] bcast_S_S128x100000 (constant S_ .f32 0x3F800000#32))) (broadcastInDim S128x100000 ![0, 1] bcast_S1x1_S128x100000_0_1 (subf (broadcastInDim S1x1 ![] bcast_S_S1x1 (id (constant S_ .f32 0x3F800000#32))) (res_main_call0_call0_v2 V0)))) (broadcastInDim S128x100000 ![0, 1] bcast_S1x1_S128x100000_0_1 (res_main_call0_call0_v2 V0)))))))))) (broadcastInDim S128x100000 ![] bcast_S_S128x100000 (constant S_ .f32 0x3F800000#32))))))

end Cert.ReferenceIdeal.Value

end

end
-- ==== Proof.RefRun.lean ====
module
public import proofs.«01_k».proof.Proof.RefTerms

/-! The reference's run. Group by group, the buffers that later groups read hold the named terms of
    `RefTerms`; so the result buffer ends at one composed term of the argument, and the argument is unchanged. -/

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The device's buffer contents before @main's first operation. -/
def val0 (V0 : Valuation τ sig (Elt F)) : Valuation τ sig (Elt F) := V0
/-- What `main_arg0` holds at the point `val0`. -/
theorem val0_main_arg0 (V0 : Valuation τ sig (Elt F)) : val0 V0 (no_index (Proc.devRef .tc main_arg0)) = V0 (Proc.devRef .tc main_arg0) := rfl

/-- The device's buffer contents after @main's first 30 operations. -/
def val0_1 (V0 : Valuation τ sig (Elt F)) : Valuation τ sig (Elt F) := after ops_0 (val0 V0)
/-- The buffers that window `ops_0`'s operations write. -/
abbrev ops_0_W : List (Ref sig .tc) := [main_c, main_c_0, main_v0, main_v1, main_v2, main_c_1, main_v3, main_v4, main_v5, main_v6, main_call0_cst, main_call0_cst_0, main_call0_call0_v0, main_call0_call0_v1, main_call0_call0_v2, main_call0_call0_v3, main_call0_call0_v4, main_call0_call0_v5, main_call0_call0_v6, main_call0_call0_v7, main_call0_call0_v8, main_call0_call0_v9, main_call0_call0_c, main_call0_call0_v10, main_call0_call0_v11, main_call0_call0_c_0, main_call0_call0_v12, main_call0_call0_v13, main_call0_call0_v14, main_call0_call0_c_1]
set_option maxRecDepth 8192 in
/-- Each operation of `ops_0` writes one of the buffers listed in `ops_0_W`. -/
theorem ops_0_writes : (ops_0 : List (HloOp τ sig (Elt F))).Forall fun op => op.writes ⊆ (ops_0_W.map (Proc.devRef (τ := τ) .tc)).toFinset :=
  forall_writes_sub_of_map rfl
/-- A buffer that window `ops_0` does not write keeps its contents through it. -/
theorem val0_1_keep (V0 : Valuation τ sig (Elt F)) (r : Ref sig .tc) (h : r ∉ ops_0_W) :
    val0_1 V0 (Proc.devRef .tc r) = val0 V0 (Proc.devRef .tc r) :=
  after_of_writes_sub ops_0 _ ops_0_writes h
/-- What `main_arg0` holds at the point `val0_1`. -/
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
set_option maxRecDepth 8192 in
set_option maxHeartbeats 2000000 in
/-- What `main_call0_call0_v2` holds at the point `val0_1`. -/
theorem val0_1_main_call0_call0_v2 (V0 : Valuation τ sig (Elt F)) : val0_1 V0 (no_index (Proc.devRef .tc main_call0_call0_v2)) = res_main_call0_call0_v2 V0 := by
  unfold val0_1
  simp only [ops_0, TRef.binary, TRef.nullary, TRef.reshape, TRef.unary, TRef.toBuf, TRef.ofBuf, cast_eq]
  after_results_simp
  all_goals rfl
set_option maxRecDepth 8192 in
set_option maxHeartbeats 2000000 in
/-- What `main_call0_call0_v3` holds at the point `val0_1`. -/
theorem val0_1_main_call0_call0_v3 (V0 : Valuation τ sig (Elt F)) : val0_1 V0 (no_index (Proc.devRef .tc main_call0_call0_v3)) = broadcastInDim S1x1 ![] bcast_S_S1x1 (id (constant S_ .f32 0x3F800000#32)) := by
  unfold val0_1
  simp only [ops_0, TRef.binary, TRef.nullary, TRef.reshape, TRef.unary, TRef.toBuf, TRef.ofBuf, cast_eq]
  after_results_simp
  all_goals rfl
set_option maxRecDepth 8192 in
set_option maxHeartbeats 2000000 in
/-- What `main_call0_call0_v5` holds at the point `val0_1`. -/
theorem val0_1_main_call0_call0_v5 (V0 : Valuation τ sig (Elt F)) : val0_1 V0 (no_index (Proc.devRef .tc main_call0_call0_v5)) = res_main_call0_call0_v5 V0 := by
  unfold val0_1
  simp only [ops_0, TRef.binary, TRef.nullary, TRef.reshape, TRef.unary, TRef.toBuf, TRef.ofBuf, cast_eq]
  after_results_simp
  all_goals rfl
set_option maxRecDepth 8192 in
set_option maxHeartbeats 2000000 in
/-- What `main_call0_call0_v7` holds at the point `val0_1`. -/
theorem val0_1_main_call0_call0_v7 (V0 : Valuation τ sig (Elt F)) : val0_1 V0 (no_index (Proc.devRef .tc main_call0_call0_v7)) = res_main_call0_call0_v7 V0 := by
  unfold val0_1
  simp only [ops_0, TRef.binary, TRef.nullary, TRef.reshape, TRef.unary, TRef.toBuf, TRef.ofBuf, cast_eq]
  after_results_simp
  all_goals rfl
set_option maxRecDepth 8192 in
set_option maxHeartbeats 2000000 in
/-- What `main_call0_call0_v14` holds at the point `val0_1`. -/
theorem val0_1_main_call0_call0_v14 (V0 : Valuation τ sig (Elt F)) : val0_1 V0 (no_index (Proc.devRef .tc main_call0_call0_v14)) = res_main_call0_call0_v14 V0 := by
  unfold val0_1
  simp only [ops_0, TRef.binary, TRef.nullary, TRef.reshape, TRef.unary, TRef.toBuf, TRef.ofBuf, cast_eq]
  after_results_simp
  all_goals rfl
set_option maxRecDepth 8192 in
set_option maxHeartbeats 2000000 in
/-- What `main_call0_call0_c_1` holds at the point `val0_1`. -/
theorem val0_1_main_call0_call0_c_1 (V0 : Valuation τ sig (Elt F)) : val0_1 V0 (no_index (Proc.devRef .tc main_call0_call0_c_1)) = constantI S_ 64 32#64 := by
  unfold val0_1
  simp only [ops_0, TRef.binary, TRef.nullary, TRef.reshape, TRef.unary, TRef.toBuf, TRef.ofBuf, cast_eq]
  after_results_simp
  all_goals rfl

/-- The device's buffer contents after @main's first 60 operations. -/
def val0_2 (V0 : Valuation τ sig (Elt F)) : Valuation τ sig (Elt F) := after ops_1 (val0_1 V0)
/-- The buffers that window `ops_1`'s operations write. -/
abbrev ops_1_W : List (Ref sig .tc) := [main_call0_call0_v15, main_call0_call0_v16, main_call0_call0_v17, main_call0_call0_v18, main_call0_call0_call0_v0, main_call0_call0_call0_c, main_call0_call0_call0_v1, main_call0_call0_call0_v2, main_call0_call0_call0_v3, main_call0_call0_call0_v4, main_call0_call0_call0_v5, main_call0_call0_call0_v6, main_call0_call0_call0_c_0, main_call0_call0_call0_v7, main_call0_call0_call0_v8, main_call0_call0_call0_c_1, main_call0_call0_call0_v9, main_call0_call0_call0_v10, main_call0_call0_call0_v11, main_call0_call0_call0_v12, main_call0_call0_call0_v13, main_call0_call0_call0_c_2, main_call0_call0_call0_v14, main_call0_call0_call0_v15, main_call0_call0_call0_c_3, main_call0_call0_call0_v16, main_call0_call0_call0_v17, main_call0_call0_call0_v18, main_call0_call0_call0_v19, main_call0_call0_call0_v20]
set_option maxRecDepth 8192 in
/-- Each operation of `ops_1` writes one of the buffers listed in `ops_1_W`. -/
theorem ops_1_writes : (ops_1 : List (HloOp τ sig (Elt F))).Forall fun op => op.writes ⊆ (ops_1_W.map (Proc.devRef (τ := τ) .tc)).toFinset :=
  forall_writes_sub_of_map rfl
/-- A buffer that window `ops_1` does not write keeps its contents through it. -/
theorem val0_2_keep (V0 : Valuation τ sig (Elt F)) (r : Ref sig .tc) (h : r ∉ ops_1_W) :
    val0_2 V0 (Proc.devRef .tc r) = val0_1 V0 (Proc.devRef .tc r) :=
  after_of_writes_sub ops_1 _ ops_1_writes h
/-- What `main_arg0` holds at the point `val0_2`. -/
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
/-- What `main_call0_call0_v2` holds at the point `val0_2`. -/
theorem val0_2_main_call0_call0_v2 (V0 : Valuation τ sig (Elt F)) : val0_2 V0 (no_index (Proc.devRef .tc main_call0_call0_v2)) = res_main_call0_call0_v2 V0 :=
  (val0_2_keep V0 main_call0_call0_v2 (by decide)).trans (val0_1_main_call0_call0_v2 V0)
/-- What `main_call0_call0_v3` holds at the point `val0_2`. -/
theorem val0_2_main_call0_call0_v3 (V0 : Valuation τ sig (Elt F)) : val0_2 V0 (no_index (Proc.devRef .tc main_call0_call0_v3)) = broadcastInDim S1x1 ![] bcast_S_S1x1 (id (constant S_ .f32 0x3F800000#32)) :=
  (val0_2_keep V0 main_call0_call0_v3 (by decide)).trans (val0_1_main_call0_call0_v3 V0)
/-- What `main_call0_call0_v5` holds at the point `val0_2`. -/
theorem val0_2_main_call0_call0_v5 (V0 : Valuation τ sig (Elt F)) : val0_2 V0 (no_index (Proc.devRef .tc main_call0_call0_v5)) = res_main_call0_call0_v5 V0 :=
  (val0_2_keep V0 main_call0_call0_v5 (by decide)).trans (val0_1_main_call0_call0_v5 V0)
/-- What `main_call0_call0_v7` holds at the point `val0_2`. -/
theorem val0_2_main_call0_call0_v7 (V0 : Valuation τ sig (Elt F)) : val0_2 V0 (no_index (Proc.devRef .tc main_call0_call0_v7)) = res_main_call0_call0_v7 V0 :=
  (val0_2_keep V0 main_call0_call0_v7 (by decide)).trans (val0_1_main_call0_call0_v7 V0)
set_option maxRecDepth 8192 in
set_option maxHeartbeats 2000000 in
/-- What `main_call0_call0_call0_v1` holds at the point `val0_2`. -/
theorem val0_2_main_call0_call0_call0_v1 (V0 : Valuation τ sig (Elt F)) : val0_2 V0 (no_index (Proc.devRef .tc main_call0_call0_call0_v1)) = res_main_call0_call0_call0_v1 V0 := by
  unfold val0_2
  simp only [ops_1, TRef.binary, TRef.nullary, TRef.unary, TRef.toBuf, TRef.ofBuf, cast_eq]
  after_results_simp
  simp only [val0_1_main_call0_call0_v7, val0_1_main_call0_call0_v5] <;> rfl
set_option maxRecDepth 8192 in
set_option maxHeartbeats 2000000 in
/-- What `main_call0_call0_call0_v19` holds at the point `val0_2`. -/
theorem val0_2_main_call0_call0_call0_v19 (V0 : Valuation τ sig (Elt F)) : val0_2 V0 (no_index (Proc.devRef .tc main_call0_call0_call0_v19)) = res_main_call0_call0_call0_v19 V0 := by
  unfold val0_2
  simp only [ops_1, TRef.binary, TRef.nullary, TRef.unary, TRef.toBuf, TRef.ofBuf, cast_eq]
  after_results_simp
  simp only [val0_1_main_call0_call0_v7, val0_1_main_call0_call0_v14, val0_1_main_call0_call0_v5, val0_1_main_call0_call0_c_1] <;> rfl
set_option maxRecDepth 8192 in
set_option maxHeartbeats 2000000 in
/-- What `main_call0_call0_call0_v20` holds at the point `val0_2`. -/
theorem val0_2_main_call0_call0_call0_v20 (V0 : Valuation τ sig (Elt F)) : val0_2 V0 (no_index (Proc.devRef .tc main_call0_call0_call0_v20)) = res_main_call0_call0_call0_v20 V0 := by
  unfold val0_2
  simp only [ops_1, TRef.binary, TRef.nullary, TRef.unary, TRef.toBuf, TRef.ofBuf, cast_eq]
  after_results_simp
  simp only [val0_1_main_call0_call0_v7, val0_1_main_call0_call0_v14, val0_1_main_call0_call0_v5, val0_1_main_call0_call0_c_1] <;> rfl

/-- The device's buffer contents after @main's first 90 operations. -/
def val0_3 (V0 : Valuation τ sig (Elt F)) : Valuation τ sig (Elt F) := after ops_2 (val0_2 V0)
/-- The buffers that window `ops_2`'s operations write. -/
abbrev ops_2_W : List (Ref sig .tc) := [main_call0_call0_call0_c_4, main_call0_call0_call0_v21, main_call0_call0_call0_v22, main_call0_call0_call0_c_5, main_call0_call0_call0_v23, main_call0_call0_call0_v24, main_call0_call0_call0_v25, main_call0_call0_call0_v26, main_call0_call0_call0_v27, main_call0_call0_call0_c_6, main_call0_call0_call0_v28, main_call0_call0_call0_v29, main_call0_call0_call0_c_7, main_call0_call0_call0_v30, main_call0_call0_call0_v31, main_call0_call0_call0_v32, main_call0_call0_call0_v33, main_call0_call0_call0_v34, main_call0_call0_call0_v35, main_call0_call0_call0_v36, main_call0_call0_call0_v37, main_call0_call0_call0_c_8, main_call0_call0_call0_v38, main_call0_call0_call0_v39, main_call0_call0_call0_v40, main_call0_call0_call0_c_9, main_call0_call0_call0_v41, main_call0_call0_call0_v42, main_call0_call0_call0_c_10, main_call0_call0_call0_v43]
set_option maxRecDepth 8192 in
/-- Each operation of `ops_2` writes one of the buffers listed in `ops_2_W`. -/
theorem ops_2_writes : (ops_2 : List (HloOp τ sig (Elt F))).Forall fun op => op.writes ⊆ (ops_2_W.map (Proc.devRef (τ := τ) .tc)).toFinset :=
  forall_writes_sub_of_map rfl
/-- A buffer that window `ops_2` does not write keeps its contents through it. -/
theorem val0_3_keep (V0 : Valuation τ sig (Elt F)) (r : Ref sig .tc) (h : r ∉ ops_2_W) :
    val0_3 V0 (Proc.devRef .tc r) = val0_2 V0 (Proc.devRef .tc r) :=
  after_of_writes_sub ops_2 _ ops_2_writes h
/-- What `main_arg0` holds at the point `val0_3`. -/
theorem val0_3_main_arg0 (V0 : Valuation τ sig (Elt F)) : val0_3 V0 (no_index (Proc.devRef .tc main_arg0)) = V0 (Proc.devRef .tc main_arg0) :=
  (val0_3_keep V0 main_arg0 (by decide)).trans (val0_2_main_arg0 V0)
/-- What `main_call0_call0_v2` holds at the point `val0_3`. -/
theorem val0_3_main_call0_call0_v2 (V0 : Valuation τ sig (Elt F)) : val0_3 V0 (no_index (Proc.devRef .tc main_call0_call0_v2)) = res_main_call0_call0_v2 V0 :=
  (val0_3_keep V0 main_call0_call0_v2 (by decide)).trans (val0_2_main_call0_call0_v2 V0)
/-- What `main_call0_call0_v3` holds at the point `val0_3`. -/
theorem val0_3_main_call0_call0_v3 (V0 : Valuation τ sig (Elt F)) : val0_3 V0 (no_index (Proc.devRef .tc main_call0_call0_v3)) = broadcastInDim S1x1 ![] bcast_S_S1x1 (id (constant S_ .f32 0x3F800000#32)) :=
  (val0_3_keep V0 main_call0_call0_v3 (by decide)).trans (val0_2_main_call0_call0_v3 V0)
/-- What `main_call0_call0_v5` holds at the point `val0_3`. -/
theorem val0_3_main_call0_call0_v5 (V0 : Valuation τ sig (Elt F)) : val0_3 V0 (no_index (Proc.devRef .tc main_call0_call0_v5)) = res_main_call0_call0_v5 V0 :=
  (val0_3_keep V0 main_call0_call0_v5 (by decide)).trans (val0_2_main_call0_call0_v5 V0)
/-- What `main_call0_call0_v7` holds at the point `val0_3`. -/
theorem val0_3_main_call0_call0_v7 (V0 : Valuation τ sig (Elt F)) : val0_3 V0 (no_index (Proc.devRef .tc main_call0_call0_v7)) = res_main_call0_call0_v7 V0 :=
  (val0_3_keep V0 main_call0_call0_v7 (by decide)).trans (val0_2_main_call0_call0_v7 V0)
/-- What `main_call0_call0_call0_v1` holds at the point `val0_3`. -/
theorem val0_3_main_call0_call0_call0_v1 (V0 : Valuation τ sig (Elt F)) : val0_3 V0 (no_index (Proc.devRef .tc main_call0_call0_call0_v1)) = res_main_call0_call0_call0_v1 V0 :=
  (val0_3_keep V0 main_call0_call0_call0_v1 (by decide)).trans (val0_2_main_call0_call0_call0_v1 V0)
set_option maxRecDepth 8192 in
set_option maxHeartbeats 2000000 in
/-- What `main_call0_call0_call0_v39` holds at the point `val0_3`. -/
theorem val0_3_main_call0_call0_call0_v39 (V0 : Valuation τ sig (Elt F)) : val0_3 V0 (no_index (Proc.devRef .tc main_call0_call0_call0_v39)) = res_main_call0_call0_call0_v39 V0 := by
  unfold val0_3
  simp only [ops_2, TRef.binary, TRef.nullary, TRef.unary, TRef.toBuf, TRef.ofBuf, cast_eq]
  after_results_simp
  simp only [val0_2_main_call0_call0_call0_v1, val0_2_main_call0_call0_call0_v19, val0_2_main_call0_call0_call0_v20] <;> rfl
set_option maxRecDepth 8192 in
set_option maxHeartbeats 2000000 in
/-- What `main_call0_call0_call0_v40` holds at the point `val0_3`. -/
theorem val0_3_main_call0_call0_call0_v40 (V0 : Valuation τ sig (Elt F)) : val0_3 V0 (no_index (Proc.devRef .tc main_call0_call0_call0_v40)) = res_main_call0_call0_call0_v40 V0 := by
  unfold val0_3
  simp only [ops_2, TRef.binary, TRef.nullary, TRef.unary, TRef.toBuf, TRef.ofBuf, cast_eq]
  after_results_simp
  simp only [val0_2_main_call0_call0_call0_v1, val0_2_main_call0_call0_call0_v19, val0_2_main_call0_call0_call0_v20, val0_2_main_call0_call0_v7] <;> rfl
set_option maxRecDepth 8192 in
set_option maxHeartbeats 2000000 in
/-- What `main_call0_call0_call0_v42` holds at the point `val0_3`. -/
theorem val0_3_main_call0_call0_call0_v42 (V0 : Valuation τ sig (Elt F)) : val0_3 V0 (no_index (Proc.devRef .tc main_call0_call0_call0_v42)) = Host.shli (res_main_call0_call0_call0_v39 V0) (broadcastInDim S128x100000 ![] bcast_S_S128x100000 (constantI S_ 32 17#32)) := by
  unfold val0_3
  simp only [ops_2, TRef.binary, TRef.nullary, TRef.unary, TRef.toBuf, TRef.ofBuf, cast_eq]
  after_results_simp
  simp only [val0_2_main_call0_call0_call0_v1, val0_2_main_call0_call0_call0_v19, val0_2_main_call0_call0_call0_v20] <;> rfl
set_option maxRecDepth 8192 in
set_option maxHeartbeats 2000000 in
/-- What `main_call0_call0_call0_v43` holds at the point `val0_3`. -/
theorem val0_3_main_call0_call0_call0_v43 (V0 : Valuation τ sig (Elt F)) : val0_3 V0 (no_index (Proc.devRef .tc main_call0_call0_call0_v43)) = broadcastInDim S128x100000 ![] bcast_S_S128x100000 (constantI S_ 32 15#32) := by
  unfold val0_3
  simp only [ops_2, TRef.binary, TRef.nullary, TRef.unary, TRef.toBuf, TRef.ofBuf, cast_eq]
  after_results_simp
  all_goals rfl

/-- The device's buffer contents after @main's first 120 operations. -/
def val0_4 (V0 : Valuation τ sig (Elt F)) : Valuation τ sig (Elt F) := after ops_3 (val0_3 V0)
/-- The buffers that window `ops_3`'s operations write. -/
abbrev ops_3_W : List (Ref sig .tc) := [main_call0_call0_call0_v44, main_call0_call0_call0_v45, main_call0_call0_call0_v46, main_call0_call0_call0_v47, main_call0_call0_call0_c_11, main_call0_call0_call0_v48, main_call0_call0_call0_v49, main_call0_call0_call0_c_12, main_call0_call0_call0_v50, main_call0_call0_call0_v51, main_call0_call0_call0_v52, main_call0_call0_call0_v53, main_call0_call0_call0_v54, main_call0_call0_call0_c_13, main_call0_call0_call0_v55, main_call0_call0_call0_v56, main_call0_call0_call0_c_14, main_call0_call0_call0_v57, main_call0_call0_call0_v58, main_call0_call0_call0_v59, main_call0_call0_call0_v60, main_call0_call0_call0_v61, main_call0_call0_call0_c_15, main_call0_call0_call0_v62, main_call0_call0_call0_v63, main_call0_call0_call0_c_16, main_call0_call0_call0_v64, main_call0_call0_call0_v65, main_call0_call0_call0_v66, main_call0_call0_call0_v67]
set_option maxRecDepth 8192 in
/-- Each operation of `ops_3` writes one of the buffers listed in `ops_3_W`. -/
theorem ops_3_writes : (ops_3 : List (HloOp τ sig (Elt F))).Forall fun op => op.writes ⊆ (ops_3_W.map (Proc.devRef (τ := τ) .tc)).toFinset :=
  forall_writes_sub_of_map rfl
/-- A buffer that window `ops_3` does not write keeps its contents through it. -/
theorem val0_4_keep (V0 : Valuation τ sig (Elt F)) (r : Ref sig .tc) (h : r ∉ ops_3_W) :
    val0_4 V0 (Proc.devRef .tc r) = val0_3 V0 (Proc.devRef .tc r) :=
  after_of_writes_sub ops_3 _ ops_3_writes h
/-- What `main_arg0` holds at the point `val0_4`. -/
theorem val0_4_main_arg0 (V0 : Valuation τ sig (Elt F)) : val0_4 V0 (no_index (Proc.devRef .tc main_arg0)) = V0 (Proc.devRef .tc main_arg0) :=
  (val0_4_keep V0 main_arg0 (by decide)).trans (val0_3_main_arg0 V0)
/-- What `main_call0_call0_v2` holds at the point `val0_4`. -/
theorem val0_4_main_call0_call0_v2 (V0 : Valuation τ sig (Elt F)) : val0_4 V0 (no_index (Proc.devRef .tc main_call0_call0_v2)) = res_main_call0_call0_v2 V0 :=
  (val0_4_keep V0 main_call0_call0_v2 (by decide)).trans (val0_3_main_call0_call0_v2 V0)
/-- What `main_call0_call0_v3` holds at the point `val0_4`. -/
theorem val0_4_main_call0_call0_v3 (V0 : Valuation τ sig (Elt F)) : val0_4 V0 (no_index (Proc.devRef .tc main_call0_call0_v3)) = broadcastInDim S1x1 ![] bcast_S_S1x1 (id (constant S_ .f32 0x3F800000#32)) :=
  (val0_4_keep V0 main_call0_call0_v3 (by decide)).trans (val0_3_main_call0_call0_v3 V0)
/-- What `main_call0_call0_v5` holds at the point `val0_4`. -/
theorem val0_4_main_call0_call0_v5 (V0 : Valuation τ sig (Elt F)) : val0_4 V0 (no_index (Proc.devRef .tc main_call0_call0_v5)) = res_main_call0_call0_v5 V0 :=
  (val0_4_keep V0 main_call0_call0_v5 (by decide)).trans (val0_3_main_call0_call0_v5 V0)
/-- What `main_call0_call0_v7` holds at the point `val0_4`. -/
theorem val0_4_main_call0_call0_v7 (V0 : Valuation τ sig (Elt F)) : val0_4 V0 (no_index (Proc.devRef .tc main_call0_call0_v7)) = res_main_call0_call0_v7 V0 :=
  (val0_4_keep V0 main_call0_call0_v7 (by decide)).trans (val0_3_main_call0_call0_v7 V0)
/-- What `main_call0_call0_call0_v1` holds at the point `val0_4`. -/
theorem val0_4_main_call0_call0_call0_v1 (V0 : Valuation τ sig (Elt F)) : val0_4 V0 (no_index (Proc.devRef .tc main_call0_call0_call0_v1)) = res_main_call0_call0_call0_v1 V0 :=
  (val0_4_keep V0 main_call0_call0_call0_v1 (by decide)).trans (val0_3_main_call0_call0_call0_v1 V0)
set_option maxRecDepth 8192 in
set_option maxHeartbeats 2000000 in
/-- What `main_call0_call0_call0_v61` holds at the point `val0_4`. -/
theorem val0_4_main_call0_call0_call0_v61 (V0 : Valuation τ sig (Elt F)) : val0_4 V0 (no_index (Proc.devRef .tc main_call0_call0_call0_v61)) = res_main_call0_call0_call0_v61 V0 := by
  unfold val0_4
  simp only [ops_3, TRef.binary, TRef.nullary, TRef.unary, TRef.toBuf, TRef.ofBuf, cast_eq]
  after_results_simp
  simp only [val0_3_main_call0_call0_call0_v43, val0_3_main_call0_call0_call0_v39, val0_3_main_call0_call0_call0_v42, val0_3_main_call0_call0_call0_v40] <;> rfl
set_option maxRecDepth 8192 in
set_option maxHeartbeats 2000000 in
/-- What `main_call0_call0_call0_v67` holds at the point `val0_4`. -/
theorem val0_4_main_call0_call0_call0_v67 (V0 : Valuation τ sig (Elt F)) : val0_4 V0 (no_index (Proc.devRef .tc main_call0_call0_call0_v67)) = xori (res_main_call0_call0_call0_v61 V0) (ori (Host.shli (res_main_call0_call0_call0_v60 V0) (broadcastInDim S128x100000 ![] bcast_S_S128x100000 (constantI S_ 32 24#32))) (Host.shrui (res_main_call0_call0_call0_v60 V0) (broadcastInDim S128x100000 ![] bcast_S_S128x100000 (constantI S_ 32 8#32)))) := by
  unfold val0_4
  simp only [ops_3, TRef.binary, TRef.nullary, TRef.unary, TRef.toBuf, TRef.ofBuf, cast_eq]
  after_results_simp
  simp only [val0_3_main_call0_call0_call0_v43, val0_3_main_call0_call0_call0_v39, val0_3_main_call0_call0_call0_v42, val0_3_main_call0_call0_call0_v40] <;> rfl

/-- The device's buffer contents after @main's first 150 operations. -/
def val0_5 (V0 : Valuation τ sig (Elt F)) : Valuation τ sig (Elt F) := after ops_4 (val0_4 V0)
/-- The buffers that window `ops_4`'s operations write. -/
abbrev ops_4_W : List (Ref sig .tc) := [main_call0_call0_call0_v68, main_call0_call0_call0_v69, main_call0_call0_call0_v70, main_call0_call0_call0_v71, main_call0_call0_call0_c_17, main_call0_call0_call0_v72, main_call0_call0_call0_v73, main_call0_call0_call0_v74, main_call0_call0_call0_c_18, main_call0_call0_call0_v75, main_call0_call0_call0_v76, main_call0_call0_call0_c_19, main_call0_call0_call0_v77, main_call0_call0_call0_v78, main_call0_call0_call0_v79, main_call0_call0_call0_v80, main_call0_call0_call0_v81, main_call0_call0_call0_c_20, main_call0_call0_call0_v82, main_call0_call0_call0_v83, main_call0_call0_call0_c_21, main_call0_call0_call0_v84, main_call0_call0_call0_v85, main_call0_call0_call0_v86, main_call0_call0_call0_v87, main_call0_call0_call0_v88, main_call0_call0_call0_c_22, main_call0_call0_call0_v89, main_call0_call0_call0_v90, main_call0_call0_call0_c_23]
set_option maxRecDepth 8192 in
/-- Each operation of `ops_4` writes one of the buffers listed in `ops_4_W`. -/
theorem ops_4_writes : (ops_4 : List (HloOp τ sig (Elt F))).Forall fun op => op.writes ⊆ (ops_4_W.map (Proc.devRef (τ := τ) .tc)).toFinset :=
  forall_writes_sub_of_map rfl
/-- A buffer that window `ops_4` does not write keeps its contents through it. -/
theorem val0_5_keep (V0 : Valuation τ sig (Elt F)) (r : Ref sig .tc) (h : r ∉ ops_4_W) :
    val0_5 V0 (Proc.devRef .tc r) = val0_4 V0 (Proc.devRef .tc r) :=
  after_of_writes_sub ops_4 _ ops_4_writes h
/-- What `main_arg0` holds at the point `val0_5`. -/
theorem val0_5_main_arg0 (V0 : Valuation τ sig (Elt F)) : val0_5 V0 (no_index (Proc.devRef .tc main_arg0)) = V0 (Proc.devRef .tc main_arg0) :=
  (val0_5_keep V0 main_arg0 (by decide)).trans (val0_4_main_arg0 V0)
/-- What `main_call0_call0_v2` holds at the point `val0_5`. -/
theorem val0_5_main_call0_call0_v2 (V0 : Valuation τ sig (Elt F)) : val0_5 V0 (no_index (Proc.devRef .tc main_call0_call0_v2)) = res_main_call0_call0_v2 V0 :=
  (val0_5_keep V0 main_call0_call0_v2 (by decide)).trans (val0_4_main_call0_call0_v2 V0)
/-- What `main_call0_call0_v3` holds at the point `val0_5`. -/
theorem val0_5_main_call0_call0_v3 (V0 : Valuation τ sig (Elt F)) : val0_5 V0 (no_index (Proc.devRef .tc main_call0_call0_v3)) = broadcastInDim S1x1 ![] bcast_S_S1x1 (id (constant S_ .f32 0x3F800000#32)) :=
  (val0_5_keep V0 main_call0_call0_v3 (by decide)).trans (val0_4_main_call0_call0_v3 V0)
/-- What `main_call0_call0_v5` holds at the point `val0_5`. -/
theorem val0_5_main_call0_call0_v5 (V0 : Valuation τ sig (Elt F)) : val0_5 V0 (no_index (Proc.devRef .tc main_call0_call0_v5)) = res_main_call0_call0_v5 V0 :=
  (val0_5_keep V0 main_call0_call0_v5 (by decide)).trans (val0_4_main_call0_call0_v5 V0)
/-- What `main_call0_call0_v7` holds at the point `val0_5`. -/
theorem val0_5_main_call0_call0_v7 (V0 : Valuation τ sig (Elt F)) : val0_5 V0 (no_index (Proc.devRef .tc main_call0_call0_v7)) = res_main_call0_call0_v7 V0 :=
  (val0_5_keep V0 main_call0_call0_v7 (by decide)).trans (val0_4_main_call0_call0_v7 V0)
/-- What `main_call0_call0_call0_v1` holds at the point `val0_5`. -/
theorem val0_5_main_call0_call0_call0_v1 (V0 : Valuation τ sig (Elt F)) : val0_5 V0 (no_index (Proc.devRef .tc main_call0_call0_call0_v1)) = res_main_call0_call0_call0_v1 V0 :=
  (val0_5_keep V0 main_call0_call0_call0_v1 (by decide)).trans (val0_4_main_call0_call0_call0_v1 V0)
set_option maxRecDepth 8192 in
set_option maxHeartbeats 2000000 in
/-- What `main_call0_call0_call0_v87` holds at the point `val0_5`. -/
theorem val0_5_main_call0_call0_call0_v87 (V0 : Valuation τ sig (Elt F)) : val0_5 V0 (no_index (Proc.devRef .tc main_call0_call0_call0_v87)) = res_main_call0_call0_call0_v87 V0 := by
  unfold val0_5
  simp only [ops_4, TRef.binary, TRef.nullary, TRef.unary, TRef.toBuf, TRef.ofBuf, cast_eq]
  after_results_simp
  simp only [val0_4_main_call0_call0_v5, val0_4_main_call0_call0_call0_v67, val0_4_main_call0_call0_call0_v1, val0_4_main_call0_call0_call0_v61] <;> rfl
set_option maxRecDepth 8192 in
set_option maxHeartbeats 2000000 in
/-- What `main_call0_call0_call0_v88` holds at the point `val0_5`. -/
theorem val0_5_main_call0_call0_call0_v88 (V0 : Valuation τ sig (Elt F)) : val0_5 V0 (no_index (Proc.devRef .tc main_call0_call0_call0_v88)) = res_main_call0_call0_call0_v88 V0 := by
  unfold val0_5
  simp only [ops_4, TRef.binary, TRef.nullary, TRef.unary, TRef.toBuf, TRef.ofBuf, cast_eq]
  after_results_simp
  simp only [val0_4_main_call0_call0_v5, val0_4_main_call0_call0_call0_v67, val0_4_main_call0_call0_call0_v1, val0_4_main_call0_call0_call0_v61] <;> rfl
set_option maxRecDepth 8192 in
set_option maxHeartbeats 2000000 in
/-- What `main_call0_call0_call0_v90` holds at the point `val0_5`. -/
theorem val0_5_main_call0_call0_call0_v90 (V0 : Valuation τ sig (Elt F)) : val0_5 V0 (no_index (Proc.devRef .tc main_call0_call0_call0_v90)) = Host.shli (res_main_call0_call0_call0_v87 V0) (broadcastInDim S128x100000 ![] bcast_S_S128x100000 (constantI S_ 32 26#32)) := by
  unfold val0_5
  simp only [ops_4, TRef.binary, TRef.nullary, TRef.unary, TRef.toBuf, TRef.ofBuf, cast_eq]
  after_results_simp
  simp only [val0_4_main_call0_call0_v5, val0_4_main_call0_call0_call0_v67, val0_4_main_call0_call0_call0_v1, val0_4_main_call0_call0_call0_v61] <;> rfl
set_option maxRecDepth 8192 in
set_option maxHeartbeats 2000000 in
/-- What `main_call0_call0_call0_c_23` holds at the point `val0_5`. -/
theorem val0_5_main_call0_call0_call0_c_23 (V0 : Valuation τ sig (Elt F)) : val0_5 V0 (no_index (Proc.devRef .tc main_call0_call0_call0_c_23)) = constantI S_ 32 6#32 := by
  unfold val0_5
  simp only [ops_4, TRef.binary, TRef.nullary, TRef.unary, TRef.toBuf, TRef.ofBuf, cast_eq]
  after_results_simp
  all_goals rfl

/-- The device's buffer contents after @main's first 180 operations. -/
def val0_6 (V0 : Valuation τ sig (Elt F)) : Valuation τ sig (Elt F) := after ops_5 (val0_5 V0)
/-- The buffers that window `ops_5`'s operations write. -/
abbrev ops_5_W : List (Ref sig .tc) := [main_call0_call0_call0_v91, main_call0_call0_call0_v92, main_call0_call0_call0_v93, main_call0_call0_call0_v94, main_call0_call0_call0_v95, main_call0_call0_call0_c_24, main_call0_call0_call0_v96, main_call0_call0_call0_v97, main_call0_call0_call0_c_25, main_call0_call0_call0_v98, main_call0_call0_call0_v99, main_call0_call0_call0_v100, main_call0_call0_call0_v101, main_call0_call0_call0_v102, main_call0_call0_call0_v103, main_call0_call0_call0_v104, main_call0_call0_call0_v105, main_call0_call0_call0_c_26, main_call0_call0_call0_v106, main_call0_call0_call0_v107, main_call0_call0_call0_v108, main_call0_call0_call0_c_27, main_call0_call0_call0_v109, main_call0_call0_call0_v110, main_call0_call0_call0_c_28, main_call0_call0_call0_v111, main_call0_call0_call0_v112, main_call0_call0_call0_v113, main_call0_call0_call0_v114, main_call0_call0_call0_v115]
set_option maxRecDepth 8192 in
/-- Each operation of `ops_5` writes one of the buffers listed in `ops_5_W`. -/
theorem ops_5_writes : (ops_5 : List (HloOp τ sig (Elt F))).Forall fun op => op.writes ⊆ (ops_5_W.map (Proc.devRef (τ := τ) .tc)).toFinset :=
  forall_writes_sub_of_map rfl
/-- A buffer that window `ops_5` does not write keeps its contents through it. -/
theorem val0_6_keep (V0 : Valuation τ sig (Elt F)) (r : Ref sig .tc) (h : r ∉ ops_5_W) :
    val0_6 V0 (Proc.devRef .tc r) = val0_5 V0 (Proc.devRef .tc r) :=
  after_of_writes_sub ops_5 _ ops_5_writes h
/-- What `main_arg0` holds at the point `val0_6`. -/
theorem val0_6_main_arg0 (V0 : Valuation τ sig (Elt F)) : val0_6 V0 (no_index (Proc.devRef .tc main_arg0)) = V0 (Proc.devRef .tc main_arg0) :=
  (val0_6_keep V0 main_arg0 (by decide)).trans (val0_5_main_arg0 V0)
/-- What `main_call0_call0_v2` holds at the point `val0_6`. -/
theorem val0_6_main_call0_call0_v2 (V0 : Valuation τ sig (Elt F)) : val0_6 V0 (no_index (Proc.devRef .tc main_call0_call0_v2)) = res_main_call0_call0_v2 V0 :=
  (val0_6_keep V0 main_call0_call0_v2 (by decide)).trans (val0_5_main_call0_call0_v2 V0)
/-- What `main_call0_call0_v3` holds at the point `val0_6`. -/
theorem val0_6_main_call0_call0_v3 (V0 : Valuation τ sig (Elt F)) : val0_6 V0 (no_index (Proc.devRef .tc main_call0_call0_v3)) = broadcastInDim S1x1 ![] bcast_S_S1x1 (id (constant S_ .f32 0x3F800000#32)) :=
  (val0_6_keep V0 main_call0_call0_v3 (by decide)).trans (val0_5_main_call0_call0_v3 V0)
/-- What `main_call0_call0_v5` holds at the point `val0_6`. -/
theorem val0_6_main_call0_call0_v5 (V0 : Valuation τ sig (Elt F)) : val0_6 V0 (no_index (Proc.devRef .tc main_call0_call0_v5)) = res_main_call0_call0_v5 V0 :=
  (val0_6_keep V0 main_call0_call0_v5 (by decide)).trans (val0_5_main_call0_call0_v5 V0)
/-- What `main_call0_call0_v7` holds at the point `val0_6`. -/
theorem val0_6_main_call0_call0_v7 (V0 : Valuation τ sig (Elt F)) : val0_6 V0 (no_index (Proc.devRef .tc main_call0_call0_v7)) = res_main_call0_call0_v7 V0 :=
  (val0_6_keep V0 main_call0_call0_v7 (by decide)).trans (val0_5_main_call0_call0_v7 V0)
/-- What `main_call0_call0_call0_v1` holds at the point `val0_6`. -/
theorem val0_6_main_call0_call0_call0_v1 (V0 : Valuation τ sig (Elt F)) : val0_6 V0 (no_index (Proc.devRef .tc main_call0_call0_call0_v1)) = res_main_call0_call0_call0_v1 V0 :=
  (val0_6_keep V0 main_call0_call0_call0_v1 (by decide)).trans (val0_5_main_call0_call0_call0_v1 V0)
set_option maxRecDepth 8192 in
set_option maxHeartbeats 2000000 in
/-- What `main_call0_call0_call0_v114` holds at the point `val0_6`. -/
theorem val0_6_main_call0_call0_call0_v114 (V0 : Valuation τ sig (Elt F)) : val0_6 V0 (no_index (Proc.devRef .tc main_call0_call0_call0_v114)) = res_main_call0_call0_call0_v114 V0 := by
  unfold val0_6
  simp only [ops_5, TRef.binary, TRef.nullary, TRef.unary, TRef.toBuf, TRef.ofBuf, cast_eq]
  after_results_simp
  simp only [val0_5_main_call0_call0_v7, val0_5_main_call0_call0_call0_c_23, val0_5_main_call0_call0_call0_v87, val0_5_main_call0_call0_call0_v90, val0_5_main_call0_call0_call0_v88, val0_5_main_call0_call0_v5] <;> rfl
set_option maxRecDepth 8192 in
set_option maxHeartbeats 2000000 in
/-- What `main_call0_call0_call0_v115` holds at the point `val0_6`. -/
theorem val0_6_main_call0_call0_call0_v115 (V0 : Valuation τ sig (Elt F)) : val0_6 V0 (no_index (Proc.devRef .tc main_call0_call0_call0_v115)) = res_main_call0_call0_call0_v115 V0 := by
  unfold val0_6
  simp only [ops_5, TRef.binary, TRef.nullary, TRef.unary, TRef.toBuf, TRef.ofBuf, cast_eq]
  after_results_simp
  simp only [val0_5_main_call0_call0_v7, val0_5_main_call0_call0_call0_c_23, val0_5_main_call0_call0_call0_v87, val0_5_main_call0_call0_call0_v90, val0_5_main_call0_call0_call0_v88, val0_5_main_call0_call0_v5] <;> rfl

/-- The device's buffer contents after @main's first 210 operations. -/
def val0_7 (V0 : Valuation τ sig (Elt F)) : Valuation τ sig (Elt F) := after ops_6 (val0_6 V0)
/-- The buffers that window `ops_6`'s operations write. -/
abbrev ops_6_W : List (Ref sig .tc) := [main_call0_call0_call0_c_29, main_call0_call0_call0_v116, main_call0_call0_call0_v117, main_call0_call0_call0_c_30, main_call0_call0_call0_v118, main_call0_call0_call0_v119, main_call0_call0_call0_v120, main_call0_call0_call0_v121, main_call0_call0_call0_v122, main_call0_call0_call0_c_31, main_call0_call0_call0_v123, main_call0_call0_call0_v124, main_call0_call0_call0_c_32, main_call0_call0_call0_v125, main_call0_call0_call0_v126, main_call0_call0_call0_v127, main_call0_call0_call0_v128, main_call0_call0_call0_v129, main_call0_call0_call0_c_33, main_call0_call0_call0_v130, main_call0_call0_call0_v131, main_call0_call0_call0_c_34, main_call0_call0_call0_v132, main_call0_call0_call0_v133, main_call0_call0_call0_v134, main_call0_call0_call0_v135, main_call0_call0_call0_v136, main_call0_call0_call0_v137, main_call0_call0_call0_v138, main_call0_call0_call0_v139]
set_option maxRecDepth 8192 in
/-- Each operation of `ops_6` writes one of the buffers listed in `ops_6_W`. -/
theorem ops_6_writes : (ops_6 : List (HloOp τ sig (Elt F))).Forall fun op => op.writes ⊆ (ops_6_W.map (Proc.devRef (τ := τ) .tc)).toFinset :=
  forall_writes_sub_of_map rfl
/-- A buffer that window `ops_6` does not write keeps its contents through it. -/
theorem val0_7_keep (V0 : Valuation τ sig (Elt F)) (r : Ref sig .tc) (h : r ∉ ops_6_W) :
    val0_7 V0 (Proc.devRef .tc r) = val0_6 V0 (Proc.devRef .tc r) :=
  after_of_writes_sub ops_6 _ ops_6_writes h
/-- What `main_arg0` holds at the point `val0_7`. -/
theorem val0_7_main_arg0 (V0 : Valuation τ sig (Elt F)) : val0_7 V0 (no_index (Proc.devRef .tc main_arg0)) = V0 (Proc.devRef .tc main_arg0) :=
  (val0_7_keep V0 main_arg0 (by decide)).trans (val0_6_main_arg0 V0)
/-- What `main_call0_call0_v2` holds at the point `val0_7`. -/
theorem val0_7_main_call0_call0_v2 (V0 : Valuation τ sig (Elt F)) : val0_7 V0 (no_index (Proc.devRef .tc main_call0_call0_v2)) = res_main_call0_call0_v2 V0 :=
  (val0_7_keep V0 main_call0_call0_v2 (by decide)).trans (val0_6_main_call0_call0_v2 V0)
/-- What `main_call0_call0_v3` holds at the point `val0_7`. -/
theorem val0_7_main_call0_call0_v3 (V0 : Valuation τ sig (Elt F)) : val0_7 V0 (no_index (Proc.devRef .tc main_call0_call0_v3)) = broadcastInDim S1x1 ![] bcast_S_S1x1 (id (constant S_ .f32 0x3F800000#32)) :=
  (val0_7_keep V0 main_call0_call0_v3 (by decide)).trans (val0_6_main_call0_call0_v3 V0)
/-- What `main_call0_call0_v5` holds at the point `val0_7`. -/
theorem val0_7_main_call0_call0_v5 (V0 : Valuation τ sig (Elt F)) : val0_7 V0 (no_index (Proc.devRef .tc main_call0_call0_v5)) = res_main_call0_call0_v5 V0 :=
  (val0_7_keep V0 main_call0_call0_v5 (by decide)).trans (val0_6_main_call0_call0_v5 V0)
/-- What `main_call0_call0_call0_v1` holds at the point `val0_7`. -/
theorem val0_7_main_call0_call0_call0_v1 (V0 : Valuation τ sig (Elt F)) : val0_7 V0 (no_index (Proc.devRef .tc main_call0_call0_call0_v1)) = res_main_call0_call0_call0_v1 V0 :=
  (val0_7_keep V0 main_call0_call0_call0_v1 (by decide)).trans (val0_6_main_call0_call0_call0_v1 V0)
set_option maxRecDepth 8192 in
set_option maxHeartbeats 2000000 in
/-- What `main_call0_call0_call0_v137` holds at the point `val0_7`. -/
theorem val0_7_main_call0_call0_call0_v137 (V0 : Valuation τ sig (Elt F)) : val0_7 V0 (no_index (Proc.devRef .tc main_call0_call0_call0_v137)) = addi (res_main_call0_call0_call0_v129 V0) (broadcastInDim S128x100000 ![] bcast_S_S128x100000 (res_main_call0_call0_v7 V0)) := by
  unfold val0_7
  simp only [ops_6, TRef.binary, TRef.nullary, TRef.unary, TRef.toBuf, TRef.ofBuf, cast_eq]
  after_results_simp
  simp only [val0_6_main_call0_call0_v7, val0_6_main_call0_call0_call0_v114, val0_6_main_call0_call0_call0_v115] <;> rfl
set_option maxRecDepth 8192 in
set_option maxHeartbeats 2000000 in
/-- What `main_call0_call0_call0_v139` holds at the point `val0_7`. -/
theorem val0_7_main_call0_call0_call0_v139 (V0 : Valuation τ sig (Elt F)) : val0_7 V0 (no_index (Proc.devRef .tc main_call0_call0_call0_v139)) = addi (xori (res_main_call0_call0_call0_v129 V0) (ori (Host.shli (res_main_call0_call0_call0_v128 V0) (broadcastInDim S128x100000 ![] bcast_S_S128x100000 (constantI S_ 32 24#32))) (Host.shrui (res_main_call0_call0_call0_v128 V0) (broadcastInDim S128x100000 ![] bcast_S_S128x100000 (constantI S_ 32 8#32))))) (broadcastInDim S128x100000 ![] bcast_S_S128x100000 (res_main_call0_call0_call0_v1 V0)) := by
  unfold val0_7
  simp only [ops_6, TRef.binary, TRef.nullary, TRef.unary, TRef.toBuf, TRef.ofBuf, cast_eq]
  after_results_simp
  simp only [val0_6_main_call0_call0_call0_v1, val0_6_main_call0_call0_call0_v114, val0_6_main_call0_call0_call0_v115] <;> rfl

/-- The device's buffer contents after @main's first 240 operations. -/
def val0_8 (V0 : Valuation τ sig (Elt F)) : Valuation τ sig (Elt F) := after ops_7 (val0_7 V0)
/-- The buffers that window `ops_7`'s operations write. -/
abbrev ops_7_W : List (Ref sig .tc) := [main_call0_call0_call0_c_35, main_call0_call0_call0_v140, main_call0_call0_call0_v141, main_call0_call0_call0_v142, main_call0_call0_call0_c_36, main_call0_call0_call0_v143, main_call0_call0_call0_v144, main_call0_call0_call0_c_37, main_call0_call0_call0_v145, main_call0_call0_call0_v146, main_call0_call0_call0_v147, main_call0_call0_call0_v148, main_call0_call0_call0_v149, main_call0_call0_call0_c_38, main_call0_call0_call0_v150, main_call0_call0_call0_v151, main_call0_call0_call0_c_39, main_call0_call0_call0_v152, main_call0_call0_call0_v153, main_call0_call0_call0_v154, main_call0_call0_call0_v155, main_call0_call0_call0_v156, main_call0_call0_call0_c_40, main_call0_call0_call0_v157, main_call0_call0_call0_v158, main_call0_call0_call0_c_41, main_call0_call0_call0_v159, main_call0_call0_call0_v160, main_call0_call0_call0_v161, main_call0_call0_call0_v162]
set_option maxRecDepth 8192 in
/-- Each operation of `ops_7` writes one of the buffers listed in `ops_7_W`. -/
theorem ops_7_writes : (ops_7 : List (HloOp τ sig (Elt F))).Forall fun op => op.writes ⊆ (ops_7_W.map (Proc.devRef (τ := τ) .tc)).toFinset :=
  forall_writes_sub_of_map rfl
/-- A buffer that window `ops_7` does not write keeps its contents through it. -/
theorem val0_8_keep (V0 : Valuation τ sig (Elt F)) (r : Ref sig .tc) (h : r ∉ ops_7_W) :
    val0_8 V0 (Proc.devRef .tc r) = val0_7 V0 (Proc.devRef .tc r) :=
  after_of_writes_sub ops_7 _ ops_7_writes h
/-- What `main_arg0` holds at the point `val0_8`. -/
theorem val0_8_main_arg0 (V0 : Valuation τ sig (Elt F)) : val0_8 V0 (no_index (Proc.devRef .tc main_arg0)) = V0 (Proc.devRef .tc main_arg0) :=
  (val0_8_keep V0 main_arg0 (by decide)).trans (val0_7_main_arg0 V0)
/-- What `main_call0_call0_v2` holds at the point `val0_8`. -/
theorem val0_8_main_call0_call0_v2 (V0 : Valuation τ sig (Elt F)) : val0_8 V0 (no_index (Proc.devRef .tc main_call0_call0_v2)) = res_main_call0_call0_v2 V0 :=
  (val0_8_keep V0 main_call0_call0_v2 (by decide)).trans (val0_7_main_call0_call0_v2 V0)
/-- What `main_call0_call0_v3` holds at the point `val0_8`. -/
theorem val0_8_main_call0_call0_v3 (V0 : Valuation τ sig (Elt F)) : val0_8 V0 (no_index (Proc.devRef .tc main_call0_call0_v3)) = broadcastInDim S1x1 ![] bcast_S_S1x1 (id (constant S_ .f32 0x3F800000#32)) :=
  (val0_8_keep V0 main_call0_call0_v3 (by decide)).trans (val0_7_main_call0_call0_v3 V0)
/-- What `main_call0_call0_v5` holds at the point `val0_8`. -/
theorem val0_8_main_call0_call0_v5 (V0 : Valuation τ sig (Elt F)) : val0_8 V0 (no_index (Proc.devRef .tc main_call0_call0_v5)) = res_main_call0_call0_v5 V0 :=
  (val0_8_keep V0 main_call0_call0_v5 (by decide)).trans (val0_7_main_call0_call0_v5 V0)
/-- What `main_call0_call0_call0_v1` holds at the point `val0_8`. -/
theorem val0_8_main_call0_call0_call0_v1 (V0 : Valuation τ sig (Elt F)) : val0_8 V0 (no_index (Proc.devRef .tc main_call0_call0_call0_v1)) = res_main_call0_call0_call0_v1 V0 :=
  (val0_8_keep V0 main_call0_call0_call0_v1 (by decide)).trans (val0_7_main_call0_call0_call0_v1 V0)
set_option maxRecDepth 8192 in
set_option maxHeartbeats 2000000 in
/-- What `main_call0_call0_call0_v156` holds at the point `val0_8`. -/
theorem val0_8_main_call0_call0_call0_v156 (V0 : Valuation τ sig (Elt F)) : val0_8 V0 (no_index (Proc.devRef .tc main_call0_call0_call0_v156)) = res_main_call0_call0_call0_v156 V0 := by
  unfold val0_8
  simp only [ops_7, TRef.binary, TRef.nullary, TRef.unary, TRef.toBuf, TRef.ofBuf, cast_eq]
  after_results_simp
  simp only [val0_7_main_call0_call0_call0_v139, val0_7_main_call0_call0_call0_v137] <;> rfl
set_option maxRecDepth 8192 in
set_option maxHeartbeats 2000000 in
/-- What `main_call0_call0_call0_v162` holds at the point `val0_8`. -/
theorem val0_8_main_call0_call0_call0_v162 (V0 : Valuation τ sig (Elt F)) : val0_8 V0 (no_index (Proc.devRef .tc main_call0_call0_call0_v162)) = res_main_call0_call0_call0_v162 V0 := by
  unfold val0_8
  simp only [ops_7, TRef.binary, TRef.nullary, TRef.unary, TRef.toBuf, TRef.ofBuf, cast_eq]
  after_results_simp
  simp only [val0_7_main_call0_call0_call0_v139, val0_7_main_call0_call0_call0_v137] <;> rfl

/-- The device's buffer contents after @main's first 270 operations. -/
def val0_9 (V0 : Valuation τ sig (Elt F)) : Valuation τ sig (Elt F) := after ops_8 (val0_8 V0)
/-- The buffers that window `ops_8`'s operations write. -/
abbrev ops_8_W : List (Ref sig .tc) := [main_call0_call0_call0_v163, main_call0_call0_call0_c_42, main_call0_call0_call0_v164, main_call0_call0_call0_v165, main_call0_call0_call0_c_43, main_call0_call0_call0_v166, main_call0_call0_call0_v167, main_call0_call0_call0_v168, main_call0_call0_call0_v169, main_call0_call0_call0_v170, main_call0_call0_v19_0, main_call0_call0_call0_v172, main_call0_call0_call0_v173, main_call0_call0_call0_c_44, main_call0_call0_call0_v174, main_call0_call0_v19_1, main_call0_call0_v20, main_call0_call0_c_2, main_call0_call0_v21, main_call0_call0_v22, main_call0_call0_c_3, main_call0_call0_v23, main_call0_call0_v24, main_call0_call0_v25, main_call0_call0_cst, main_call0_call0_v26, main_call0_call0_v27, main_call0_call0_v28, main_call0_call0_v29, main_call0_call0_v30]
set_option maxRecDepth 8192 in
/-- Each operation of `ops_8` writes one of the buffers listed in `ops_8_W`. -/
theorem ops_8_writes : (ops_8 : List (HloOp τ sig (Elt F))).Forall fun op => op.writes ⊆ (ops_8_W.map (Proc.devRef (τ := τ) .tc)).toFinset :=
  forall_writes_sub_of_map rfl
/-- A buffer that window `ops_8` does not write keeps its contents through it. -/
theorem val0_9_keep (V0 : Valuation τ sig (Elt F)) (r : Ref sig .tc) (h : r ∉ ops_8_W) :
    val0_9 V0 (Proc.devRef .tc r) = val0_8 V0 (Proc.devRef .tc r) :=
  after_of_writes_sub ops_8 _ ops_8_writes h
/-- What `main_arg0` holds at the point `val0_9`. -/
theorem val0_9_main_arg0 (V0 : Valuation τ sig (Elt F)) : val0_9 V0 (no_index (Proc.devRef .tc main_arg0)) = V0 (Proc.devRef .tc main_arg0) :=
  (val0_9_keep V0 main_arg0 (by decide)).trans (val0_8_main_arg0 V0)
/-- What `main_call0_call0_v2` holds at the point `val0_9`. -/
theorem val0_9_main_call0_call0_v2 (V0 : Valuation τ sig (Elt F)) : val0_9 V0 (no_index (Proc.devRef .tc main_call0_call0_v2)) = res_main_call0_call0_v2 V0 :=
  (val0_9_keep V0 main_call0_call0_v2 (by decide)).trans (val0_8_main_call0_call0_v2 V0)
set_option maxRecDepth 8192 in
set_option maxHeartbeats 2000000 in
/-- What `main_call0_call0_v30` holds at the point `val0_9`. -/
theorem val0_9_main_call0_call0_v30 (V0 : Valuation τ sig (Elt F)) : val0_9 V0 (no_index (Proc.devRef .tc main_call0_call0_v30)) = mulf (subf (bitcastToFloat (F := F) .f32 (ori (Host.shrui (xori (addi (res_main_call0_call0_call0_v163 V0) (broadcastInDim S128x100000 ![] bcast_S_S128x100000 (res_main_call0_call0_call0_v1 V0))) (addi (addi (xori (res_main_call0_call0_call0_v163 V0) (ori (Host.shli (res_main_call0_call0_call0_v162 V0) (broadcastInDim S128x100000 ![] bcast_S_S128x100000 (constantI S_ 32 6#32))) (Host.shrui (res_main_call0_call0_call0_v162 V0) (broadcastInDim S128x100000 ![] bcast_S_S128x100000 (constantI S_ 32 26#32))))) (broadcastInDim S128x100000 ![] bcast_S_S128x100000 (res_main_call0_call0_v5 V0))) (broadcastInDim S128x100000 ![] bcast_S_S128x100000 (constantI S_ 32 5#32)))) (broadcastInDim S128x100000 ![] bcast_S_S128x100000 (constantI S_ 32 9#32))) (broadcastInDim S128x100000 ![] bcast_S_S128x100000 (constantI S_ 32 1065353216#32)))) (broadcastInDim S128x100000 ![] bcast_S_S128x100000 (constant S_ .f32 0x3F800000#32))) (broadcastInDim S128x100000 ![0, 1] bcast_S1x1_S128x100000_0_1 (subf (broadcastInDim S1x1 ![] bcast_S_S1x1 (id (constant S_ .f32 0x3F800000#32))) (res_main_call0_call0_v2 V0))) := by
  unfold val0_9
  simp only [ops_8, TRef.binary, TRef.nullary, TRef.unary, TRef.toBuf, TRef.ofBuf, cast_eq]
  after_results_simp
  simp only [val0_8_main_call0_call0_v2, val0_8_main_call0_call0_v3, val0_8_main_call0_call0_v5, val0_8_main_call0_call0_call0_v162, val0_8_main_call0_call0_call0_v156, val0_8_main_call0_call0_call0_v1] <;> rfl

/-- The device's buffer contents after @main's 297 operations. -/
def val1 (V0 : Valuation τ sig (Elt F)) : Valuation τ sig (Elt F) := after ops_9 (val0_9 V0)
/-- The buffers that window `ops_9`'s operations write. -/
abbrev ops_9_W : List (Ref sig .tc) := [main_call0_call0_v31, main_call0_call0_v32, main_call0_call0_v33, main_call0_v0, main_call0_v1, main_call0_v2, main_v7, main_v8, main_v9, main_v10, main_cst, main_v11, main_v12, main_v13, main_v14, main_cst_2, main_v15, main_v16, main_cst_3, main_v17, main_v18, main_cst_4, main_v19, main_v20, main_v21, main_v22, main_v23]
set_option maxRecDepth 8192 in
/-- Each operation of `ops_9` writes one of the buffers listed in `ops_9_W`. -/
theorem ops_9_writes : (ops_9 : List (HloOp τ sig (Elt F))).Forall fun op => op.writes ⊆ (ops_9_W.map (Proc.devRef (τ := τ) .tc)).toFinset :=
  forall_writes_sub_of_map rfl
/-- A buffer that window `ops_9` does not write keeps its contents through it. -/
theorem val1_keep (V0 : Valuation τ sig (Elt F)) (r : Ref sig .tc) (h : r ∉ ops_9_W) :
    val1 V0 (Proc.devRef .tc r) = val0_9 V0 (Proc.devRef .tc r) :=
  after_of_writes_sub ops_9 _ ops_9_writes h
/-- What `main_arg0` holds at the point `val1`. -/
theorem val1_main_arg0 (V0 : Valuation τ sig (Elt F)) : val1 V0 (no_index (Proc.devRef .tc main_arg0)) = V0 (Proc.devRef .tc main_arg0) :=
  (val1_keep V0 main_arg0 (by decide)).trans (val0_9_main_arg0 V0)
set_option maxRecDepth 8192 in
set_option maxHeartbeats 2000000 in
/-- What `main_v23` holds at the point `val1`. -/
theorem val1_main_v23 (V0 : Valuation τ sig (Elt F)) : val1 V0 (no_index (Proc.devRef .tc main_v23)) = addf (subf (uitofp .f32 (cmpf .ogt (res_main_v18 V0) (broadcastInDim S128x100000 ![] bcast_S_S128x100000 (constant S_ .f32 0x3F000000#32)))) (res_main_v18 V0)) (res_main_v18 V0) := by
  unfold val1
  simp only [ops_9, TRef.binary, TRef.unary, TRef.toBuf, TRef.ofBuf, cast_eq]
  after_results_simp
  simp only [val0_9_main_call0_call0_v2, val0_9_main_call0_call0_v30, val0_9_main_arg0] <;> rfl

/-- The contents after all operations are the contents after the last group. -/
theorem after_ops (V0 : Valuation τ sig (Elt F)) : after ops V0 = val1 V0 := by
  simp only [ops, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23) = addf (subf (uitofp .f32 (cmpf .ogt (res_main_v18 (launchContents m c)) (broadcastInDim S128x100000 ![] bcast_S_S128x100000 (constant S_ .f32 0x3F000000#32)))) (res_main_v18 (launchContents m c))) (res_main_v18 (launchContents m c))
      ∧ r.2.mem ((c.tc : Thread nD τ).loc main_arg0) = m ((c.tc : Thread nD τ).loc main_arg0) :=
  (θ_run defs _ _).mono (fun _ h c => ⟨(h c main_v23).trans ((congrFun (after_ops (launchContents m c)) (Proc.devRef .tc main_v23)).trans (val1_main_v23 (launchContents m c))),
      (h c main_arg0).trans ((congrFun (after_ops (launchContents m c)) (Proc.devRef .tc main_arg0)).trans (val1_main_arg0 (launchContents m c)))⟩)
    (run_seq scopedRefs_eq scopedSems_eq defs main (fun _ => ops) main_eq (fun _ => ops_sub) m ρ fun _ => ops_fresh)

end Cert.ReferenceIdeal.Value

end

end
-- ==== Proof.RefValue.lean ====
module

public import proofs.«01_k».proof.Proof.RefTerms
public import proofs.«01_k».proof.Proof.Word
public import proofs.«01_k».proof.Proof.Sample
public import Idealize.ShloMosaic.Lib.ValueLayout
public import Idealize.ShloMosaic.Lib.Pipeline.Value

/-!
# The reference's result, entry by entry

The entry at `(i, j)` of the reference's result is `Sample.referenceEl` of the float of the random word of position
`100000 i + j` and of the logit at `(i, j)`. The reference's integer arrays are followed through the cipher's rounds at
one index; the scalar state is that of `Word`.
-/

@[expose] public section

noncomputable section

namespace Cert.ReferenceIdeal.Value

open Cert.ReferenceIdeal Cert.ReferenceIdeal.Gen Cert.Word
open Idealize.ShloMosaic Idealize.ShloMosaic.TcCoe Idealize.ShloMosaic.StableHlo Idealize.ShloMosaic.ValueIdx

variable {F : FTy → Type} [FloatOps F]

/-- An entry of an integer array of the result's shape. -/
abbrev ent (x : IVec S128x100000 32) (i : S128x100000.Idx) : BitVec 32 := x i
/-- An entry of a 64-bit array of the result's shape. -/
abbrev ent64 (x : IVec S128x100000 64) (i : S128x100000.Idx) : BitVec 64 := x i
/-- The entry of an integer scalar. -/
abbrev sca (x : IVec S_ 32) (j : S_.Idx) : BitVec 32 := x j

/-! ## The key -/

/-- A one-word slice of a pair of words at `0`, as a scalar. -/
theorem slice0_at (x : IVec S2 32) (c : BitVec 32) (hx : ∀ k : S2.Idx, (k 0).val = 0 → x k = c) (j : S_.Idx) :
    sca (shapeCast S_ (extractStridedSlice S1 ![0] x slices_S2_S1_0) shapeCasts_S1_S_) j = c := by
  have hl : ∀ u : Fin 1, 0 + u.val = 0 := fun u => by omega
  exact hx _ (hl _)
/-- A one-word slice of a pair of words at `1`, as a scalar. -/
theorem slice1_at (x : IVec S2 32) (c : BitVec 32) (hx : ∀ k : S2.Idx, (k 0).val = 1 → x k = c) (j : S_.Idx) :
    sca (shapeCast S_ (extractStridedSlice S1 ![1] x slices_S2_S1_1) shapeCasts_S1_S_) j = c := by
  have hl : ∀ u : Fin 1, 1 + u.val = 1 := fun u => by omega
  exact hx _ (hl _)

/-- A pair made of two one-word vectors holds the first at `0`. -/
theorem pair0_at (x y : IVec S1 32) (k : S2.Idx) (hk : (k 0).val = 0) :
    concatenate S2 0 [⟨S1, x⟩, ⟨S1, y⟩] concatenates_S1_S1_S2_d0 k = x (ix1 (0 : Fin 1)) :=
  concatenate_pair_apply_left 0 x y concatenates_S1_S1_S2_d0 k rfl (ix1 (0 : Fin 1)) fun b => by
    match b with
    | ⟨0, _⟩ => exact hk.symm
/-- A pair made of two one-word vectors holds the second at `1`. -/
theorem pair1_at (x y : IVec S1 32) (k : S2.Idx) (hk : (k 0).val = 1) :
    concatenate S2 0 [⟨S1, x⟩, ⟨S1, y⟩] concatenates_S1_S1_S2_d0 k = y (ix1 (0 : Fin 1)) :=
  concatenate_pair_apply_right 0 x y concatenates_S1_S1_S2_d0 k rfl rfl (ix1 (0 : Fin 1))
    (fun b hb => by
      match b with
      | ⟨0, _⟩ => exact absurd rfl hb)
    hk.symm

/-- The key's first word: the upper half of the seed, zero. -/
theorem key0_at (V0 : Valuation τ sig (Elt F)) (j : S_.Idx) : sca (res_main_call0_call0_v5 V0) j = 0#32 :=
  slice0_at (res_main_v6 V0) _ (fun k hk => (pair0_at _ _ k hk).trans rfl) j

/-- The key's second word: the lower half of the seed, 42. -/
theorem key1_at (V0 : Valuation τ sig (Elt F)) (j : S_.Idx) : sca (res_main_call0_call0_v7 V0) j = 42#32 :=
  slice1_at (res_main_v6 V0) 42#32 (fun k hk => (pair1_at _ _ k hk).trans (show IntOp.andi 42#32 4294967295#32 = 42#32 by decide)) j

/-- The key's third word: the parity word xored with the other two. -/
theorem key2_at (V0 : Valuation τ sig (Elt F)) (j : S_.Idx) :
    sca (res_main_call0_call0_call0_v1 V0) j = 466689008#32 := by
  show IntOp.xori (IntOp.xori (sca (res_main_call0_call0_v5 V0) j) (sca (res_main_call0_call0_v7 V0) j)) 466688986#32 = _
  rw [key0_at, key1_at]; rfl

/-! ## The counter -/

/-- The 64-bit counter of a position. -/
theorem count64_at (V0 : Valuation τ sig (Elt F)) (i : S128x100000.Idx) :
    ent64 (res_main_call0_call0_v14 V0) i = BitVec.ofNat 64 ((i 0).val * 100000 + (i 1).val) := by
  have h : ent64 (res_main_call0_call0_v14 V0) i
      = 100000#64 * BitVec.ofNat 64 (i 0).val + 1#64 * BitVec.ofNat 64 (i 1).val := rfl
  rw [h, BitVec.ofNat_add, BitVec.ofNat_mul, BitVec.one_mul, BitVec.mul_comm]

/-- The lower half of the counter. -/
theorem low_at (V0 : Valuation τ sig (Elt F)) (i : S128x100000.Idx) :
    (ent64 (res_main_call0_call0_v14 V0) i).setWidth 32 = counter (i 0).val (i 1).val := by
  rw [count64_at, BitVec.setWidth_ofNat_of_le (by decide)]; rfl

/-- The upper half of the counter is zero: there are fewer than `2 ^ 32` positions. -/
theorem high_at (V0 : Valuation τ sig (Elt F)) (i : S128x100000.Idx) :
    (IntOp.shrui .host (ent64 (res_main_call0_call0_v14 V0) i) 32#64).setWidth 32 = 0#32 := by
  have h0 := (i 0).isLt
  have h1 := (i 1).isLt
  change (i 0).val < 128 at h0
  change (i 1).val < 100000 at h1
  have hs : ∀ y : BitVec 64, IntOp.shrui .host y 32#64 = y >>> 32#64 := fun y => if_pos (by decide)
  have ht : ((i 0).val * 100000 + (i 1).val) < 2 ^ 32 := by omega
  rw [count64_at, hs]
  apply BitVec.eq_of_toNat_eq
  rw [BitVec.toNat_setWidth, BitVec.ushiftRight_eq', BitVec.toNat_ushiftRight, BitVec.toNat_ofNat]
  rw [Nat.mod_eq_of_lt (lt_trans ht (by norm_num)), Nat.shiftRight_eq_div_pow]
  have : ((i 0).val * 100000 + (i 1).val) / 2 ^ (BitVec.toNat 32#64) = 0 := Nat.div_eq_of_lt ht
  rw [this]; rfl

/-! ## The rounds -/

/-- Adding a key word and then a number adds their sum. -/
theorem inject_at {z w k k' e d : BitVec 32} (h : z = w) (hk : k = k') (hd : k' + e = d) : (z + k) + e = w + d := by
  subst h hk hd; exact BitVec.add_assoc _ _ _

/-- Before the first round. -/
theorem start_at (V0 : Valuation τ sig (Elt F)) (i : S128x100000.Idx) :
    At (ent (res_main_call0_call0_call0_v6 V0) i) (ent (res_main_call0_call0_call0_v5 V0) i) (state0 (counter (i 0).val (i 1).val)) := by
  have h5 : (ent (res_main_call0_call0_call0_v5 V0) i) = (counter (i 0).val (i 1).val) + 42#32 := by
    exact congrArg₂ (· + ·) (low_at V0 i) (key1_at V0 _)
  refine ⟨?_, h5⟩
  exact congrArg₂ (· + ·) ((congrArg₂ (· + ·) (high_at V0 i) (key0_at V0 _)).trans (BitVec.zero_add _)) h5

/-- The first four rounds and their injection. -/
theorem group1_at (V0 : Valuation τ sig (Elt F)) (i : S128x100000.Idx)
    (h : At (ent (res_main_call0_call0_call0_v6 V0) i) (ent (res_main_call0_call0_call0_v5 V0) i) (state0 (counter (i 0).val (i 1).val))) :
    At (ent (res_main_call0_call0_call0_v40 V0) i) (ent (res_main_call0_call0_call0_v39 V0) i) (state1 (counter (i 0).val (i 1).val)) := by
  have h1 : At (ent (res_main_call0_call0_call0_v13 V0) i) (ent (res_main_call0_call0_call0_v12 V0) i) _ := h.next (a := 13#32) (b := 19#32)
    (mix .host (ent (res_main_call0_call0_call0_v6 V0) i) (ent (res_main_call0_call0_call0_v5 V0) i) 13#32 19#32 (by decide) (by decide)) rfl
  have h2 : At (ent (res_main_call0_call0_call0_v20 V0) i) (ent (res_main_call0_call0_call0_v19 V0) i) _ := h1.next (a := 15#32) (b := 17#32)
    (mix .host (ent (res_main_call0_call0_call0_v13 V0) i) (ent (res_main_call0_call0_call0_v12 V0) i) 15#32 17#32 (by decide) (by decide)) rfl
  have h3 : At (ent (res_main_call0_call0_call0_v27 V0) i) (ent (res_main_call0_call0_call0_v26 V0) i) _ := h2.next (a := 26#32) (b := 6#32)
    (mix .host (ent (res_main_call0_call0_call0_v20 V0) i) (ent (res_main_call0_call0_call0_v19 V0) i) 26#32 6#32 (by decide) (by decide)) rfl
  have h4 : At (ent (res_main_call0_call0_call0_v40 V0) i) (ent (res_main_call0_call0_call0_v39 V0) i) _ := h3.inject (a := 6#32) (b := 26#32) (c := 42#32) (d := 466689009#32)
    (inject_at (mix .host (ent (res_main_call0_call0_call0_v27 V0) i) (ent (res_main_call0_call0_call0_v26 V0) i) 6#32 26#32 (by decide) (by decide)) (key2_at V0 _) rfl)
    (congrArg (fun z => ((ent (res_main_call0_call0_call0_v27 V0) i) + z) + (ent (res_main_call0_call0_call0_v39 V0) i)) (key1_at V0 _))
  exact h4

/-- The second four rounds and their injection. -/
theorem group2_at (V0 : Valuation τ sig (Elt F)) (i : S128x100000.Idx)
    (h : At (ent (res_main_call0_call0_call0_v40 V0) i) (ent (res_main_call0_call0_call0_v39 V0) i) (state1 (counter (i 0).val (i 1).val))) :
    At (ent (res_main_call0_call0_call0_v74 V0) i) (ent (res_main_call0_call0_call0_v73 V0) i) (state2 (counter (i 0).val (i 1).val)) := by
  have h1 : At (ent (res_main_call0_call0_call0_v47 V0) i) (ent (res_main_call0_call0_call0_v46 V0) i) _ := h.next (a := 17#32) (b := 15#32)
    (mix .host (ent (res_main_call0_call0_call0_v40 V0) i) (ent (res_main_call0_call0_call0_v39 V0) i) 17#32 15#32 (by decide) (by decide)) rfl
  have h2 : At (ent (res_main_call0_call0_call0_v54 V0) i) (ent (res_main_call0_call0_call0_v53 V0) i) _ := h1.next (a := 29#32) (b := 3#32)
    (mix .host (ent (res_main_call0_call0_call0_v47 V0) i) (ent (res_main_call0_call0_call0_v46 V0) i) 29#32 3#32 (by decide) (by decide)) rfl
  have h3 : At (ent (res_main_call0_call0_call0_v61 V0) i) (ent (res_main_call0_call0_call0_v60 V0) i) _ := h2.next (a := 16#32) (b := 16#32)
    (mix .host (ent (res_main_call0_call0_call0_v54 V0) i) (ent (res_main_call0_call0_call0_v53 V0) i) 16#32 16#32 (by decide) (by decide)) rfl
  have h4 : At (ent (res_main_call0_call0_call0_v74 V0) i) (ent (res_main_call0_call0_call0_v73 V0) i) _ := h3.inject (a := 24#32) (b := 8#32) (c := 466689008#32) (d := 2#32)
    (inject_at (mix .host (ent (res_main_call0_call0_call0_v61 V0) i) (ent (res_main_call0_call0_call0_v60 V0) i) 24#32 8#32 (by decide) (by decide)) (key0_at V0 _) rfl)
    (congrArg (fun z => ((ent (res_main_call0_call0_call0_v61 V0) i) + z) + (ent (res_main_call0_call0_call0_v73 V0) i)) (key2_at V0 _))
  exact h4

/-- The third four rounds and their injection. -/
theorem group3_at (V0 : Valuation τ sig (Elt F)) (i : S128x100000.Idx)
    (h : At (ent (res_main_call0_call0_call0_v74 V0) i) (ent (res_main_call0_call0_call0_v73 V0) i) (state2 (counter (i 0).val (i 1).val))) :
    At (ent (res_main_call0_call0_call0_v108 V0) i) (ent (res_main_call0_call0_call0_v107 V0) i) (state3 (counter (i 0).val (i 1).val)) := by
  have h1 : At (ent (res_main_call0_call0_call0_v81 V0) i) (ent (res_main_call0_call0_call0_v80 V0) i) _ := h.next (a := 13#32) (b := 19#32)
    (mix .host (ent (res_main_call0_call0_call0_v74 V0) i) (ent (res_main_call0_call0_call0_v73 V0) i) 13#32 19#32 (by decide) (by decide)) rfl
  have h2 : At (ent (res_main_call0_call0_call0_v88 V0) i) (ent (res_main_call0_call0_call0_v87 V0) i) _ := h1.next (a := 15#32) (b := 17#32)
    (mix .host (ent (res_main_call0_call0_call0_v81 V0) i) (ent (res_main_call0_call0_call0_v80 V0) i) 15#32 17#32 (by decide) (by decide)) rfl
  have h3 : At (ent (res_main_call0_call0_call0_v95 V0) i) (ent (res_main_call0_call0_call0_v94 V0) i) _ := h2.next (a := 26#32) (b := 6#32)
    (mix .host (ent (res_main_call0_call0_call0_v88 V0) i) (ent (res_main_call0_call0_call0_v87 V0) i) 26#32 6#32 (by decide) (by decide)) rfl
  have h4 : At (ent (res_main_call0_call0_call0_v108 V0) i) (ent (res_main_call0_call0_call0_v107 V0) i) _ := h3.inject (a := 6#32) (b := 26#32) (c := 0#32) (d := 45#32)
    (inject_at (mix .host (ent (res_main_call0_call0_call0_v95 V0) i) (ent (res_main_call0_call0_call0_v94 V0) i) 6#32 26#32 (by decide) (by decide)) (key1_at V0 _) rfl)
    (congrArg (fun z => ((ent (res_main_call0_call0_call0_v95 V0) i) + z) + (ent (res_main_call0_call0_call0_v107 V0) i)) (key0_at V0 _))
  exact h4

/-- The fourth four rounds and their injection. -/
theorem group4_at (V0 : Valuation τ sig (Elt F)) (i : S128x100000.Idx)
    (h : At (ent (res_main_call0_call0_call0_v108 V0) i) (ent (res_main_call0_call0_call0_v107 V0) i) (state3 (counter (i 0).val (i 1).val))) :
    At (ent (res_main_call0_call0_call0_v142 V0) i) (ent (res_main_call0_call0_call0_v141 V0) i) (state4 (counter (i 0).val (i 1).val)) := by
  have h1 : At (ent (res_main_call0_call0_call0_v115 V0) i) (ent (res_main_call0_call0_call0_v114 V0) i) _ := h.next (a := 17#32) (b := 15#32)
    (mix .host (ent (res_main_call0_call0_call0_v108 V0) i) (ent (res_main_call0_call0_call0_v107 V0) i) 17#32 15#32 (by decide) (by decide)) rfl
  have h2 : At (ent (res_main_call0_call0_call0_v122 V0) i) (ent (res_main_call0_call0_call0_v121 V0) i) _ := h1.next (a := 29#32) (b := 3#32)
    (mix .host (ent (res_main_call0_call0_call0_v115 V0) i) (ent (res_main_call0_call0_call0_v114 V0) i) 29#32 3#32 (by decide) (by decide)) rfl
  have h3 : At (ent (res_main_call0_call0_call0_v129 V0) i) (ent (res_main_call0_call0_call0_v128 V0) i) _ := h2.next (a := 16#32) (b := 16#32)
    (mix .host (ent (res_main_call0_call0_call0_v122 V0) i) (ent (res_main_call0_call0_call0_v121 V0) i) 16#32 16#32 (by decide) (by decide)) rfl
  have h4 : At (ent (res_main_call0_call0_call0_v142 V0) i) (ent (res_main_call0_call0_call0_v141 V0) i) _ := h3.inject (a := 24#32) (b := 8#32) (c := 42#32) (d := 466689012#32)
    (inject_at (mix .host (ent (res_main_call0_call0_call0_v129 V0) i) (ent (res_main_call0_call0_call0_v128 V0) i) 24#32 8#32 (by decide) (by decide)) (key2_at V0 _) rfl)
    (congrArg (fun z => ((ent (res_main_call0_call0_call0_v129 V0) i) + z) + (ent (res_main_call0_call0_call0_v141 V0) i)) (key1_at V0 _))
  exact h4

/-- The seventeenth to nineteenth rounds. -/
theorem group5_at (V0 : Valuation τ sig (Elt F)) (i : S128x100000.Idx)
    (h : At (ent (res_main_call0_call0_call0_v142 V0) i) (ent (res_main_call0_call0_call0_v141 V0) i) (state4 (counter (i 0).val (i 1).val))) :
    At (ent (res_main_call0_call0_call0_v163 V0) i) (ent (res_main_call0_call0_call0_v162 V0) i) (step 26#32 6#32 (step 15#32 17#32 (step 13#32 19#32 (state4 (counter (i 0).val (i 1).val))))) := by
  have h1 : At (ent (res_main_call0_call0_call0_v149 V0) i) (ent (res_main_call0_call0_call0_v148 V0) i) _ := h.next (a := 13#32) (b := 19#32)
    (mix .host (ent (res_main_call0_call0_call0_v142 V0) i) (ent (res_main_call0_call0_call0_v141 V0) i) 13#32 19#32 (by decide) (by decide)) rfl
  have h2 : At (ent (res_main_call0_call0_call0_v156 V0) i) (ent (res_main_call0_call0_call0_v155 V0) i) _ := h1.next (a := 15#32) (b := 17#32)
    (mix .host (ent (res_main_call0_call0_call0_v149 V0) i) (ent (res_main_call0_call0_call0_v148 V0) i) 15#32 17#32 (by decide) (by decide)) rfl
  have h3 : At (ent (res_main_call0_call0_call0_v163 V0) i) (ent (res_main_call0_call0_call0_v162 V0) i) _ := h2.next (a := 26#32) (b := 6#32)
    (mix .host (ent (res_main_call0_call0_call0_v156 V0) i) (ent (res_main_call0_call0_call0_v155 V0) i) 26#32 6#32 (by decide) (by decide)) rfl
  exact h3

/-- The random word of a position: the last round, the last injection, and the xor of the two halves. -/
theorem word_at (V0 : Valuation τ sig (Elt F)) (i : S128x100000.Idx) (j k : S_.Idx) :
    (IntOp.xori ((ent (res_main_call0_call0_call0_v163 V0) i) + sca (res_main_call0_call0_call0_v1 V0) j)
        ((IntOp.xori (ent (res_main_call0_call0_call0_v163 V0) i) (IntOp.ori (IntOp.shli .host (ent (res_main_call0_call0_call0_v162 V0) i) 6#32) (IntOp.shrui .host (ent (res_main_call0_call0_call0_v162 V0) i) 26#32))
          + sca (res_main_call0_call0_v5 V0) k) + 5#32))
      = word (counter (i 0).val (i 1).val) := by
  have h := group5_at V0 i (group4_at V0 i (group3_at V0 i (group2_at V0 i (group1_at V0 i (start_at V0 i)))))
  refine h.last (a := 6#32) (b := 26#32) (c := 466689008#32) (d := 5#32) ?_
  refine congrArg₂ (· ^^^ ·) (congrArg (_ + ·) (key2_at V0 j)) (inject_at (mix .host (ent (res_main_call0_call0_call0_v163 V0) i) (ent (res_main_call0_call0_call0_v162 V0) i) 6#32 26#32 (by decide) (by decide)) (key0_at V0 k) rfl)

/-! ## The sample -/

/-- The number from which the reference makes its noise: the word's float less one, scaled by `1 - 0`, raised by `0`,
    and no less than `0`. -/
def unif (w : BitVec 32) : F .f32 :=
  FloatOps.maximumf (FloatOps.ofBits .f32 0x00000000#32)
    (FloatOps.addf (FloatOps.mulf (FloatOps.subf (FloatOps.ofBits .f32 w) (FloatOps.ofBits .f32 0x3F800000#32))
      (FloatOps.subf (FloatOps.ofBits .f32 0x3F800000#32) (FloatOps.ofBits .f32 0x00000000#32)))
      (FloatOps.ofBits .f32 0x00000000#32))

/-- The sigmoid of the noisy logit, operation by operation. -/
def sigm (x u : F .f32) : F .f32 :=
  FloatOps.hostDivf (FloatOps.ofBits .f32 0x3F800000#32) (FloatOps.addf (FloatOps.ofBits .f32 0x3F800000#32)
    (FloatOps.hostUnary .exp (FloatOps.hostNegf (FloatOps.hostDivf (FloatOps.addf x (FloatOps.hostNegf
      (FloatOps.hostUnary .log (FloatOps.hostNegf (FloatOps.hostUnary .log1p (FloatOps.hostNegf u))))))
      (FloatOps.ofBits .f32 0x3F800000#32)))))

/-- The result array of the reference, in terms of what the program starts from. -/
def resultTerm (V0 : Valuation τ sig (Elt F)) : FVec F S128x100000 .f32 :=
  addf (subf (uitofp .f32 (cmpf .ogt (res_main_v18 V0) (broadcastInDim S128x100000 ![] bcast_S_S128x100000 (constant S_ .f32 0x3F000000#32)))) (res_main_v18 V0)) (res_main_v18 V0)

/-- The sigmoid array at one index. -/
theorem sigm_at (V0 : Valuation τ sig (Elt F)) (i : S128x100000.Idx) :
    (res_main_v18 V0 : FVec F S128x100000 .f32) i
      = sigm ((V0 (Proc.devRef .tc main_arg0) : FVec F S128x100000 .f32) i) (unif (Sample.unitWord (word (counter (i 0).val (i 1).val)))) := by
  have hu : IntOp.ori (IntOp.shrui .host (word (counter (i 0).val (i 1).val)) 9#32) 1065353216#32 = Sample.unitWord (word (counter (i 0).val (i 1).val)) := by
    rw [shrui_lt _ _ 9#32 (by decide)]; rfl
  rw [← hu]
  exact congrArg (fun z => sigm ((V0 (Proc.devRef .tc main_arg0) : FVec F S128x100000 .f32) i)
    (unif (IntOp.ori (IntOp.shrui .host z 9#32) 1065353216#32))) (word_at V0 i _ _)

/-- The result array at one index. -/
theorem result_ops (V0 : Valuation τ sig (Elt F)) (i : S128x100000.Idx) :
    resultTerm V0 i = FloatOps.addf (FloatOps.subf (FloatOps.uitofp .f32
        (FloatOps.cmpf .ogt ((res_main_v18 V0 : FVec F S128x100000 .f32) i) (FloatOps.ofBits .f32 0x3F000000#32)))
        ((res_main_v18 V0 : FVec F S128x100000 .f32) i)) ((res_main_v18 V0 : FVec F S128x100000 .f32) i) := rfl

/-- On the extended reals the sigmoid is `Sample.soft` of `Sample.noisy`. -/
theorem sigm_ideal (w : BitVec 32) (x : EReal) :
    (sigm (F := Ideal) x (unif w) : EReal) = Sample.soft (Sample.noisy (Ideal.ofBits .f32 w) x) := by
  simp only [sigm, unif, Sample.soft, Sample.noisy, Ideal.ofBits_def, Ideal.addf_def, Ideal.subf_def, Ideal.mulf_def,
    Ideal.maximumf_def, Ideal.hostDivf_def, Ideal.hostNegf_def, Ideal.negf_def, Ideal.hostUnary_exp_def, Ideal.hostUnary_log_def,
    Ideal.hostUnary_log1p_def]

/-- The hard choice on extended reals, whatever the threshold. -/
theorem choice_ideal (s t : EReal) :
    (FloatOps.addf (F := Ideal) (φ := .f32) (FloatOps.subf (F := Ideal) (φ := .f32) (FloatOps.uitofp (F := Ideal) .f32
        (FloatOps.cmpf (F := Ideal) (φ := .f32) .ogt s t)) s) s : EReal)
      = ((((Ideal.cmp .ogt s t).toNat : ℝ) : EReal) - s) + s := rfl

/-- The reference's result at any index: the reference's sample of that position's word and that logit. -/
theorem result_at (V0 : Valuation τ sig (Elt Ideal)) (i : S128x100000.Idx) :
    resultTerm (F := Ideal) V0 i
      = Sample.referenceEl (Ideal.ofBits .f32 (Sample.unitWord (word (counter (i 0).val (i 1).val))))
          ((V0 (Proc.devRef .tc main_arg0) : FVec Ideal S128x100000 .f32) i) := by
  rw [result_ops, sigm_at, sigm_ideal]
  exact choice_ideal _ _

end Cert.ReferenceIdeal.Value

end

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.PRun
public import proofs.«01_k».proof.Proof.KRun
public import proofs.«01_k».proof.Proof.KValue
public import proofs.«01_k».proof.Proof.RefRun
public import proofs.«01_k».proof.Proof.RefValue

/-!
# The certificate

The three programs run and leave their argument and their semaphores as they were, and on extended reals the kernel's
result is the reference's. The kernel's run (`KRun`, and `PRun` for the program as printed) gives its result array
entry by entry through `KValue`; the reference's run (`RefRun`) gives its own through `RefValue`; the two entries are
equal by `Sample.sample_eq`.
-/

@[expose] public section

noncomputable section

namespace Cert.Proof

open Idealize.ShloMosaic Idealize.ShloMosaic.TcCoe Idealize.ShloMosaic.StableHlo Idealize.ShloMosaic.ValueIdx Idealize.SL.Sem

/-- The kernel as printed runs, its argument ends unchanged and its semaphores end at zero. -/
theorem frame_kernel : Cert.quiescent_Kernel := fun m ρ _ =>
  (θ_run Cert.Kernel.defs _ _).mono (fun _ h => ⟨fun c => (h.1 c).2, h.2⟩) (Cert.Kernel.Hand.run (F := Bits) m ρ)

/-- The kernel on extended reals runs, its argument ends unchanged and its semaphores end at zero. -/
theorem frame_ideal : Cert.quiescent_KernelIdeal := fun m ρ _ =>
  (θ_run Cert.KernelIdeal.defs _ _).mono (fun _ h => ⟨fun c => (h.1 c).2, h.2⟩) (Cert.KernelIdeal.Hand.run (F := Ideal) m ρ)

/-- The reference runs and its argument ends unchanged; it declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The reference's result array is the kernel's, when both start from the same logits. -/
theorem result_eq (V0 : Valuation Cert.ReferenceIdeal.τ Cert.ReferenceIdeal.sig (Elt Ideal))
    (A : FVec Ideal Cert.KernelIdeal.S128x100000 .f32)
    (h : (V0 (Proc.devRef .tc Cert.ReferenceIdeal.main_arg0) : FVec Ideal Cert.ReferenceIdeal.S128x100000 .f32) = A) :
    (Cert.ReferenceIdeal.Value.resultTerm (F := Ideal) V0 : FVec Ideal Cert.KernelIdeal.S128x100000 .f32)
      = Cert.KernelIdeal.Hand.GB (F := Ideal) A := by
  funext i
  obtain ⟨r, q, rfl⟩ : ∃ (r : Fin 128) (q : Fin 100000), i = ix2 r q := ⟨i 0, i 1, eq_ix2 i⟩
  refine (Cert.ReferenceIdeal.Value.result_at V0 (ix2 r q)).trans ?_
  rw [h, Cert.Sample.sample_eq]
  exact (Cert.KernelIdeal.Hand.GB_at A r q).symm

/-- From the same logits the kernel and the reference end with equal results, as extended reals. -/
theorem algebraic : Cert.algebraic_KernelIdeal_ReferenceIdeal := by
  intro m ρ m' ρ' _ hagree
  refine ⟨fun c => Cert.KernelIdeal.Hand.GB (F := Ideal) (m (Cert.KernelIdeal.Hand.aL c)),
    (θ_run Cert.KernelIdeal.defs _ _).mono (fun _ h c => h.1 c) (Cert.KernelIdeal.Hand.run (F := Ideal) m ρ),
    (θ_run Cert.ReferenceIdeal.defs _ _).mono (fun _ h c => ⟨(h c).1.trans ?_, (h c).2⟩)
      (Cert.ReferenceIdeal.Value.run (F := Ideal) m' ρ')⟩
  exact result_eq (launchContents m' c) (m (Cert.KernelIdeal.Hand.aL c)) (hagree c)

/-- The certificate's claim: the three frames, the sanctioned idealization, and the equality of the results. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
